-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_admissible [hPre_admissible : Cert.Pre_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible [hPre_admissible : Cert.Pre_admissible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_admissible [hKernelIdeal : Cert.KernelIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admissible m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_admissible [hReferenceIdeal : Cert.ReferenceIdeal.Facts] [hPre_admissible : Cert.Pre_admissible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_admissible [hKernelIdeal : Cert.KernelIdeal.Facts] [hReferenceIdeal : Cert.ReferenceIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admissible m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts) (hPre_admissible : Cert.Pre_admissible.Facts),
    quiescent_Kernel (hKernel := hKernel) (hPre_in_range := hPre_in_range)
    ∧ quiescent_KernelIdeal (hKernelIdeal := hKernelIdeal) (hPre_in_range := hPre_in_range)
    ∧ quiescent_KernelIdeal_pre_admissible (hKernelIdeal := hKernelIdeal) (hPre_admissible := hPre_admissible)
    ∧ quiescent_ReferenceIdeal (hReferenceIdeal := hReferenceIdeal)
    ∧ quiescent_ReferenceIdeal_pre_admissible (hReferenceIdeal := hReferenceIdeal) (hPre_admissible := hPre_admissible)
    ∧ preserves_Kernel_KernelIdeal
    ∧ algebraic_KernelIdeal_ReferenceIdeal_pre_admissible (hKernelIdeal := hKernelIdeal) (hReferenceIdeal := hReferenceIdeal) (hPre_admissible := hPre_admissible)
-- ==== Pre_admissible.lean ====
abbrev S64x64x64x64 : Shape := ⟨4, ![64, 64, 64, 64]⟩
abbrev S64x4096x64 : Shape := ⟨3, ![64, 4096, 64]⟩
abbrev S64x24x64 : Shape := ⟨3, ![64, 24, 64]⟩
abbrev S64x8x64 : Shape := ⟨3, ![64, 8, 64]⟩
abbrev S_ : Shape := ⟨0, ![]⟩

class Facts : Prop where
  bcast_S_S64x24x64 : S_.BroadcastsInDim S64x24x64 (![] : Fin 0 → Fin S64x24x64.rank)
  reducesTo_S64x24x64_S_d0_1_2 : S64x24x64.ReducesTo [0, 1, 2] S_
  h_S_ : 0 < S_.numel
  bcast_S_S64x4096x64 : S_.BroadcastsInDim S64x4096x64 (![] : Fin 0 → Fin S64x4096x64.rank)
  reducesTo_S64x4096x64_S_d0_1_2 : S64x4096x64.ReducesTo [0, 1, 2] S_
  bcast_S_S64x8x64 : S_.BroadcastsInDim S64x8x64 (![] : Fin 0 → Fin S64x8x64.rank)
  reducesTo_S64x8x64_S_d0_1_2 : S64x8x64.ReducesTo [0, 1, 2] S_

variable [Facts]

def fn_part1 {F : FTy → Type} [FloatOps F] (main_v15 : IVec S_ 1) (main_v16 : FVec F S64x8x64 .f32) : IVec S_ 1 :=
  let main_cst_5 : FVec F S_ .f32 := constant S_ .f32 0x7F800000#32
  let main_v17 : FVec F S64x8x64 .f32 := broadcastInDim S64x8x64 ![] bcast_S_S64x8x64 main_cst_5
  let main_v18 : IVec S64x8x64 1 := cmpf .olt main_v16 main_v17
  let main_c_6 : IVec S_ 1 := constantI S_ 1 1#1
  let main_v19 : IVec S_ 1 := (fun x v => Host.reduce IntOp.andi x v reducesTo_S64x8x64_S_d0_1_2 h_S_) main_v18 main_c_6
  let main_v20 : IVec S_ 1 := andi main_v15 main_v19
  main_v20

def fn {F : FTy → Type} [FloatOps F] (main_arg0 : FVec F S64x64x64x64 .f32) (main_arg1 : FVec F S64x4096x64 .f32) (main_arg2 : IVec S64x24x64 32) (main_arg3 : FVec F S64x24x64 .f32) (main_arg4 : FVec F S64x8x64 .f32) : IVec S_ 1 :=
  let main_c : IVec S_ 32 := constantI S_ 32 0#32
  let main_v0 : IVec S64x24x64 32 := broadcastInDim S64x24x64 ![] bcast_S_S64x24x64 main_c
  let main_v1 : IVec S64x24x64 1 := cmpi .sge main_arg2 main_v0
  let main_c_0 : IVec S_ 32 := constantI S_ 32 4096#32
  let main_v2 : IVec S64x24x64 32 := broadcastInDim S64x24x64 ![] bcast_S_S64x24x64 main_c_0
  let main_v3 : IVec S64x24x64 1 := cmpi .slt main_arg2 main_v2
  let main_v4 : IVec S64x24x64 1 := andi main_v1 main_v3
  let main_c_1 : IVec S_ 1 := constantI S_ 1 1#1
  let main_v5 : IVec S_ 1 := (fun x v => Host.reduce IntOp.andi x v reducesTo_S64x24x64_S_d0_1_2 h_S_) main_v4 main_c_1
  let main_v6 : FVec F S64x4096x64 .f32 := Host.absf main_arg1
  let main_cst : FVec F S_ .f32 := constant S_ .f32 0x7F800000#32
  let main_v7 : FVec F S64x4096x64 .f32 := broadcastInDim S64x4096x64 ![] bcast_S_S64x4096x64 main_cst
  let main_v8 : IVec S64x4096x64 1 := cmpf .olt main_v6 main_v7
  let main_c_2 : IVec S_ 1 := constantI S_ 1 1#1
  let main_v9 : IVec S_ 1 := (fun x v => Host.reduce IntOp.andi x v reducesTo_S64x4096x64_S_d0_1_2 h_S_) main_v8 main_c_2
  let main_v10 : IVec S_ 1 := andi main_v5 main_v9
  let main_v11 : FVec F S64x24x64 .f32 := Host.absf main_arg3
  let main_cst_3 : FVec F S_ .f32 := constant S_ .f32 0x7F800000#32
  let main_v12 : FVec F S64x24x64 .f32 := broadcastInDim S64x24x64 ![] bcast_S_S64x24x64 main_cst_3
  let main_v13 : IVec S64x24x64 1 := cmpf .olt main_v11 main_v12
  let main_c_4 : IVec S_ 1 := constantI S_ 1 1#1
  let main_v14 : IVec S_ 1 := (fun x v => Host.reduce IntOp.andi x v reducesTo_S64x24x64_S_d0_1_2 h_S_) main_v13 main_c_4
  let main_v15 : IVec S_ 1 := andi main_v10 main_v14
  let main_v16 : FVec F S64x8x64 .f32 := Host.absf main_arg4
  fn_part1 (F := F) main_v15 main_v16
-- ==== Pre_in_range.lean ====
abbrev S64x64x64x64 : Shape := ⟨4, ![64, 64, 64, 64]⟩
abbrev S64x4096x64 : Shape := ⟨3, ![64, 4096, 64]⟩
abbrev S64x24x64 : Shape := ⟨3, ![64, 24, 64]⟩
abbrev S64x8x64 : Shape := ⟨3, ![64, 8, 64]⟩
abbrev S_ : Shape := ⟨0, ![]⟩

class Facts : Prop where
  bcast_S_S64x24x64 : S_.BroadcastsInDim S64x24x64 (![] : Fin 0 → Fin S64x24x64.rank)
  reducesTo_S64x24x64_S_d0_1_2 : S64x24x64.ReducesTo [0, 1, 2] S_
  h_S_ : 0 < S_.numel

variable [Facts]

def fn {F : FTy → Type} [FloatOps F] (main_arg0 : FVec F S64x64x64x64 .f32) (main_arg1 : FVec F S64x4096x64 .f32) (main_arg2 : IVec S64x24x64 32) (main_arg3 : FVec F S64x24x64 .f32) (main_arg4 : FVec F S64x8x64 .f32) : IVec S_ 1 :=
  let main_c : IVec S_ 32 := constantI S_ 32 0#32
  let main_v0 : IVec S64x24x64 32 := broadcastInDim S64x24x64 ![] bcast_S_S64x24x64 main_c
  let main_v1 : IVec S64x24x64 1 := cmpi .sge main_arg2 main_v0
  let main_c_0 : IVec S_ 32 := constantI S_ 32 4096#32
  let main_v2 : IVec S64x24x64 32 := broadcastInDim S64x24x64 ![] bcast_S_S64x24x64 main_c_0
  let main_v3 : IVec S64x24x64 1 := cmpi .slt main_arg2 main_v2
  let main_v4 : IVec S64x24x64 1 := andi main_v1 main_v3
  let main_c_1 : IVec S_ 1 := constantI S_ 1 1#1
  let main_v5 : IVec S_ 1 := (fun x v => Host.reduce IntOp.andi x v reducesTo_S64x24x64_S_d0_1_2 h_S_) main_v4 main_c_1
  main_v5
-- ==== Kernel.lean ====
abbrev S64x64x64x64 : Shape := ⟨4, ![64, 64, 64, 64]⟩
abbrev S64x4096x64 : Shape := ⟨3, ![64, 4096, 64]⟩
abbrev S64x24x64 : Shape := ⟨3, ![64, 24, 64]⟩
abbrev S64x8x64 : Shape := ⟨3, ![64, 8, 64]⟩
abbrev S64x4096x8x8 : Shape := ⟨4, ![64, 4096, 8, 8]⟩
abbrev S64x64x64x8x8 : Shape := ⟨5, ![64, 64, 64, 8, 8]⟩
abbrev S32x64x64x8x8 : Shape := ⟨5, ![32, 64, 64, 8, 8]⟩
abbrev S4096x8 : Shape := ⟨2, ![4096, 8]⟩
abbrev S16x20x64 : Shape := ⟨3, ![16, 20, 64]⟩
abbrev S64x64 : Shape := ⟨2, ![64, 64]⟩
abbrev S16x64x8 : Shape := ⟨3, ![16, 64, 8]⟩
abbrev S_ : Shape := ⟨0, ![]⟩
abbrev S64x1x64 : Shape := ⟨3, ![64, 1, 64]⟩
abbrev S16 : Shape := ⟨1, ![16]⟩
abbrev S1x4096x1x8 : Shape := ⟨4, ![1, 4096, 1, 8]⟩
abbrev S1x16x64x1x8 : Shape := ⟨5, ![1, 16, 64, 1, 8]⟩
abbrev S1x1x16 : Shape := ⟨3, ![1, 1, 16]⟩
abbrev S32x64x64x64 : Shape := ⟨4, ![32, 64, 64, 64]⟩
abbrev S64x64x4096 : Shape := ⟨3, ![64, 64, 4096]⟩
abbrev S8x24x64 : Shape := ⟨3, ![8, 24, 64]⟩
abbrev S8x64x4096 : Shape := ⟨3, ![8, 64, 4096]⟩
abbrev S8x1x64 : Shape := ⟨3, ![8, 1, 64]⟩
abbrev S8x64 : Shape := ⟨2, ![8, 64]⟩
abbrev S8x64x1 : Shape := ⟨3, ![8, 64, 1]⟩
abbrev S4096x4096 : Shape := ⟨2, ![4096, 4096]⟩
abbrev S512x4096 : Shape := ⟨2, ![512, 4096]⟩
abbrev S1x4096x64 : Shape := ⟨3, ![1, 4096, 64]⟩
abbrev S1x8x64 : Shape := ⟨3, ![1, 8, 64]⟩
abbrev S1x8x64x64 : Shape := ⟨4, ![1, 8, 64, 64]⟩
abbrev S4096x64 : Shape := ⟨2, ![4096, 64]⟩
abbrev S512x64 : Shape := ⟨2, ![512, 64]⟩
abbrev S1x1x64 : Shape := ⟨3, ![1, 1, 64]⟩
abbrev S1x64 : Shape := ⟨2, ![1, 64]⟩
abbrev S8x64x64 : Shape := ⟨3, ![8, 64, 64]⟩

abbrev nBuf : Table → Nat
  | .hbm => 13
  | .local .tc .vmem => 16
  | .local .scVector .vmem => 7
  | _ => 0

abbrev bufTy : (tb : Table) → Fin (nBuf tb) → BufTy
  | .hbm, ⟨0, _⟩ => ⟨S64x64x64x64, .f32⟩
  | .hbm, ⟨1, _⟩ => ⟨S64x4096x64, .f32⟩
  | .hbm, ⟨2, _⟩ => ⟨S64x24x64, .i32⟩
  | .hbm, ⟨3, _⟩ => ⟨S64x24x64, .f32⟩
  | .hbm, ⟨4, _⟩ => ⟨S64x8x64, .f32⟩
  | .hbm, ⟨5, _⟩ => ⟨S64x4096x8x8, .f32⟩
  | .hbm, ⟨6, _⟩ => ⟨S64x64x64x8x8, .f32⟩
  | .hbm, ⟨7, _⟩ => ⟨S32x64x64x8x8, .f32⟩
  | .hbm, ⟨8, _⟩ => ⟨S32x64x64x64, .f32⟩
  | .hbm, ⟨9, _⟩ => ⟨S64x64x4096, .f32⟩
  | .hbm, ⟨10, _⟩ => ⟨S4096x4096, .f32⟩
  | .hbm, ⟨11, _⟩ => ⟨S32x64x64x64, .f32⟩
  | .hbm, ⟨12, _⟩ => ⟨S64x64x64x64, .f32⟩
  | .local .tc .vmem, ⟨0, _⟩ => ⟨S8x24x64, .i32⟩
  | .local .tc .vmem, ⟨1, _⟩ => ⟨S8x24x64, .i32⟩
  | .local .tc .vmem, ⟨2, _⟩ => ⟨S8x24x64, .f32⟩
  | .local .tc .vmem, ⟨3, _⟩ => ⟨S8x24x64, .f32⟩
  | .local .tc .vmem, ⟨4, _⟩ => ⟨S8x64x4096, .f32⟩
  | .local .tc .vmem, ⟨5, _⟩ => ⟨S8x64x4096, .f32⟩
  | .local .tc .vmem, ⟨6, _⟩ => ⟨S512x4096, .f32⟩
  | .local .tc .vmem, ⟨7, _⟩ => ⟨S512x4096, .f32⟩
  | .local .tc .vmem, ⟨8, _⟩ => ⟨S1x4096x64, .f32⟩
  | .local .tc .vmem, ⟨9, _⟩ => ⟨S1x4096x64, .f32⟩
  | .local .tc .vmem, ⟨10, _⟩ => ⟨S1x8x64, .f32⟩
  | .local .tc .vmem, ⟨11, _⟩ => ⟨S1x8x64, .f32⟩
  | .local .tc .vmem, ⟨12, _⟩ => ⟨S1x8x64x64, .f32⟩
  | .local .tc .vmem, ⟨13, _⟩ => ⟨S1x8x64x64, .f32⟩
  | .local .tc .vmem, ⟨14, _⟩ => ⟨S1x8x64x64, .f32⟩
  | .local .tc .vmem, ⟨15, _⟩ => ⟨S1x8x64x64, .f32⟩
  | .local .scVector .vmem, ⟨0, _⟩ => ⟨S4096x8, .f32⟩
  | .local .scVector .vmem, ⟨1, _⟩ => ⟨S4096x8, .f32⟩
  | .local .scVector .vmem, ⟨2, _⟩ => ⟨S16x20x64, .i32⟩
  | .local .scVector .vmem, ⟨3, _⟩ => ⟨S16x20x64, .f32⟩
  | .local .scVector .vmem, ⟨4, _⟩ => ⟨S64x64, .f32⟩
  | .local .scVector .vmem, ⟨5, _⟩ => ⟨S16x64x8, .f32⟩
  | .local .scVector .vmem, ⟨6, _⟩ => ⟨S16x64x8, .f32⟩
  | _, _ => ⟨S64x64x64x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 23 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTables nBuf rfl bufTy 4 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v0_scv : Ref sig .scVector := ⟨.hbm, 5, rfl⟩
abbrev main_arg2_scv : Ref sig .scVector := ⟨.hbm, 2, rfl⟩
abbrev main_arg3_scv : Ref sig .scVector := ⟨.hbm, 3, rfl⟩
abbrev main_arg4_scv : Ref sig .scVector := ⟨.hbm, 4, rfl⟩
abbrev main_v1_scv : Ref sig .scVector := ⟨.hbm, 6, rfl⟩
abbrev main_v2_scv : Ref sig .scVector := ⟨.hbm, 7, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg2_1 : Ref sig .tc := ⟨.vmem, 11, rfl⟩
abbrev cc2_stg3_0 : Ref sig .tc := ⟨.vmem, 12, rfl⟩
abbrev cc2_stg3_1 : Ref sig .tc := ⟨.vmem, 13, rfl⟩
abbrev cc2_stg4_0 : Ref sig .tc := ⟨.vmem, 14, rfl⟩
abbrev cc2_stg4_1 : Ref sig .tc := ⟨.vmem, 15, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc2_sem4_0 : DmaSem sig := 21
abbrev cc2_sem4_1 : DmaSem sig := 22
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c8_i32_3 : BitVec 32 := 8#32
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi v1 c8_i32_3
  let c0_i32_8 : BitVec 32 := 0#32
  let v25 : BitVec 1 := Scalar.cmpi .ne v24 c0_i32_8
  let v26 : BitVec 1 := Scalar.andi v23 v25
  let v12 : BitVec 32 := Scalar.divsi v1 c8_i32_3
  let c1_i32_9 : BitVec 32 := 1#32
  let v27 : BitVec 32 := Scalar.subi v12 c1_i32_9
  let v28 : BitVec 32 := Scalar.select v26 v27 v12
  let c16_i32 : BitVec 32 := 16#32
  let v30 : BitVec 32 := Scalar.muli v28 c16_i32
  let c0_i32_26_r0 : BitVec 32 := 0#32
  let c0_i32_27_r0 : BitVec 32 := 0#32
  ![v30.toNat, 0, 0]
def k0_off2 (i : grid0.Coords) : Fin 4 → Nat :=
  let c0_i32_13 : BitVec 32 := 0#32
  let c0_i32_14 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_15 : BitVec 32 := 0#32
  ![0, 0, v11.toNat, 0]
@[reducible] def k0_t1_loop : Scf.Loop 32 :=
  let c0_i32_19 : BitVec 32 := 0#32
  let c32_i32 : BitVec 32 := 32#32
  let v38 : BitVec 32 := Scalar.addi c0_i32_19 c32_i32
  let c1_i32_20 : BitVec 32 := 1#32
  ⟨c0_i32_19, v38, c1_i32_20⟩
def k0_cond1 (k0_t1 : Fin k0_t1_loop.trips) : BitVec 1 :=
  let c0_i32_19 : BitVec 32 := 0#32
  let c1_i32_20 : BitVec 32 := 1#32
  let arg19 : BitVec 32 := Scf.iv c0_i32_19 c1_i32_20 k0_t1
  let c1_i32_32 : BitVec 32 := 1#32
  let v53 : BitVec 32 := Scalar.addi arg19 c1_i32_32
  let c32_i32_33 : BitVec 32 := 32#32
  let v54 : BitVec 1 := Scalar.cmpi .slt v53 c32_i32_33
  let c2_i32_26 : BitVec 32 := 2#32
  let c0_i32_27 : BitVec 32 := 0#32
  let v43 : BitVec 1 := Scalar.cmpi .eq c2_i32_26 c0_i32_27
  let c1_i32_28 : BitVec 32 := 1#32
  let v44 : BitVec 32 := Scalar.select v43 c1_i32_28 c2_i32_26
  let v45 : BitVec 32 := Scalar.remsi arg19 v44
  let c0_i32_30 : BitVec 32 := 0#32
  let v47 : BitVec 1 := Scalar.cmpi .slt v45 c0_i32_30
  let c0_i32_31 : BitVec 32 := 0#32
  let v48 : BitVec 1 := Scalar.cmpi .slt v44 c0_i32_31
  let v49 : BitVec 1 := Scalar.xori v47 v48
  let c0_i32_29 : BitVec 32 := 0#32
  let v46 : BitVec 1 := Scalar.cmpi .ne v45 c0_i32_29
  let v50 : BitVec 1 := Scalar.andi v49 v46
  let v51 : BitVec 32 := Scalar.addi v45 v44
  let v52 : BitVec 32 := Scalar.select v50 v51 v45
  let c0_i32_34 : BitVec 32 := 0#32
  let v55 : BitVec 1 := Scalar.cmpi .eq v52 c0_i32_34
  let v56 : BitVec 1 := Scalar.andi v54 v55
  let v57 : BitVec 32 := Scalar.extui v56
  let c0_i32_35 : BitVec 32 := 0#32
  let v58 : BitVec 1 := Scalar.cmpi .ne v57 c0_i32_35
  v58

def k0_off3 (i : grid0.Coords) (k0_t1 : Fin k0_t1_loop.trips) : Fin 4 → Nat :=
  let c0_i32_19 : BitVec 32 := 0#32
  let c1_i32_20 : BitVec 32 := 1#32
  let arg19 : BitVec 32 := Scf.iv c0_i32_19 c1_i32_20 k0_t1
  let c1_i32_57 : BitVec 32 := 1#32
  let v116 : BitVec 32 := Scalar.addi arg19 c1_i32_57
  let c0_i32_58 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_59 : BitVec 32 := 0#32
  ![v116.toNat, 0, v11.toNat, 0]
def k0_cond2 (k0_t1 : Fin k0_t1_loop.trips) : BitVec 1 :=
  let c0_i32_19 : BitVec 32 := 0#32
  let c1_i32_20 : BitVec 32 := 1#32
  let arg19 : BitVec 32 := Scf.iv c0_i32_19 c1_i32_20 k0_t1
  let c1_i32_36 : BitVec 32 := 1#32
  let v59 : BitVec 32 := Scalar.addi arg19 c1_i32_36
  let c32_i32_37 : BitVec 32 := 32#32
  let v60 : BitVec 1 := Scalar.cmpi .slt v59 c32_i32_37
  let c2_i32_26 : BitVec 32 := 2#32
  let c0_i32_27 : BitVec 32 := 0#32
  let v43 : BitVec 1 := Scalar.cmpi .eq c2_i32_26 c0_i32_27
  let c1_i32_28 : BitVec 32 := 1#32
  let v44 : BitVec 32 := Scalar.select v43 c1_i32_28 c2_i32_26
  let v45 : BitVec 32 := Scalar.remsi arg19 v44
  let c0_i32_30 : BitVec 32 := 0#32
  let v47 : BitVec 1 := Scalar.cmpi .slt v45 c0_i32_30
  let c0_i32_31 : BitVec 32 := 0#32
  let v48 : BitVec 1 := Scalar.cmpi .slt v44 c0_i32_31
  let v49 : BitVec 1 := Scalar.xori v47 v48
  let c0_i32_29 : BitVec 32 := 0#32
  let v46 : BitVec 1 := Scalar.cmpi .ne v45 c0_i32_29
  let v50 : BitVec 1 := Scalar.andi v49 v46
  let v51 : BitVec 32 := Scalar.addi v45 v44
  let v52 : BitVec 32 := Scalar.select v50 v51 v45
  let c1_i32_38 : BitVec 32 := 1#32
  let v61 : BitVec 1 := Scalar.cmpi .eq v52 c1_i32_38
  let v62 : BitVec 1 := Scalar.andi v60 v61
  let v63 : BitVec 32 := Scalar.extui v62
  let c0_i32_39 : BitVec 32 := 0#32
  let v64 : BitVec 1 := Scalar.cmpi .ne v63 c0_i32_39
  v64

def k0_off4 (i : grid0.Coords) (k0_t1 : Fin k0_t1_loop.trips) : Fin 4 → Nat :=
  let c0_i32_19 : BitVec 32 := 0#32
  let c1_i32_20 : BitVec 32 := 1#32
  let arg19 : BitVec 32 := Scf.iv c0_i32_19 c1_i32_20 k0_t1
  let c1_i32_57 : BitVec 32 := 1#32
  let v116 : BitVec 32 := Scalar.addi arg19 c1_i32_57
  let c0_i32_58 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_59 : BitVec 32 := 0#32
  ![v116.toNat, 0, v11.toNat, 0]
def k0_cond3 (k0_t1 : Fin k0_t1_loop.trips) : BitVec 1 :=
  let c0_i32_19 : BitVec 32 := 0#32
  let c1_i32_20 : BitVec 32 := 1#32
  let arg19 : BitVec 32 := Scf.iv c0_i32_19 c1_i32_20 k0_t1
  let c0_i32_40 : BitVec 32 := 0#32
  let v65 : BitVec 1 := Scalar.cmpi .sgt arg19 c0_i32_40
  let v66 : BitVec 32 := Scalar.extui v65
  let c0_i32_41 : BitVec 32 := 0#32
  let v67 : BitVec 1 := Scalar.cmpi .ne v66 c0_i32_41
  v67

def k0_off5 (i : grid0.Coords) (k0_t1 : Fin k0_t1_loop.trips) : Fin 5 → Nat :=
  let c0_i32_19 : BitVec 32 := 0#32
  let c1_i32_20 : BitVec 32 := 1#32
  let arg19 : BitVec 32 := Scf.iv c0_i32_19 c1_i32_20 k0_t1
  let c1_i32_57 : BitVec 32 := 1#32
  let v116 : BitVec 32 := Scalar.subi arg19 c1_i32_57
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c8_i32_3 : BitVec 32 := 8#32
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi v1 c8_i32_3
  let c0_i32_8 : BitVec 32 := 0#32
  let v25 : BitVec 1 := Scalar.cmpi .ne v24 c0_i32_8
  let v26 : BitVec 1 := Scalar.andi v23 v25
  let v12 : BitVec 32 := Scalar.divsi v1 c8_i32_3
  let c1_i32_9 : BitVec 32 := 1#32
  let v27 : BitVec 32 := Scalar.subi v12 c1_i32_9
  let v28 : BitVec 32 := Scalar.select v26 v27 v12
  let c16_i32 : BitVec 32 := 16#32
  let v30 : BitVec 32 := Scalar.muli v28 c16_i32
  let c0_i32_58 : BitVec 32 := 0#32
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_59 : BitVec 32 := 0#32
  ![v116.toNat, v30.toNat, 0, v11.toNat, 0]
def k0_off6 (i : grid0.Coords) (k0_t1 : Fin k0_t1_loop.trips) : Fin 5 → Nat :=
  let c0_i32_19 : BitVec 32 := 0#32
  let c1_i32_20 : BitVec 32 := 1#32
  let arg19 : BitVec 32 := Scf.iv c0_i32_19 c1_i32_20 k0_t1
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c8_i32_3 : BitVec 32 := 8#32
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi v1 c8_i32_3
  let c0_i32_8 : BitVec 32 := 0#32
  let v25 : BitVec 1 := Scalar.cmpi .ne v24 c0_i32_8
  let v26 : BitVec 1 := Scalar.andi v23 v25
  let v12 : BitVec 32 := Scalar.divsi v1 c8_i32_3
  let c1_i32_9 : BitVec 32 := 1#32
  let v27 : BitVec 32 := Scalar.subi v12 c1_i32_9
  let v28 : BitVec 32 := Scalar.select v26 v27 v12
  let c16_i32 : BitVec 32 := 16#32
  let v30 : BitVec 32 := Scalar.muli v28 c16_i32
  let c0_i32_42 : BitVec 32 := 0#32
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_43 : BitVec 32 := 0#32
  ![arg19.toNat, v30.toNat, 0, v11.toNat, 0]

def k0_chk1 (v73 : IVec S16 32) (v76 : IVec S16 32) : Prop :=
  (∀ a x, ((![v73, v76] : Fin 2 → IVec S16 32) a x).toNat < S64x64.size a)
theorem k0_idx1_inb : ∀ (v73 : IVec S16 32) (v76 : IVec S16 32) (k0_hw1 : k0_chk1 v73 v76), ∀ a x, ((![v73, v76] : Fin 2 → IVec S16 32) a x).toNat < S64x64.size a := fun v73 v76 k0_hw1 => k0_hw1

def k0_chk2 (v73 : IVec S16 32) (v80 : IVec S16 32) : Prop :=
  (∀ a x, ((![v73, v80] : Fin 2 → IVec S16 32) a x).toNat < S64x64.size a)
theorem k0_idx2_inb : ∀ (v73 : IVec S16 32) (v80 : IVec S16 32) (k0_hw2 : k0_chk2 v73 v80), ∀ a x, ((![v73, v80] : Fin 2 → IVec S16 32) a x).toNat < S64x64.size a := fun v73 v80 k0_hw2 => k0_hw2

def k0_chk3 (v73 : IVec S16 32) (v84 : IVec S16 32) : Prop :=
  (∀ a x, ((![v73, v84] : Fin 2 → IVec S16 32) a x).toNat < S64x64.size a)
theorem k0_idx3_inb : ∀ (v73 : IVec S16 32) (v84 : IVec S16 32) (k0_hw3 : k0_chk3 v73 v84), ∀ a x, ((![v73, v84] : Fin 2 → IVec S16 32) a x).toNat < S64x64.size a := fun v73 v84 k0_hw3 => k0_hw3

def k0_chk4 (v73 : IVec S16 32) (v88 : IVec S16 32) : Prop :=
  (∀ a x, ((![v73, v88] : Fin 2 → IVec S16 32) a x).toNat < S64x64.size a)
theorem k0_idx4_inb : ∀ (v73 : IVec S16 32) (v88 : IVec S16 32) (k0_hw4 : k0_chk4 v73 v88), ∀ a x, ((![v73, v88] : Fin 2 → IVec S16 32) a x).toNat < S64x64.size a := fun v73 v88 k0_hw4 => k0_hw4

def k0_chk5 (v73 : IVec S16 32) (v92 : IVec S16 32) : Prop :=
  (∀ a x, ((![v73, v92] : Fin 2 → IVec S16 32) a x).toNat < S64x64.size a)
theorem k0_idx5_inb : ∀ (v73 : IVec S16 32) (v92 : IVec S16 32) (k0_hw5 : k0_chk5 v73 v92), ∀ a x, ((![v73, v92] : Fin 2 → IVec S16 32) a x).toNat < S64x64.size a := fun v73 v92 k0_hw5 => k0_hw5

def k0_chk6 (v73 : IVec S16 32) (v96 : IVec S16 32) : Prop :=
  (∀ a x, ((![v73, v96] : Fin 2 → IVec S16 32) a x).toNat < S64x64.size a)
theorem k0_idx6_inb : ∀ (v73 : IVec S16 32) (v96 : IVec S16 32) (k0_hw6 : k0_chk6 v73 v96), ∀ a x, ((![v73, v96] : Fin 2 → IVec S16 32) a x).toNat < S64x64.size a := fun v73 v96 k0_hw6 => k0_hw6

def k0_chk7 (v73 : IVec S16 32) (v100 : IVec S16 32) : Prop :=
  (∀ a x, ((![v73, v100] : Fin 2 → IVec S16 32) a x).toNat < S64x64.size a)
theorem k0_idx7_inb : ∀ (v73 : IVec S16 32) (v100 : IVec S16 32) (k0_hw7 : k0_chk7 v73 v100), ∀ a x, ((![v73, v100] : Fin 2 → IVec S16 32) a x).toNat < S64x64.size a := fun v73 v100 k0_hw7 => k0_hw7

def k0_chk8 (v73 : IVec S16 32) (v104 : IVec S16 32) : Prop :=
  (∀ a x, ((![v73, v104] : Fin 2 → IVec S16 32) a x).toNat < S64x64.size a)
theorem k0_idx8_inb : ∀ (v73 : IVec S16 32) (v104 : IVec S16 32) (k0_hw8 : k0_chk8 v73 v104), ∀ a x, ((![v73, v104] : Fin 2 → IVec S16 32) a x).toNat < S64x64.size a := fun v73 v104 k0_hw8 => k0_hw8
def k0_cond4 (k0_t1 : Fin k0_t1_loop.trips) : BitVec 1 :=
  let c0_i32_19 : BitVec 32 := 0#32
  let c1_i32_20 : BitVec 32 := 1#32
  let arg19 : BitVec 32 := Scf.iv c0_i32_19 c1_i32_20 k0_t1
  let c2_i32_26 : BitVec 32 := 2#32
  let c0_i32_27 : BitVec 32 := 0#32
  let v43 : BitVec 1 := Scalar.cmpi .eq c2_i32_26 c0_i32_27
  let c1_i32_28 : BitVec 32 := 1#32
  let v44 : BitVec 32 := Scalar.select v43 c1_i32_28 c2_i32_26
  let v45 : BitVec 32 := Scalar.remsi arg19 v44
  let c0_i32_30 : BitVec 32 := 0#32
  let v47 : BitVec 1 := Scalar.cmpi .slt v45 c0_i32_30
  let c0_i32_31 : BitVec 32 := 0#32
  let v48 : BitVec 1 := Scalar.cmpi .slt v44 c0_i32_31
  let v49 : BitVec 1 := Scalar.xori v47 v48
  let c0_i32_29 : BitVec 32 := 0#32
  let v46 : BitVec 1 := Scalar.cmpi .ne v45 c0_i32_29
  let v50 : BitVec 1 := Scalar.andi v49 v46
  let v51 : BitVec 32 := Scalar.addi v45 v44
  let v52 : BitVec 32 := Scalar.select v50 v51 v45
  let c0_i32_49 : BitVec 32 := 0#32
  let v106 : BitVec 1 := Scalar.cmpi .eq v52 c0_i32_49
  let v107 : BitVec 32 := Scalar.extui v106
  let c0_i32_50 : BitVec 32 := 0#32
  let v108 : BitVec 1 := Scalar.cmpi .ne v107 c0_i32_50
  v108

def k0_off7 (i : grid0.Coords) (k0_t1 : Fin k0_t1_loop.trips) : Fin 4 → Nat :=
  let c0_i32_19 : BitVec 32 := 0#32
  let c1_i32_20 : BitVec 32 := 1#32
  let arg19 : BitVec 32 := Scf.iv c0_i32_19 c1_i32_20 k0_t1
  let c0_i32_57 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_58 : BitVec 32 := 0#32
  ![arg19.toNat, 0, v11.toNat, 0]
def k0_off8 (i : grid0.Coords) (k0_t1 : Fin k0_t1_loop.trips) : Fin 5 → Nat :=
  let c0_i32_19 : BitVec 32 := 0#32
  let c1_i32_20 : BitVec 32 := 1#32
  let arg19 : BitVec 32 := Scf.iv c0_i32_19 c1_i32_20 k0_t1
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c8_i32_3 : BitVec 32 := 8#32
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi v1 c8_i32_3
  let c0_i32_8 : BitVec 32 := 0#32
  let v25 : BitVec 1 := Scalar.cmpi .ne v24 c0_i32_8
  let v26 : BitVec 1 := Scalar.andi v23 v25
  let v12 : BitVec 32 := Scalar.divsi v1 c8_i32_3
  let c1_i32_9 : BitVec 32 := 1#32
  let v27 : BitVec 32 := Scalar.subi v12 c1_i32_9
  let v28 : BitVec 32 := Scalar.select v26 v27 v12
  let c16_i32 : BitVec 32 := 16#32
  let v30 : BitVec 32 := Scalar.muli v28 c16_i32
  let c0_i32_61 : BitVec 32 := 0#32
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_62 : BitVec 32 := 0#32
  ![arg19.toNat, v30.toNat, 0, v11.toNat, 0]
@[reducible] def k0_t2_loop : Scf.Loop 32 :=
  let c0_i32_66 : BitVec 32 := 0#32
  let c16_i32_67 : BitVec 32 := 16#32
  let v124 : BitVec 32 := Scalar.addi c0_i32_66 c16_i32_67
  let c1_i32_68 : BitVec 32 := 1#32
  ⟨c0_i32_66, v124, c1_i32_68⟩
@[reducible] def k0_t3_loop : Scf.Loop 32 :=
  let c0_i32_71 : BitVec 32 := 0#32
  let c20_i32 : BitVec 32 := 20#32
  let v129 : BitVec 32 := Scalar.addi c0_i32_71 c20_i32
  let c1_i32_72 : BitVec 32 := 1#32
  ⟨c0_i32_71, v129, c1_i32_72⟩
def k0_off9 (k0_t2 : Fin k0_t2_loop.trips) (k0_t3 : Fin k0_t3_loop.trips) : Fin 3 → Nat :=
  let c0_i32_66 : BitVec 32 := 0#32
  let c1_i32_68 : BitVec 32 := 1#32
  let arg20 : BitVec 32 := Scf.iv c0_i32_66 c1_i32_68 k0_t2
  let v271 : Index := Scalar.indexCast arg20
  let c0_i32_71 : BitVec 32 := 0#32
  let c1_i32_72 : BitVec 32 := 1#32
  let arg21 : BitVec 32 := Scf.iv c0_i32_71 c1_i32_72 k0_t3
  let v272 : Index := Scalar.indexCast arg21
  let c0 : Index := 0#32
  ![v271.toNat, v272.toNat, 0]

def k0_chk9 (k0_t1 : Fin k0_t1_loop.trips) (v273 : IVec S16 32) (v277 : IVec S16 32) : Prop :=
  (∀ (k0_h4 : k0_cond4 k0_t1 = 1#1), ∀ a x, ((![v273, v277] : Fin 2 → IVec S16 32) a x).toNat < S4096x8.size a)
theorem k0_idx9_inb : ∀ (k0_t1 : Fin k0_t1_loop.trips) (v273 : IVec S16 32) (v277 : IVec S16 32) (k0_hw9 : k0_chk9 k0_t1 v273 v277), ∀ (k0_h4 : k0_cond4 k0_t1 = 1#1), ∀ a x, ((![v273, v277] : Fin 2 → IVec S16 32) a x).toNat < S4096x8.size a := fun k0_t1 v273 v277 k0_hw9 k0_h4 => k0_hw9 k0_h4

def k0_chk10 (k0_t1 : Fin k0_t1_loop.trips) (v273 : IVec S16 32) (v282 : IVec S16 32) : Prop :=
  (∀ (k0_h4 : k0_cond4 k0_t1 = 1#1), ∀ a x, ((![v273, v282] : Fin 2 → IVec S16 32) a x).toNat < S4096x8.size a)
theorem k0_idx10_inb : ∀ (k0_t1 : Fin k0_t1_loop.trips) (v273 : IVec S16 32) (v282 : IVec S16 32) (k0_hw10 : k0_chk10 k0_t1 v273 v282), ∀ (k0_h4 : k0_cond4 k0_t1 = 1#1), ∀ a x, ((![v273, v282] : Fin 2 → IVec S16 32) a x).toNat < S4096x8.size a := fun k0_t1 v273 v282 k0_hw10 k0_h4 => k0_hw10 k0_h4

def k0_chk11 (k0_t1 : Fin k0_t1_loop.trips) (v273 : IVec S16 32) (v287 : IVec S16 32) : Prop :=
  (∀ (k0_h4 : k0_cond4 k0_t1 = 1#1), ∀ a x, ((![v273, v287] : Fin 2 → IVec S16 32) a x).toNat < S4096x8.size a)
theorem k0_idx11_inb : ∀ (k0_t1 : Fin k0_t1_loop.trips) (v273 : IVec S16 32) (v287 : IVec S16 32) (k0_hw11 : k0_chk11 k0_t1 v273 v287), ∀ (k0_h4 : k0_cond4 k0_t1 = 1#1), ∀ a x, ((![v273, v287] : Fin 2 → IVec S16 32) a x).toNat < S4096x8.size a := fun k0_t1 v273 v287 k0_hw11 k0_h4 => k0_hw11 k0_h4

def k0_chk12 (k0_t1 : Fin k0_t1_loop.trips) (v273 : IVec S16 32) (v292 : IVec S16 32) : Prop :=
  (∀ (k0_h4 : k0_cond4 k0_t1 = 1#1), ∀ a x, ((![v273, v292] : Fin 2 → IVec S16 32) a x).toNat < S4096x8.size a)
theorem k0_idx12_inb : ∀ (k0_t1 : Fin k0_t1_loop.trips) (v273 : IVec S16 32) (v292 : IVec S16 32) (k0_hw12 : k0_chk12 k0_t1 v273 v292), ∀ (k0_h4 : k0_cond4 k0_t1 = 1#1), ∀ a x, ((![v273, v292] : Fin 2 → IVec S16 32) a x).toNat < S4096x8.size a := fun k0_t1 v273 v292 k0_hw12 k0_h4 => k0_hw12 k0_h4

def k0_chk13 (k0_t1 : Fin k0_t1_loop.trips) (v273 : IVec S16 32) (v297 : IVec S16 32) : Prop :=
  (∀ (k0_h4 : k0_cond4 k0_t1 = 1#1), ∀ a x, ((![v273, v297] : Fin 2 → IVec S16 32) a x).toNat < S4096x8.size a)
theorem k0_idx13_inb : ∀ (k0_t1 : Fin k0_t1_loop.trips) (v273 : IVec S16 32) (v297 : IVec S16 32) (k0_hw13 : k0_chk13 k0_t1 v273 v297), ∀ (k0_h4 : k0_cond4 k0_t1 = 1#1), ∀ a x, ((![v273, v297] : Fin 2 → IVec S16 32) a x).toNat < S4096x8.size a := fun k0_t1 v273 v297 k0_hw13 k0_h4 => k0_hw13 k0_h4

def k0_chk14 (k0_t1 : Fin k0_t1_loop.trips) (v273 : IVec S16 32) (v302 : IVec S16 32) : Prop :=
  (∀ (k0_h4 : k0_cond4 k0_t1 = 1#1), ∀ a x, ((![v273, v302] : Fin 2 → IVec S16 32) a x).toNat < S4096x8.size a)
theorem k0_idx14_inb : ∀ (k0_t1 : Fin k0_t1_loop.trips) (v273 : IVec S16 32) (v302 : IVec S16 32) (k0_hw14 : k0_chk14 k0_t1 v273 v302), ∀ (k0_h4 : k0_cond4 k0_t1 = 1#1), ∀ a x, ((![v273, v302] : Fin 2 → IVec S16 32) a x).toNat < S4096x8.size a := fun k0_t1 v273 v302 k0_hw14 k0_h4 => k0_hw14 k0_h4

def k0_chk15 (k0_t1 : Fin k0_t1_loop.trips) (v273 : IVec S16 32) (v307 : IVec S16 32) : Prop :=
  (∀ (k0_h4 : k0_cond4 k0_t1 = 1#1), ∀ a x, ((![v273, v307] : Fin 2 → IVec S16 32) a x).toNat < S4096x8.size a)
theorem k0_idx15_inb : ∀ (k0_t1 : Fin k0_t1_loop.trips) (v273 : IVec S16 32) (v307 : IVec S16 32) (k0_hw15 : k0_chk15 k0_t1 v273 v307), ∀ (k0_h4 : k0_cond4 k0_t1 = 1#1), ∀ a x, ((![v273, v307] : Fin 2 → IVec S16 32) a x).toNat < S4096x8.size a := fun k0_t1 v273 v307 k0_hw15 k0_h4 => k0_hw15 k0_h4

def k0_chk16 (k0_t1 : Fin k0_t1_loop.trips) (v273 : IVec S16 32) (v312 : IVec S16 32) : Prop :=
  (∀ (k0_h4 : k0_cond4 k0_t1 = 1#1), ∀ a x, ((![v273, v312] : Fin 2 → IVec S16 32) a x).toNat < S4096x8.size a)
theorem k0_idx16_inb : ∀ (k0_t1 : Fin k0_t1_loop.trips) (v273 : IVec S16 32) (v312 : IVec S16 32) (k0_hw16 : k0_chk16 k0_t1 v273 v312), ∀ (k0_h4 : k0_cond4 k0_t1 = 1#1), ∀ a x, ((![v273, v312] : Fin 2 → IVec S16 32) a x).toNat < S4096x8.size a := fun k0_t1 v273 v312 k0_hw16 k0_h4 => k0_hw16 k0_h4

def k0_chk17 (k0_t1 : Fin k0_t1_loop.trips) (v126 : IVec S16 32) (v128 : IVec S16 32) (v131 : IVec S16 32) : Prop :=
  (∀ (k0_h4 : k0_cond4 k0_t1 = 1#1), ∀ a x, ((![v126, v128, v131] : Fin 3 → IVec S16 32) a x).toNat < S16x64x8.size a) ∧
  (∀ (k0_h4 : k0_cond4 k0_t1 = 1#1), ∀ a x, ((![v126, v128, v131] : Fin 3 → IVec S16 32) a x).toNat < S16x64x8.size a)
theorem k0_idx17_inb : ∀ (k0_t1 : Fin k0_t1_loop.trips) (v126 : IVec S16 32) (v128 : IVec S16 32) (v131 : IVec S16 32) (k0_hw17 : k0_chk17 k0_t1 v126 v128 v131), ∀ (k0_h4 : k0_cond4 k0_t1 = 1#1), ∀ a x, ((![v126, v128, v131] : Fin 3 → IVec S16 32) a x).toNat < S16x64x8.size a := fun k0_t1 v126 v128 v131 k0_hw17 k0_h4 => k0_hw17.1 k0_h4
theorem k0_idx18_inb : ∀ (k0_t1 : Fin k0_t1_loop.trips) (v126 : IVec S16 32) (v128 : IVec S16 32) (v131 : IVec S16 32) (k0_hw17 : k0_chk17 k0_t1 v126 v128 v131), ∀ (k0_h4 : k0_cond4 k0_t1 = 1#1), ∀ a x, ((![v126, v128, v131] : Fin 3 → IVec S16 32) a x).toNat < S16x64x8.size a := fun k0_t1 v126 v128 v131 k0_hw17 k0_h4 => k0_hw17.2 k0_h4

def k0_chk18 (k0_t1 : Fin k0_t1_loop.trips) (v126 : IVec S16 32) (v128 : IVec S16 32) (v135 : IVec S16 32) : Prop :=
  (∀ (k0_h4 : k0_cond4 k0_t1 = 1#1), ∀ a x, ((![v126, v128, v135] : Fin 3 → IVec S16 32) a x).toNat < S16x64x8.size a) ∧
  (∀ (k0_h4 : k0_cond4 k0_t1 = 1#1), ∀ a x, ((![v126, v128, v135] : Fin 3 → IVec S16 32) a x).toNat < S16x64x8.size a)
theorem k0_idx19_inb : ∀ (k0_t1 : Fin k0_t1_loop.trips) (v126 : IVec S16 32) (v128 : IVec S16 32) (v135 : IVec S16 32) (k0_hw18 : k0_chk18 k0_t1 v126 v128 v135), ∀ (k0_h4 : k0_cond4 k0_t1 = 1#1), ∀ a x, ((![v126, v128, v135] : Fin 3 → IVec S16 32) a x).toNat < S16x64x8.size a := fun k0_t1 v126 v128 v135 k0_hw18 k0_h4 => k0_hw18.1 k0_h4
theorem k0_idx20_inb : ∀ (k0_t1 : Fin k0_t1_loop.trips) (v126 : IVec S16 32) (v128 : IVec S16 32) (v135 : IVec S16 32) (k0_hw18 : k0_chk18 k0_t1 v126 v128 v135), ∀ (k0_h4 : k0_cond4 k0_t1 = 1#1), ∀ a x, ((![v126, v128, v135] : Fin 3 → IVec S16 32) a x).toNat < S16x64x8.size a := fun k0_t1 v126 v128 v135 k0_hw18 k0_h4 => k0_hw18.2 k0_h4

def k0_chk19 (k0_t1 : Fin k0_t1_loop.trips) (v126 : IVec S16 32) (v128 : IVec S16 32) (v139 : IVec S16 32) : Prop :=
  (∀ (k0_h4 : k0_cond4 k0_t1 = 1#1), ∀ a x, ((![v126, v128, v139] : Fin 3 → IVec S16 32) a x).toNat < S16x64x8.size a) ∧
  (∀ (k0_h4 : k0_cond4 k0_t1 = 1#1), ∀ a x, ((![v126, v128, v139] : Fin 3 → IVec S16 32) a x).toNat < S16x64x8.size a)
theorem k0_idx21_inb : ∀ (k0_t1 : Fin k0_t1_loop.trips) (v126 : IVec S16 32) (v128 : IVec S16 32) (v139 : IVec S16 32) (k0_hw19 : k0_chk19 k0_t1 v126 v128 v139), ∀ (k0_h4 : k0_cond4 k0_t1 = 1#1), ∀ a x, ((![v126, v128, v139] : Fin 3 → IVec S16 32) a x).toNat < S16x64x8.size a := fun k0_t1 v126 v128 v139 k0_hw19 k0_h4 => k0_hw19.1 k0_h4
theorem k0_idx22_inb : ∀ (k0_t1 : Fin k0_t1_loop.trips) (v126 : IVec S16 32) (v128 : IVec S16 32) (v139 : IVec S16 32) (k0_hw19 : k0_chk19 k0_t1 v126 v128 v139), ∀ (k0_h4 : k0_cond4 k0_t1 = 1#1), ∀ a x, ((![v126, v128, v139] : Fin 3 → IVec S16 32) a x).toNat < S16x64x8.size a := fun k0_t1 v126 v128 v139 k0_hw19 k0_h4 => k0_hw19.2 k0_h4

def k0_chk20 (k0_t1 : Fin k0_t1_loop.trips) (v126 : IVec S16 32) (v128 : IVec S16 32) (v143 : IVec S16 32) : Prop :=
  (∀ (k0_h4 : k0_cond4 k0_t1 = 1#1), ∀ a x, ((![v126, v128, v143] : Fin 3 → IVec S16 32) a x).toNat < S16x64x8.size a) ∧
  (∀ (k0_h4 : k0_cond4 k0_t1 = 1#1), ∀ a x, ((![v126, v128, v143] : Fin 3 → IVec S16 32) a x).toNat < S16x64x8.size a)
theorem k0_idx23_inb : ∀ (k0_t1 : Fin k0_t1_loop.trips) (v126 : IVec S16 32) (v128 : IVec S16 32) (v143 : IVec S16 32) (k0_hw20 : k0_chk20 k0_t1 v126 v128 v143), ∀ (k0_h4 : k0_cond4 k0_t1 = 1#1), ∀ a x, ((![v126, v128, v143] : Fin 3 → IVec S16 32) a x).toNat < S16x64x8.size a := fun k0_t1 v126 v128 v143 k0_hw20 k0_h4 => k0_hw20.1 k0_h4
theorem k0_idx24_inb : ∀ (k0_t1 : Fin k0_t1_loop.trips) (v126 : IVec S16 32) (v128 : IVec S16 32) (v143 : IVec S16 32) (k0_hw20 : k0_chk20 k0_t1 v126 v128 v143), ∀ (k0_h4 : k0_cond4 k0_t1 = 1#1), ∀ a x, ((![v126, v128, v143] : Fin 3 → IVec S16 32) a x).toNat < S16x64x8.size a := fun k0_t1 v126 v128 v143 k0_hw20 k0_h4 => k0_hw20.2 k0_h4

def k0_chk21 (k0_t1 : Fin k0_t1_loop.trips) (v126 : IVec S16 32) (v128 : IVec S16 32) (v147 : IVec S16 32) : Prop :=
  (∀ (k0_h4 : k0_cond4 k0_t1 = 1#1), ∀ a x, ((![v126, v128, v147] : Fin 3 → IVec S16 32) a x).toNat < S16x64x8.size a) ∧
  (∀ (k0_h4 : k0_cond4 k0_t1 = 1#1), ∀ a x, ((![v126, v128, v147] : Fin 3 → IVec S16 32) a x).toNat < S16x64x8.size a)
theorem k0_idx25_inb : ∀ (k0_t1 : Fin k0_t1_loop.trips) (v126 : IVec S16 32) (v128 : IVec S16 32) (v147 : IVec S16 32) (k0_hw21 : k0_chk21 k0_t1 v126 v128 v147), ∀ (k0_h4 : k0_cond4 k0_t1 = 1#1), ∀ a x, ((![v126, v128, v147] : Fin 3 → IVec S16 32) a x).toNat < S16x64x8.size a := fun k0_t1 v126 v128 v147 k0_hw21 k0_h4 => k0_hw21.1 k0_h4
theorem k0_idx26_inb : ∀ (k0_t1 : Fin k0_t1_loop.trips) (v126 : IVec S16 32) (v128 : IVec S16 32) (v147 : IVec S16 32) (k0_hw21 : k0_chk21 k0_t1 v126 v128 v147), ∀ (k0_h4 : k0_cond4 k0_t1 = 1#1), ∀ a x, ((![v126, v128, v147] : Fin 3 → IVec S16 32) a x).toNat < S16x64x8.size a := fun k0_t1 v126 v128 v147 k0_hw21 k0_h4 => k0_hw21.2 k0_h4

def k0_chk22 (k0_t1 : Fin k0_t1_loop.trips) (v126 : IVec S16 32) (v128 : IVec S16 32) (v151 : IVec S16 32) : Prop :=
  (∀ (k0_h4 : k0_cond4 k0_t1 = 1#1), ∀ a x, ((![v126, v128, v151] : Fin 3 → IVec S16 32) a x).toNat < S16x64x8.size a) ∧
  (∀ (k0_h4 : k0_cond4 k0_t1 = 1#1), ∀ a x, ((![v126, v128, v151] : Fin 3 → IVec S16 32) a x).toNat < S16x64x8.size a)
theorem k0_idx27_inb : ∀ (k0_t1 : Fin k0_t1_loop.trips) (v126 : IVec S16 32) (v128 : IVec S16 32) (v151 : IVec S16 32) (k0_hw22 : k0_chk22 k0_t1 v126 v128 v151), ∀ (k0_h4 : k0_cond4 k0_t1 = 1#1), ∀ a x, ((![v126, v128, v151] : Fin 3 → IVec S16 32) a x).toNat < S16x64x8.size a := fun k0_t1 v126 v128 v151 k0_hw22 k0_h4 => k0_hw22.1 k0_h4
theorem k0_idx28_inb : ∀ (k0_t1 : Fin k0_t1_loop.trips) (v126 : IVec S16 32) (v128 : IVec S16 32) (v151 : IVec S16 32) (k0_hw22 : k0_chk22 k0_t1 v126 v128 v151), ∀ (k0_h4 : k0_cond4 k0_t1 = 1#1), ∀ a x, ((![v126, v128, v151] : Fin 3 → IVec S16 32) a x).toNat < S16x64x8.size a := fun k0_t1 v126 v128 v151 k0_hw22 k0_h4 => k0_hw22.2 k0_h4

def k0_chk23 (k0_t1 : Fin k0_t1_loop.trips) (v126 : IVec S16 32) (v128 : IVec S16 32) (v155 : IVec S16 32) : Prop :=
  (∀ (k0_h4 : k0_cond4 k0_t1 = 1#1), ∀ a x, ((![v126, v128, v155] : Fin 3 → IVec S16 32) a x).toNat < S16x64x8.size a) ∧
  (∀ (k0_h4 : k0_cond4 k0_t1 = 1#1), ∀ a x, ((![v126, v128, v155] : Fin 3 → IVec S16 32) a x).toNat < S16x64x8.size a)
theorem k0_idx29_inb : ∀ (k0_t1 : Fin k0_t1_loop.trips) (v126 : IVec S16 32) (v128 : IVec S16 32) (v155 : IVec S16 32) (k0_hw23 : k0_chk23 k0_t1 v126 v128 v155), ∀ (k0_h4 : k0_cond4 k0_t1 = 1#1), ∀ a x, ((![v126, v128, v155] : Fin 3 → IVec S16 32) a x).toNat < S16x64x8.size a := fun k0_t1 v126 v128 v155 k0_hw23 k0_h4 => k0_hw23.1 k0_h4
theorem k0_idx30_inb : ∀ (k0_t1 : Fin k0_t1_loop.trips) (v126 : IVec S16 32) (v128 : IVec S16 32) (v155 : IVec S16 32) (k0_hw23 : k0_chk23 k0_t1 v126 v128 v155), ∀ (k0_h4 : k0_cond4 k0_t1 = 1#1), ∀ a x, ((![v126, v128, v155] : Fin 3 → IVec S16 32) a x).toNat < S16x64x8.size a := fun k0_t1 v126 v128 v155 k0_hw23 k0_h4 => k0_hw23.2 k0_h4

def k0_chk24 (k0_t1 : Fin k0_t1_loop.trips) (v126 : IVec S16 32) (v128 : IVec S16 32) (v159 : IVec S16 32) : Prop :=
  (∀ (k0_h4 : k0_cond4 k0_t1 = 1#1), ∀ a x, ((![v126, v128, v159] : Fin 3 → IVec S16 32) a x).toNat < S16x64x8.size a) ∧
  (∀ (k0_h4 : k0_cond4 k0_t1 = 1#1), ∀ a x, ((![v126, v128, v159] : Fin 3 → IVec S16 32) a x).toNat < S16x64x8.size a)
theorem k0_idx31_inb : ∀ (k0_t1 : Fin k0_t1_loop.trips) (v126 : IVec S16 32) (v128 : IVec S16 32) (v159 : IVec S16 32) (k0_hw24 : k0_chk24 k0_t1 v126 v128 v159), ∀ (k0_h4 : k0_cond4 k0_t1 = 1#1), ∀ a x, ((![v126, v128, v159] : Fin 3 → IVec S16 32) a x).toNat < S16x64x8.size a := fun k0_t1 v126 v128 v159 k0_hw24 k0_h4 => k0_hw24.1 k0_h4
theorem k0_idx32_inb : ∀ (k0_t1 : Fin k0_t1_loop.trips) (v126 : IVec S16 32) (v128 : IVec S16 32) (v159 : IVec S16 32) (k0_hw24 : k0_chk24 k0_t1 v126 v128 v159), ∀ (k0_h4 : k0_cond4 k0_t1 = 1#1), ∀ a x, ((![v126, v128, v159] : Fin 3 → IVec S16 32) a x).toNat < S16x64x8.size a := fun k0_t1 v126 v128 v159 k0_hw24 k0_h4 => k0_hw24.2 k0_h4
@[reducible] def k0_t4_loop : Scf.Loop 32 :=
  let c0_i32_83 : BitVec 32 := 0#32
  let c20_i32_84 : BitVec 32 := 20#32
  let v165 : BitVec 32 := Scalar.addi c0_i32_83 c20_i32_84
  let c1_i32_85 : BitVec 32 := 1#32
  ⟨c0_i32_83, v165, c1_i32_85⟩
def k0_off10 (k0_t2 : Fin k0_t2_loop.trips) (k0_t4 : Fin k0_t4_loop.trips) : Fin 3 → Nat :=
  let c0_i32_66 : BitVec 32 := 0#32
  let c1_i32_68 : BitVec 32 := 1#32
  let arg20 : BitVec 32 := Scf.iv c0_i32_66 c1_i32_68 k0_t2
  let v271 : Index := Scalar.indexCast arg20
  let c0_i32_83 : BitVec 32 := 0#32
  let c1_i32_85 : BitVec 32 := 1#32
  let arg21 : BitVec 32 := Scf.iv c0_i32_83 c1_i32_85 k0_t4
  let v272 : Index := Scalar.indexCast arg21
  let c16 : Index := 16#32
  ![v271.toNat, v272.toNat, 16]

def k0_chk25 (k0_t1 : Fin k0_t1_loop.trips) (v273 : IVec S16 32) (v277 : IVec S16 32) : Prop :=
  (∀ (k0_h4 : k0_cond4 k0_t1 = 1#1), ∀ a x, ((![v273, v277] : Fin 2 → IVec S16 32) a x).toNat < S4096x8.size a)
theorem k0_idx33_inb : ∀ (k0_t1 : Fin k0_t1_loop.trips) (v273 : IVec S16 32) (v277 : IVec S16 32) (k0_hw25 : k0_chk25 k0_t1 v273 v277), ∀ (k0_h4 : k0_cond4 k0_t1 = 1#1), ∀ a x, ((![v273, v277] : Fin 2 → IVec S16 32) a x).toNat < S4096x8.size a := fun k0_t1 v273 v277 k0_hw25 k0_h4 => k0_hw25 k0_h4

def k0_chk26 (k0_t1 : Fin k0_t1_loop.trips) (v273 : IVec S16 32) (v282 : IVec S16 32) : Prop :=
  (∀ (k0_h4 : k0_cond4 k0_t1 = 1#1), ∀ a x, ((![v273, v282] : Fin 2 → IVec S16 32) a x).toNat < S4096x8.size a)
theorem k0_idx34_inb : ∀ (k0_t1 : Fin k0_t1_loop.trips) (v273 : IVec S16 32) (v282 : IVec S16 32) (k0_hw26 : k0_chk26 k0_t1 v273 v282), ∀ (k0_h4 : k0_cond4 k0_t1 = 1#1), ∀ a x, ((![v273, v282] : Fin 2 → IVec S16 32) a x).toNat < S4096x8.size a := fun k0_t1 v273 v282 k0_hw26 k0_h4 => k0_hw26 k0_h4

def k0_chk27 (k0_t1 : Fin k0_t1_loop.trips) (v273 : IVec S16 32) (v287 : IVec S16 32) : Prop :=
  (∀ (k0_h4 : k0_cond4 k0_t1 = 1#1), ∀ a x, ((![v273, v287] : Fin 2 → IVec S16 32) a x).toNat < S4096x8.size a)
theorem k0_idx35_inb : ∀ (k0_t1 : Fin k0_t1_loop.trips) (v273 : IVec S16 32) (v287 : IVec S16 32) (k0_hw27 : k0_chk27 k0_t1 v273 v287), ∀ (k0_h4 : k0_cond4 k0_t1 = 1#1), ∀ a x, ((![v273, v287] : Fin 2 → IVec S16 32) a x).toNat < S4096x8.size a := fun k0_t1 v273 v287 k0_hw27 k0_h4 => k0_hw27 k0_h4

def k0_chk28 (k0_t1 : Fin k0_t1_loop.trips) (v273 : IVec S16 32) (v292 : IVec S16 32) : Prop :=
  (∀ (k0_h4 : k0_cond4 k0_t1 = 1#1), ∀ a x, ((![v273, v292] : Fin 2 → IVec S16 32) a x).toNat < S4096x8.size a)
theorem k0_idx36_inb : ∀ (k0_t1 : Fin k0_t1_loop.trips) (v273 : IVec S16 32) (v292 : IVec S16 32) (k0_hw28 : k0_chk28 k0_t1 v273 v292), ∀ (k0_h4 : k0_cond4 k0_t1 = 1#1), ∀ a x, ((![v273, v292] : Fin 2 → IVec S16 32) a x).toNat < S4096x8.size a := fun k0_t1 v273 v292 k0_hw28 k0_h4 => k0_hw28 k0_h4

def k0_chk29 (k0_t1 : Fin k0_t1_loop.trips) (v273 : IVec S16 32) (v297 : IVec S16 32) : Prop :=
  (∀ (k0_h4 : k0_cond4 k0_t1 = 1#1), ∀ a x, ((![v273, v297] : Fin 2 → IVec S16 32) a x).toNat < S4096x8.size a)
theorem k0_idx37_inb : ∀ (k0_t1 : Fin k0_t1_loop.trips) (v273 : IVec S16 32) (v297 : IVec S16 32) (k0_hw29 : k0_chk29 k0_t1 v273 v297), ∀ (k0_h4 : k0_cond4 k0_t1 = 1#1), ∀ a x, ((![v273, v297] : Fin 2 → IVec S16 32) a x).toNat < S4096x8.size a := fun k0_t1 v273 v297 k0_hw29 k0_h4 => k0_hw29 k0_h4

def k0_chk30 (k0_t1 : Fin k0_t1_loop.trips) (v273 : IVec S16 32) (v302 : IVec S16 32) : Prop :=
  (∀ (k0_h4 : k0_cond4 k0_t1 = 1#1), ∀ a x, ((![v273, v302] : Fin 2 → IVec S16 32) a x).toNat < S4096x8.size a)
theorem k0_idx38_inb : ∀ (k0_t1 : Fin k0_t1_loop.trips) (v273 : IVec S16 32) (v302 : IVec S16 32) (k0_hw30 : k0_chk30 k0_t1 v273 v302), ∀ (k0_h4 : k0_cond4 k0_t1 = 1#1), ∀ a x, ((![v273, v302] : Fin 2 → IVec S16 32) a x).toNat < S4096x8.size a := fun k0_t1 v273 v302 k0_hw30 k0_h4 => k0_hw30 k0_h4

def k0_chk31 (k0_t1 : Fin k0_t1_loop.trips) (v273 : IVec S16 32) (v307 : IVec S16 32) : Prop :=
  (∀ (k0_h4 : k0_cond4 k0_t1 = 1#1), ∀ a x, ((![v273, v307] : Fin 2 → IVec S16 32) a x).toNat < S4096x8.size a)
theorem k0_idx39_inb : ∀ (k0_t1 : Fin k0_t1_loop.trips) (v273 : IVec S16 32) (v307 : IVec S16 32) (k0_hw31 : k0_chk31 k0_t1 v273 v307), ∀ (k0_h4 : k0_cond4 k0_t1 = 1#1), ∀ a x, ((![v273, v307] : Fin 2 → IVec S16 32) a x).toNat < S4096x8.size a := fun k0_t1 v273 v307 k0_hw31 k0_h4 => k0_hw31 k0_h4

def k0_chk32 (k0_t1 : Fin k0_t1_loop.trips) (v273 : IVec S16 32) (v312 : IVec S16 32) : Prop :=
  (∀ (k0_h4 : k0_cond4 k0_t1 = 1#1), ∀ a x, ((![v273, v312] : Fin 2 → IVec S16 32) a x).toNat < S4096x8.size a)
theorem k0_idx40_inb : ∀ (k0_t1 : Fin k0_t1_loop.trips) (v273 : IVec S16 32) (v312 : IVec S16 32) (k0_hw32 : k0_chk32 k0_t1 v273 v312), ∀ (k0_h4 : k0_cond4 k0_t1 = 1#1), ∀ a x, ((![v273, v312] : Fin 2 → IVec S16 32) a x).toNat < S4096x8.size a := fun k0_t1 v273 v312 k0_hw32 k0_h4 => k0_hw32 k0_h4

def k0_chk33 (k0_t1 : Fin k0_t1_loop.trips) (v126 : IVec S16 32) (v164 : IVec S16 32) (v167 : IVec S16 32) : Prop :=
  (∀ (k0_h4 : k0_cond4 k0_t1 = 1#1), ∀ a x, ((![v126, v164, v167] : Fin 3 → IVec S16 32) a x).toNat < S16x64x8.size a) ∧
  (∀ (k0_h4 : k0_cond4 k0_t1 = 1#1), ∀ a x, ((![v126, v164, v167] : Fin 3 → IVec S16 32) a x).toNat < S16x64x8.size a)
theorem k0_idx41_inb : ∀ (k0_t1 : Fin k0_t1_loop.trips) (v126 : IVec S16 32) (v164 : IVec S16 32) (v167 : IVec S16 32) (k0_hw33 : k0_chk33 k0_t1 v126 v164 v167), ∀ (k0_h4 : k0_cond4 k0_t1 = 1#1), ∀ a x, ((![v126, v164, v167] : Fin 3 → IVec S16 32) a x).toNat < S16x64x8.size a := fun k0_t1 v126 v164 v167 k0_hw33 k0_h4 => k0_hw33.1 k0_h4
theorem k0_idx42_inb : ∀ (k0_t1 : Fin k0_t1_loop.trips) (v126 : IVec S16 32) (v164 : IVec S16 32) (v167 : IVec S16 32) (k0_hw33 : k0_chk33 k0_t1 v126 v164 v167), ∀ (k0_h4 : k0_cond4 k0_t1 = 1#1), ∀ a x, ((![v126, v164, v167] : Fin 3 → IVec S16 32) a x).toNat < S16x64x8.size a := fun k0_t1 v126 v164 v167 k0_hw33 k0_h4 => k0_hw33.2 k0_h4

def k0_chk34 (k0_t1 : Fin k0_t1_loop.trips) (v126 : IVec S16 32) (v164 : IVec S16 32) (v171 : IVec S16 32) : Prop :=
  (∀ (k0_h4 : k0_cond4 k0_t1 = 1#1), ∀ a x, ((![v126, v164, v171] : Fin 3 → IVec S16 32) a x).toNat < S16x64x8.size a) ∧
  (∀ (k0_h4 : k0_cond4 k0_t1 = 1#1), ∀ a x, ((![v126, v164, v171] : Fin 3 → IVec S16 32) a x).toNat < S16x64x8.size a)
theorem k0_idx43_inb : ∀ (k0_t1 : Fin k0_t1_loop.trips) (v126 : IVec S16 32) (v164 : IVec S16 32) (v171 : IVec S16 32) (k0_hw34 : k0_chk34 k0_t1 v126 v164 v171), ∀ (k0_h4 : k0_cond4 k0_t1 = 1#1), ∀ a x, ((![v126, v164, v171] : Fin 3 → IVec S16 32) a x).toNat < S16x64x8.size a := fun k0_t1 v126 v164 v171 k0_hw34 k0_h4 => k0_hw34.1 k0_h4
theorem k0_idx44_inb : ∀ (k0_t1 : Fin k0_t1_loop.trips) (v126 : IVec S16 32) (v164 : IVec S16 32) (v171 : IVec S16 32) (k0_hw34 : k0_chk34 k0_t1 v126 v164 v171), ∀ (k0_h4 : k0_cond4 k0_t1 = 1#1), ∀ a x, ((![v126, v164, v171] : Fin 3 → IVec S16 32) a x).toNat < S16x64x8.size a := fun k0_t1 v126 v164 v171 k0_hw34 k0_h4 => k0_hw34.2 k0_h4

def k0_chk35 (k0_t1 : Fin k0_t1_loop.trips) (v126 : IVec S16 32) (v164 : IVec S16 32) (v175 : IVec S16 32) : Prop :=
  (∀ (k0_h4 : k0_cond4 k0_t1 = 1#1), ∀ a x, ((![v126, v164, v175] : Fin 3 → IVec S16 32) a x).toNat < S16x64x8.size a) ∧
  (∀ (k0_h4 : k0_cond4 k0_t1 = 1#1), ∀ a x, ((![v126, v164, v175] : Fin 3 → IVec S16 32) a x).toNat < S16x64x8.size a)
theorem k0_idx45_inb : ∀ (k0_t1 : Fin k0_t1_loop.trips) (v126 : IVec S16 32) (v164 : IVec S16 32) (v175 : IVec S16 32) (k0_hw35 : k0_chk35 k0_t1 v126 v164 v175), ∀ (k0_h4 : k0_cond4 k0_t1 = 1#1), ∀ a x, ((![v126, v164, v175] : Fin 3 → IVec S16 32) a x).toNat < S16x64x8.size a := fun k0_t1 v126 v164 v175 k0_hw35 k0_h4 => k0_hw35.1 k0_h4
theorem k0_idx46_inb : ∀ (k0_t1 : Fin k0_t1_loop.trips) (v126 : IVec S16 32) (v164 : IVec S16 32) (v175 : IVec S16 32) (k0_hw35 : k0_chk35 k0_t1 v126 v164 v175), ∀ (k0_h4 : k0_cond4 k0_t1 = 1#1), ∀ a x, ((![v126, v164, v175] : Fin 3 → IVec S16 32) a x).toNat < S16x64x8.size a := fun k0_t1 v126 v164 v175 k0_hw35 k0_h4 => k0_hw35.2 k0_h4

def k0_chk36 (k0_t1 : Fin k0_t1_loop.trips) (v126 : IVec S16 32) (v164 : IVec S16 32) (v179 : IVec S16 32) : Prop :=
  (∀ (k0_h4 : k0_cond4 k0_t1 = 1#1), ∀ a x, ((![v126, v164, v179] : Fin 3 → IVec S16 32) a x).toNat < S16x64x8.size a) ∧
  (∀ (k0_h4 : k0_cond4 k0_t1 = 1#1), ∀ a x, ((![v126, v164, v179] : Fin 3 → IVec S16 32) a x).toNat < S16x64x8.size a)
theorem k0_idx47_inb : ∀ (k0_t1 : Fin k0_t1_loop.trips) (v126 : IVec S16 32) (v164 : IVec S16 32) (v179 : IVec S16 32) (k0_hw36 : k0_chk36 k0_t1 v126 v164 v179), ∀ (k0_h4 : k0_cond4 k0_t1 = 1#1), ∀ a x, ((![v126, v164, v179] : Fin 3 → IVec S16 32) a x).toNat < S16x64x8.size a := fun k0_t1 v126 v164 v179 k0_hw36 k0_h4 => k0_hw36.1 k0_h4
theorem k0_idx48_inb : ∀ (k0_t1 : Fin k0_t1_loop.trips) (v126 : IVec S16 32) (v164 : IVec S16 32) (v179 : IVec S16 32) (k0_hw36 : k0_chk36 k0_t1 v126 v164 v179), ∀ (k0_h4 : k0_cond4 k0_t1 = 1#1), ∀ a x, ((![v126, v164, v179] : Fin 3 → IVec S16 32) a x).toNat < S16x64x8.size a := fun k0_t1 v126 v164 v179 k0_hw36 k0_h4 => k0_hw36.2 k0_h4

def k0_chk37 (k0_t1 : Fin k0_t1_loop.trips) (v126 : IVec S16 32) (v164 : IVec S16 32) (v183 : IVec S16 32) : Prop :=
  (∀ (k0_h4 : k0_cond4 k0_t1 = 1#1), ∀ a x, ((![v126, v164, v183] : Fin 3 → IVec S16 32) a x).toNat < S16x64x8.size a) ∧
  (∀ (k0_h4 : k0_cond4 k0_t1 = 1#1), ∀ a x, ((![v126, v164, v183] : Fin 3 → IVec S16 32) a x).toNat < S16x64x8.size a)
theorem k0_idx49_inb : ∀ (k0_t1 : Fin k0_t1_loop.trips) (v126 : IVec S16 32) (v164 : IVec S16 32) (v183 : IVec S16 32) (k0_hw37 : k0_chk37 k0_t1 v126 v164 v183), ∀ (k0_h4 : k0_cond4 k0_t1 = 1#1), ∀ a x, ((![v126, v164, v183] : Fin 3 → IVec S16 32) a x).toNat < S16x64x8.size a := fun k0_t1 v126 v164 v183 k0_hw37 k0_h4 => k0_hw37.1 k0_h4
theorem k0_idx50_inb : ∀ (k0_t1 : Fin k0_t1_loop.trips) (v126 : IVec S16 32) (v164 : IVec S16 32) (v183 : IVec S16 32) (k0_hw37 : k0_chk37 k0_t1 v126 v164 v183), ∀ (k0_h4 : k0_cond4 k0_t1 = 1#1), ∀ a x, ((![v126, v164, v183] : Fin 3 → IVec S16 32) a x).toNat < S16x64x8.size a := fun k0_t1 v126 v164 v183 k0_hw37 k0_h4 => k0_hw37.2 k0_h4

def k0_chk38 (k0_t1 : Fin k0_t1_loop.trips) (v126 : IVec S16 32) (v164 : IVec S16 32) (v187 : IVec S16 32) : Prop :=
  (∀ (k0_h4 : k0_cond4 k0_t1 = 1#1), ∀ a x, ((![v126, v164, v187] : Fin 3 → IVec S16 32) a x).toNat < S16x64x8.size a) ∧
  (∀ (k0_h4 : k0_cond4 k0_t1 = 1#1), ∀ a x, ((![v126, v164, v187] : Fin 3 → IVec S16 32) a x).toNat < S16x64x8.size a)
theorem k0_idx51_inb : ∀ (k0_t1 : Fin k0_t1_loop.trips) (v126 : IVec S16 32) (v164 : IVec S16 32) (v187 : IVec S16 32) (k0_hw38 : k0_chk38 k0_t1 v126 v164 v187), ∀ (k0_h4 : k0_cond4 k0_t1 = 1#1), ∀ a x, ((![v126, v164, v187] : Fin 3 → IVec S16 32) a x).toNat < S16x64x8.size a := fun k0_t1 v126 v164 v187 k0_hw38 k0_h4 => k0_hw38.1 k0_h4
theorem k0_idx52_inb : ∀ (k0_t1 : Fin k0_t1_loop.trips) (v126 : IVec S16 32) (v164 : IVec S16 32) (v187 : IVec S16 32) (k0_hw38 : k0_chk38 k0_t1 v126 v164 v187), ∀ (k0_h4 : k0_cond4 k0_t1 = 1#1), ∀ a x, ((![v126, v164, v187] : Fin 3 → IVec S16 32) a x).toNat < S16x64x8.size a := fun k0_t1 v126 v164 v187 k0_hw38 k0_h4 => k0_hw38.2 k0_h4

def k0_chk39 (k0_t1 : Fin k0_t1_loop.trips) (v126 : IVec S16 32) (v164 : IVec S16 32) (v191 : IVec S16 32) : Prop :=
  (∀ (k0_h4 : k0_cond4 k0_t1 = 1#1), ∀ a x, ((![v126, v164, v191] : Fin 3 → IVec S16 32) a x).toNat < S16x64x8.size a) ∧
  (∀ (k0_h4 : k0_cond4 k0_t1 = 1#1), ∀ a x, ((![v126, v164, v191] : Fin 3 → IVec S16 32) a x).toNat < S16x64x8.size a)
theorem k0_idx53_inb : ∀ (k0_t1 : Fin k0_t1_loop.trips) (v126 : IVec S16 32) (v164 : IVec S16 32) (v191 : IVec S16 32) (k0_hw39 : k0_chk39 k0_t1 v126 v164 v191), ∀ (k0_h4 : k0_cond4 k0_t1 = 1#1), ∀ a x, ((![v126, v164, v191] : Fin 3 → IVec S16 32) a x).toNat < S16x64x8.size a := fun k0_t1 v126 v164 v191 k0_hw39 k0_h4 => k0_hw39.1 k0_h4
theorem k0_idx54_inb : ∀ (k0_t1 : Fin k0_t1_loop.trips) (v126 : IVec S16 32) (v164 : IVec S16 32) (v191 : IVec S16 32) (k0_hw39 : k0_chk39 k0_t1 v126 v164 v191), ∀ (k0_h4 : k0_cond4 k0_t1 = 1#1), ∀ a x, ((![v126, v164, v191] : Fin 3 → IVec S16 32) a x).toNat < S16x64x8.size a := fun k0_t1 v126 v164 v191 k0_hw39 k0_h4 => k0_hw39.2 k0_h4

def k0_chk40 (k0_t1 : Fin k0_t1_loop.trips) (v126 : IVec S16 32) (v164 : IVec S16 32) (v195 : IVec S16 32) : Prop :=
  (∀ (k0_h4 : k0_cond4 k0_t1 = 1#1), ∀ a x, ((![v126, v164, v195] : Fin 3 → IVec S16 32) a x).toNat < S16x64x8.size a) ∧
  (∀ (k0_h4 : k0_cond4 k0_t1 = 1#1), ∀ a x, ((![v126, v164, v195] : Fin 3 → IVec S16 32) a x).toNat < S16x64x8.size a)
theorem k0_idx55_inb : ∀ (k0_t1 : Fin k0_t1_loop.trips) (v126 : IVec S16 32) (v164 : IVec S16 32) (v195 : IVec S16 32) (k0_hw40 : k0_chk40 k0_t1 v126 v164 v195), ∀ (k0_h4 : k0_cond4 k0_t1 = 1#1), ∀ a x, ((![v126, v164, v195] : Fin 3 → IVec S16 32) a x).toNat < S16x64x8.size a := fun k0_t1 v126 v164 v195 k0_hw40 k0_h4 => k0_hw40.1 k0_h4
theorem k0_idx56_inb : ∀ (k0_t1 : Fin k0_t1_loop.trips) (v126 : IVec S16 32) (v164 : IVec S16 32) (v195 : IVec S16 32) (k0_hw40 : k0_chk40 k0_t1 v126 v164 v195), ∀ (k0_h4 : k0_cond4 k0_t1 = 1#1), ∀ a x, ((![v126, v164, v195] : Fin 3 → IVec S16 32) a x).toNat < S16x64x8.size a := fun k0_t1 v126 v164 v195 k0_hw40 k0_h4 => k0_hw40.2 k0_h4
@[reducible] def k0_t5_loop : Scf.Loop 32 :=
  let c0_i32_96 : BitVec 32 := 0#32
  let c20_i32_97 : BitVec 32 := 20#32
  let v201 : BitVec 32 := Scalar.addi c0_i32_96 c20_i32_97
  let c1_i32_98 : BitVec 32 := 1#32
  ⟨c0_i32_96, v201, c1_i32_98⟩
def k0_off11 (k0_t2 : Fin k0_t2_loop.trips) (k0_t5 : Fin k0_t5_loop.trips) : Fin 3 → Nat :=
  let c0_i32_66 : BitVec 32 := 0#32
  let c1_i32_68 : BitVec 32 := 1#32
  let arg20 : BitVec 32 := Scf.iv c0_i32_66 c1_i32_68 k0_t2
  let v271 : Index := Scalar.indexCast arg20
  let c0_i32_96 : BitVec 32 := 0#32
  let c1_i32_98 : BitVec 32 := 1#32
  let arg21 : BitVec 32 := Scf.iv c0_i32_96 c1_i32_98 k0_t5
  let v272 : Index := Scalar.indexCast arg21
  let c32 : Index := 32#32
  ![v271.toNat, v272.toNat, 32]

def k0_chk41 (k0_t1 : Fin k0_t1_loop.trips) (v273 : IVec S16 32) (v277 : IVec S16 32) : Prop :=
  (∀ (k0_h4 : k0_cond4 k0_t1 = 1#1), ∀ a x, ((![v273, v277] : Fin 2 → IVec S16 32) a x).toNat < S4096x8.size a)
theorem k0_idx57_inb : ∀ (k0_t1 : Fin k0_t1_loop.trips) (v273 : IVec S16 32) (v277 : IVec S16 32) (k0_hw41 : k0_chk41 k0_t1 v273 v277), ∀ (k0_h4 : k0_cond4 k0_t1 = 1#1), ∀ a x, ((![v273, v277] : Fin 2 → IVec S16 32) a x).toNat < S4096x8.size a := fun k0_t1 v273 v277 k0_hw41 k0_h4 => k0_hw41 k0_h4

def k0_chk42 (k0_t1 : Fin k0_t1_loop.trips) (v273 : IVec S16 32) (v282 : IVec S16 32) : Prop :=
  (∀ (k0_h4 : k0_cond4 k0_t1 = 1#1), ∀ a x, ((![v273, v282] : Fin 2 → IVec S16 32) a x).toNat < S4096x8.size a)
theorem k0_idx58_inb : ∀ (k0_t1 : Fin k0_t1_loop.trips) (v273 : IVec S16 32) (v282 : IVec S16 32) (k0_hw42 : k0_chk42 k0_t1 v273 v282), ∀ (k0_h4 : k0_cond4 k0_t1 = 1#1), ∀ a x, ((![v273, v282] : Fin 2 → IVec S16 32) a x).toNat < S4096x8.size a := fun k0_t1 v273 v282 k0_hw42 k0_h4 => k0_hw42 k0_h4

def k0_chk43 (k0_t1 : Fin k0_t1_loop.trips) (v273 : IVec S16 32) (v287 : IVec S16 32) : Prop :=
  (∀ (k0_h4 : k0_cond4 k0_t1 = 1#1), ∀ a x, ((![v273, v287] : Fin 2 → IVec S16 32) a x).toNat < S4096x8.size a)
theorem k0_idx59_inb : ∀ (k0_t1 : Fin k0_t1_loop.trips) (v273 : IVec S16 32) (v287 : IVec S16 32) (k0_hw43 : k0_chk43 k0_t1 v273 v287), ∀ (k0_h4 : k0_cond4 k0_t1 = 1#1), ∀ a x, ((![v273, v287] : Fin 2 → IVec S16 32) a x).toNat < S4096x8.size a := fun k0_t1 v273 v287 k0_hw43 k0_h4 => k0_hw43 k0_h4

def k0_chk44 (k0_t1 : Fin k0_t1_loop.trips) (v273 : IVec S16 32) (v292 : IVec S16 32) : Prop :=
  (∀ (k0_h4 : k0_cond4 k0_t1 = 1#1), ∀ a x, ((![v273, v292] : Fin 2 → IVec S16 32) a x).toNat < S4096x8.size a)
theorem k0_idx60_inb : ∀ (k0_t1 : Fin k0_t1_loop.trips) (v273 : IVec S16 32) (v292 : IVec S16 32) (k0_hw44 : k0_chk44 k0_t1 v273 v292), ∀ (k0_h4 : k0_cond4 k0_t1 = 1#1), ∀ a x, ((![v273, v292] : Fin 2 → IVec S16 32) a x).toNat < S4096x8.size a := fun k0_t1 v273 v292 k0_hw44 k0_h4 => k0_hw44 k0_h4

def k0_chk45 (k0_t1 : Fin k0_t1_loop.trips) (v273 : IVec S16 32) (v297 : IVec S16 32) : Prop :=
  (∀ (k0_h4 : k0_cond4 k0_t1 = 1#1), ∀ a x, ((![v273, v297] : Fin 2 → IVec S16 32) a x).toNat < S4096x8.size a)
theorem k0_idx61_inb : ∀ (k0_t1 : Fin k0_t1_loop.trips) (v273 : IVec S16 32) (v297 : IVec S16 32) (k0_hw45 : k0_chk45 k0_t1 v273 v297), ∀ (k0_h4 : k0_cond4 k0_t1 = 1#1), ∀ a x, ((![v273, v297] : Fin 2 → IVec S16 32) a x).toNat < S4096x8.size a := fun k0_t1 v273 v297 k0_hw45 k0_h4 => k0_hw45 k0_h4

def k0_chk46 (k0_t1 : Fin k0_t1_loop.trips) (v273 : IVec S16 32) (v302 : IVec S16 32) : Prop :=
  (∀ (k0_h4 : k0_cond4 k0_t1 = 1#1), ∀ a x, ((![v273, v302] : Fin 2 → IVec S16 32) a x).toNat < S4096x8.size a)
theorem k0_idx62_inb : ∀ (k0_t1 : Fin k0_t1_loop.trips) (v273 : IVec S16 32) (v302 : IVec S16 32) (k0_hw46 : k0_chk46 k0_t1 v273 v302), ∀ (k0_h4 : k0_cond4 k0_t1 = 1#1), ∀ a x, ((![v273, v302] : Fin 2 → IVec S16 32) a x).toNat < S4096x8.size a := fun k0_t1 v273 v302 k0_hw46 k0_h4 => k0_hw46 k0_h4

def k0_chk47 (k0_t1 : Fin k0_t1_loop.trips) (v273 : IVec S16 32) (v307 : IVec S16 32) : Prop :=
  (∀ (k0_h4 : k0_cond4 k0_t1 = 1#1), ∀ a x, ((![v273, v307] : Fin 2 → IVec S16 32) a x).toNat < S4096x8.size a)
theorem k0_idx63_inb : ∀ (k0_t1 : Fin k0_t1_loop.trips) (v273 : IVec S16 32) (v307 : IVec S16 32) (k0_hw47 : k0_chk47 k0_t1 v273 v307), ∀ (k0_h4 : k0_cond4 k0_t1 = 1#1), ∀ a x, ((![v273, v307] : Fin 2 → IVec S16 32) a x).toNat < S4096x8.size a := fun k0_t1 v273 v307 k0_hw47 k0_h4 => k0_hw47 k0_h4

def k0_chk48 (k0_t1 : Fin k0_t1_loop.trips) (v273 : IVec S16 32) (v312 : IVec S16 32) : Prop :=
  (∀ (k0_h4 : k0_cond4 k0_t1 = 1#1), ∀ a x, ((![v273, v312] : Fin 2 → IVec S16 32) a x).toNat < S4096x8.size a)
theorem k0_idx64_inb : ∀ (k0_t1 : Fin k0_t1_loop.trips) (v273 : IVec S16 32) (v312 : IVec S16 32) (k0_hw48 : k0_chk48 k0_t1 v273 v312), ∀ (k0_h4 : k0_cond4 k0_t1 = 1#1), ∀ a x, ((![v273, v312] : Fin 2 → IVec S16 32) a x).toNat < S4096x8.size a := fun k0_t1 v273 v312 k0_hw48 k0_h4 => k0_hw48 k0_h4

def k0_chk49 (k0_t1 : Fin k0_t1_loop.trips) (v126 : IVec S16 32) (v200 : IVec S16 32) (v203 : IVec S16 32) : Prop :=
  (∀ (k0_h4 : k0_cond4 k0_t1 = 1#1), ∀ a x, ((![v126, v200, v203] : Fin 3 → IVec S16 32) a x).toNat < S16x64x8.size a) ∧
  (∀ (k0_h4 : k0_cond4 k0_t1 = 1#1), ∀ a x, ((![v126, v200, v203] : Fin 3 → IVec S16 32) a x).toNat < S16x64x8.size a)
theorem k0_idx65_inb : ∀ (k0_t1 : Fin k0_t1_loop.trips) (v126 : IVec S16 32) (v200 : IVec S16 32) (v203 : IVec S16 32) (k0_hw49 : k0_chk49 k0_t1 v126 v200 v203), ∀ (k0_h4 : k0_cond4 k0_t1 = 1#1), ∀ a x, ((![v126, v200, v203] : Fin 3 → IVec S16 32) a x).toNat < S16x64x8.size a := fun k0_t1 v126 v200 v203 k0_hw49 k0_h4 => k0_hw49.1 k0_h4
theorem k0_idx66_inb : ∀ (k0_t1 : Fin k0_t1_loop.trips) (v126 : IVec S16 32) (v200 : IVec S16 32) (v203 : IVec S16 32) (k0_hw49 : k0_chk49 k0_t1 v126 v200 v203), ∀ (k0_h4 : k0_cond4 k0_t1 = 1#1), ∀ a x, ((![v126, v200, v203] : Fin 3 → IVec S16 32) a x).toNat < S16x64x8.size a := fun k0_t1 v126 v200 v203 k0_hw49 k0_h4 => k0_hw49.2 k0_h4

def k0_chk50 (k0_t1 : Fin k0_t1_loop.trips) (v126 : IVec S16 32) (v200 : IVec S16 32) (v207 : IVec S16 32) : Prop :=
  (∀ (k0_h4 : k0_cond4 k0_t1 = 1#1), ∀ a x, ((![v126, v200, v207] : Fin 3 → IVec S16 32) a x).toNat < S16x64x8.size a) ∧
  (∀ (k0_h4 : k0_cond4 k0_t1 = 1#1), ∀ a x, ((![v126, v200, v207] : Fin 3 → IVec S16 32) a x).toNat < S16x64x8.size a)
theorem k0_idx67_inb : ∀ (k0_t1 : Fin k0_t1_loop.trips) (v126 : IVec S16 32) (v200 : IVec S16 32) (v207 : IVec S16 32) (k0_hw50 : k0_chk50 k0_t1 v126 v200 v207), ∀ (k0_h4 : k0_cond4 k0_t1 = 1#1), ∀ a x, ((![v126, v200, v207] : Fin 3 → IVec S16 32) a x).toNat < S16x64x8.size a := fun k0_t1 v126 v200 v207 k0_hw50 k0_h4 => k0_hw50.1 k0_h4
theorem k0_idx68_inb : ∀ (k0_t1 : Fin k0_t1_loop.trips) (v126 : IVec S16 32) (v200 : IVec S16 32) (v207 : IVec S16 32) (k0_hw50 : k0_chk50 k0_t1 v126 v200 v207), ∀ (k0_h4 : k0_cond4 k0_t1 = 1#1), ∀ a x, ((![v126, v200, v207] : Fin 3 → IVec S16 32) a x).toNat < S16x64x8.size a := fun k0_t1 v126 v200 v207 k0_hw50 k0_h4 => k0_hw50.2 k0_h4

def k0_chk51 (k0_t1 : Fin k0_t1_loop.trips) (v126 : IVec S16 32) (v200 : IVec S16 32) (v211 : IVec S16 32) : Prop :=
  (∀ (k0_h4 : k0_cond4 k0_t1 = 1#1), ∀ a x, ((![v126, v200, v211] : Fin 3 → IVec S16 32) a x).toNat < S16x64x8.size a) ∧
  (∀ (k0_h4 : k0_cond4 k0_t1 = 1#1), ∀ a x, ((![v126, v200, v211] : Fin 3 → IVec S16 32) a x).toNat < S16x64x8.size a)
theorem k0_idx69_inb : ∀ (k0_t1 : Fin k0_t1_loop.trips) (v126 : IVec S16 32) (v200 : IVec S16 32) (v211 : IVec S16 32) (k0_hw51 : k0_chk51 k0_t1 v126 v200 v211), ∀ (k0_h4 : k0_cond4 k0_t1 = 1#1), ∀ a x, ((![v126, v200, v211] : Fin 3 → IVec S16 32) a x).toNat < S16x64x8.size a := fun k0_t1 v126 v200 v211 k0_hw51 k0_h4 => k0_hw51.1 k0_h4
theorem k0_idx70_inb : ∀ (k0_t1 : Fin k0_t1_loop.trips) (v126 : IVec S16 32) (v200 : IVec S16 32) (v211 : IVec S16 32) (k0_hw51 : k0_chk51 k0_t1 v126 v200 v211), ∀ (k0_h4 : k0_cond4 k0_t1 = 1#1), ∀ a x, ((![v126, v200, v211] : Fin 3 → IVec S16 32) a x).toNat < S16x64x8.size a := fun k0_t1 v126 v200 v211 k0_hw51 k0_h4 => k0_hw51.2 k0_h4

def k0_chk52 (k0_t1 : Fin k0_t1_loop.trips) (v126 : IVec S16 32) (v200 : IVec S16 32) (v215 : IVec S16 32) : Prop :=
  (∀ (k0_h4 : k0_cond4 k0_t1 = 1#1), ∀ a x, ((![v126, v200, v215] : Fin 3 → IVec S16 32) a x).toNat < S16x64x8.size a) ∧
  (∀ (k0_h4 : k0_cond4 k0_t1 = 1#1), ∀ a x, ((![v126, v200, v215] : Fin 3 → IVec S16 32) a x).toNat < S16x64x8.size a)
theorem k0_idx71_inb : ∀ (k0_t1 : Fin k0_t1_loop.trips) (v126 : IVec S16 32) (v200 : IVec S16 32) (v215 : IVec S16 32) (k0_hw52 : k0_chk52 k0_t1 v126 v200 v215), ∀ (k0_h4 : k0_cond4 k0_t1 = 1#1), ∀ a x, ((![v126, v200, v215] : Fin 3 → IVec S16 32) a x).toNat < S16x64x8.size a := fun k0_t1 v126 v200 v215 k0_hw52 k0_h4 => k0_hw52.1 k0_h4
theorem k0_idx72_inb : ∀ (k0_t1 : Fin k0_t1_loop.trips) (v126 : IVec S16 32) (v200 : IVec S16 32) (v215 : IVec S16 32) (k0_hw52 : k0_chk52 k0_t1 v126 v200 v215), ∀ (k0_h4 : k0_cond4 k0_t1 = 1#1), ∀ a x, ((![v126, v200, v215] : Fin 3 → IVec S16 32) a x).toNat < S16x64x8.size a := fun k0_t1 v126 v200 v215 k0_hw52 k0_h4 => k0_hw52.2 k0_h4

def k0_chk53 (k0_t1 : Fin k0_t1_loop.trips) (v126 : IVec S16 32) (v200 : IVec S16 32) (v219 : IVec S16 32) : Prop :=
  (∀ (k0_h4 : k0_cond4 k0_t1 = 1#1), ∀ a x, ((![v126, v200, v219] : Fin 3 → IVec S16 32) a x).toNat < S16x64x8.size a) ∧
  (∀ (k0_h4 : k0_cond4 k0_t1 = 1#1), ∀ a x, ((![v126, v200, v219] : Fin 3 → IVec S16 32) a x).toNat < S16x64x8.size a)
theorem k0_idx73_inb : ∀ (k0_t1 : Fin k0_t1_loop.trips) (v126 : IVec S16 32) (v200 : IVec S16 32) (v219 : IVec S16 32) (k0_hw53 : k0_chk53 k0_t1 v126 v200 v219), ∀ (k0_h4 : k0_cond4 k0_t1 = 1#1), ∀ a x, ((![v126, v200, v219] : Fin 3 → IVec S16 32) a x).toNat < S16x64x8.size a := fun k0_t1 v126 v200 v219 k0_hw53 k0_h4 => k0_hw53.1 k0_h4
theorem k0_idx74_inb : ∀ (k0_t1 : Fin k0_t1_loop.trips) (v126 : IVec S16 32) (v200 : IVec S16 32) (v219 : IVec S16 32) (k0_hw53 : k0_chk53 k0_t1 v126 v200 v219), ∀ (k0_h4 : k0_cond4 k0_t1 = 1#1), ∀ a x, ((![v126, v200, v219] : Fin 3 → IVec S16 32) a x).toNat < S16x64x8.size a := fun k0_t1 v126 v200 v219 k0_hw53 k0_h4 => k0_hw53.2 k0_h4

def k0_chk54 (k0_t1 : Fin k0_t1_loop.trips) (v126 : IVec S16 32) (v200 : IVec S16 32) (v223 : IVec S16 32) : Prop :=
  (∀ (k0_h4 : k0_cond4 k0_t1 = 1#1), ∀ a x, ((![v126, v200, v223] : Fin 3 → IVec S16 32) a x).toNat < S16x64x8.size a) ∧
  (∀ (k0_h4 : k0_cond4 k0_t1 = 1#1), ∀ a x, ((![v126, v200, v223] : Fin 3 → IVec S16 32) a x).toNat < S16x64x8.size a)
theorem k0_idx75_inb : ∀ (k0_t1 : Fin k0_t1_loop.trips) (v126 : IVec S16 32) (v200 : IVec S16 32) (v223 : IVec S16 32) (k0_hw54 : k0_chk54 k0_t1 v126 v200 v223), ∀ (k0_h4 : k0_cond4 k0_t1 = 1#1), ∀ a x, ((![v126, v200, v223] : Fin 3 → IVec S16 32) a x).toNat < S16x64x8.size a := fun k0_t1 v126 v200 v223 k0_hw54 k0_h4 => k0_hw54.1 k0_h4
theorem k0_idx76_inb : ∀ (k0_t1 : Fin k0_t1_loop.trips) (v126 : IVec S16 32) (v200 : IVec S16 32) (v223 : IVec S16 32) (k0_hw54 : k0_chk54 k0_t1 v126 v200 v223), ∀ (k0_h4 : k0_cond4 k0_t1 = 1#1), ∀ a x, ((![v126, v200, v223] : Fin 3 → IVec S16 32) a x).toNat < S16x64x8.size a := fun k0_t1 v126 v200 v223 k0_hw54 k0_h4 => k0_hw54.2 k0_h4

def k0_chk55 (k0_t1 : Fin k0_t1_loop.trips) (v126 : IVec S16 32) (v200 : IVec S16 32) (v227 : IVec S16 32) : Prop :=
  (∀ (k0_h4 : k0_cond4 k0_t1 = 1#1), ∀ a x, ((![v126, v200, v227] : Fin 3 → IVec S16 32) a x).toNat < S16x64x8.size a) ∧
  (∀ (k0_h4 : k0_cond4 k0_t1 = 1#1), ∀ a x, ((![v126, v200, v227] : Fin 3 → IVec S16 32) a x).toNat < S16x64x8.size a)
theorem k0_idx77_inb : ∀ (k0_t1 : Fin k0_t1_loop.trips) (v126 : IVec S16 32) (v200 : IVec S16 32) (v227 : IVec S16 32) (k0_hw55 : k0_chk55 k0_t1 v126 v200 v227), ∀ (k0_h4 : k0_cond4 k0_t1 = 1#1), ∀ a x, ((![v126, v200, v227] : Fin 3 → IVec S16 32) a x).toNat < S16x64x8.size a := fun k0_t1 v126 v200 v227 k0_hw55 k0_h4 => k0_hw55.1 k0_h4
theorem k0_idx78_inb : ∀ (k0_t1 : Fin k0_t1_loop.trips) (v126 : IVec S16 32) (v200 : IVec S16 32) (v227 : IVec S16 32) (k0_hw55 : k0_chk55 k0_t1 v126 v200 v227), ∀ (k0_h4 : k0_cond4 k0_t1 = 1#1), ∀ a x, ((![v126, v200, v227] : Fin 3 → IVec S16 32) a x).toNat < S16x64x8.size a := fun k0_t1 v126 v200 v227 k0_hw55 k0_h4 => k0_hw55.2 k0_h4

def k0_chk56 (k0_t1 : Fin k0_t1_loop.trips) (v126 : IVec S16 32) (v200 : IVec S16 32) (v231 : IVec S16 32) : Prop :=
  (∀ (k0_h4 : k0_cond4 k0_t1 = 1#1), ∀ a x, ((![v126, v200, v231] : Fin 3 → IVec S16 32) a x).toNat < S16x64x8.size a) ∧
  (∀ (k0_h4 : k0_cond4 k0_t1 = 1#1), ∀ a x, ((![v126, v200, v231] : Fin 3 → IVec S16 32) a x).toNat < S16x64x8.size a)
theorem k0_idx79_inb : ∀ (k0_t1 : Fin k0_t1_loop.trips) (v126 : IVec S16 32) (v200 : IVec S16 32) (v231 : IVec S16 32) (k0_hw56 : k0_chk56 k0_t1 v126 v200 v231), ∀ (k0_h4 : k0_cond4 k0_t1 = 1#1), ∀ a x, ((![v126, v200, v231] : Fin 3 → IVec S16 32) a x).toNat < S16x64x8.size a := fun k0_t1 v126 v200 v231 k0_hw56 k0_h4 => k0_hw56.1 k0_h4
theorem k0_idx80_inb : ∀ (k0_t1 : Fin k0_t1_loop.trips) (v126 : IVec S16 32) (v200 : IVec S16 32) (v231 : IVec S16 32) (k0_hw56 : k0_chk56 k0_t1 v126 v200 v231), ∀ (k0_h4 : k0_cond4 k0_t1 = 1#1), ∀ a x, ((![v126, v200, v231] : Fin 3 → IVec S16 32) a x).toNat < S16x64x8.size a := fun k0_t1 v126 v200 v231 k0_hw56 k0_h4 => k0_hw56.2 k0_h4
@[reducible] def k0_t6_loop : Scf.Loop 32 :=
  let c0_i32_108 : BitVec 32 := 0#32
  let c20_i32_109 : BitVec 32 := 20#32
  let v237 : BitVec 32 := Scalar.addi c0_i32_108 c20_i32_109
  let c1_i32_110 : BitVec 32 := 1#32
  ⟨c0_i32_108, v237, c1_i32_110⟩
def k0_off12 (k0_t2 : Fin k0_t2_loop.trips) (k0_t6 : Fin k0_t6_loop.trips) : Fin 3 → Nat :=
  let c0_i32_66 : BitVec 32 := 0#32
  let c1_i32_68 : BitVec 32 := 1#32
  let arg20 : BitVec 32 := Scf.iv c0_i32_66 c1_i32_68 k0_t2
  let v271 : Index := Scalar.indexCast arg20
  let c0_i32_108 : BitVec 32 := 0#32
  let c1_i32_110 : BitVec 32 := 1#32
  let arg21 : BitVec 32 := Scf.iv c0_i32_108 c1_i32_110 k0_t6
  let v272 : Index := Scalar.indexCast arg21
  let c48 : Index := 48#32
  ![v271.toNat, v272.toNat, 48]

def k0_chk57 (k0_t1 : Fin k0_t1_loop.trips) (v273 : IVec S16 32) (v277 : IVec S16 32) : Prop :=
  (∀ (k0_h4 : k0_cond4 k0_t1 = 1#1), ∀ a x, ((![v273, v277] : Fin 2 → IVec S16 32) a x).toNat < S4096x8.size a)
theorem k0_idx81_inb : ∀ (k0_t1 : Fin k0_t1_loop.trips) (v273 : IVec S16 32) (v277 : IVec S16 32) (k0_hw57 : k0_chk57 k0_t1 v273 v277), ∀ (k0_h4 : k0_cond4 k0_t1 = 1#1), ∀ a x, ((![v273, v277] : Fin 2 → IVec S16 32) a x).toNat < S4096x8.size a := fun k0_t1 v273 v277 k0_hw57 k0_h4 => k0_hw57 k0_h4

def k0_chk58 (k0_t1 : Fin k0_t1_loop.trips) (v273 : IVec S16 32) (v282 : IVec S16 32) : Prop :=
  (∀ (k0_h4 : k0_cond4 k0_t1 = 1#1), ∀ a x, ((![v273, v282] : Fin 2 → IVec S16 32) a x).toNat < S4096x8.size a)
theorem k0_idx82_inb : ∀ (k0_t1 : Fin k0_t1_loop.trips) (v273 : IVec S16 32) (v282 : IVec S16 32) (k0_hw58 : k0_chk58 k0_t1 v273 v282), ∀ (k0_h4 : k0_cond4 k0_t1 = 1#1), ∀ a x, ((![v273, v282] : Fin 2 → IVec S16 32) a x).toNat < S4096x8.size a := fun k0_t1 v273 v282 k0_hw58 k0_h4 => k0_hw58 k0_h4

def k0_chk59 (k0_t1 : Fin k0_t1_loop.trips) (v273 : IVec S16 32) (v287 : IVec S16 32) : Prop :=
  (∀ (k0_h4 : k0_cond4 k0_t1 = 1#1), ∀ a x, ((![v273, v287] : Fin 2 → IVec S16 32) a x).toNat < S4096x8.size a)
theorem k0_idx83_inb : ∀ (k0_t1 : Fin k0_t1_loop.trips) (v273 : IVec S16 32) (v287 : IVec S16 32) (k0_hw59 : k0_chk59 k0_t1 v273 v287), ∀ (k0_h4 : k0_cond4 k0_t1 = 1#1), ∀ a x, ((![v273, v287] : Fin 2 → IVec S16 32) a x).toNat < S4096x8.size a := fun k0_t1 v273 v287 k0_hw59 k0_h4 => k0_hw59 k0_h4

def k0_chk60 (k0_t1 : Fin k0_t1_loop.trips) (v273 : IVec S16 32) (v292 : IVec S16 32) : Prop :=
  (∀ (k0_h4 : k0_cond4 k0_t1 = 1#1), ∀ a x, ((![v273, v292] : Fin 2 → IVec S16 32) a x).toNat < S4096x8.size a)
theorem k0_idx84_inb : ∀ (k0_t1 : Fin k0_t1_loop.trips) (v273 : IVec S16 32) (v292 : IVec S16 32) (k0_hw60 : k0_chk60 k0_t1 v273 v292), ∀ (k0_h4 : k0_cond4 k0_t1 = 1#1), ∀ a x, ((![v273, v292] : Fin 2 → IVec S16 32) a x).toNat < S4096x8.size a := fun k0_t1 v273 v292 k0_hw60 k0_h4 => k0_hw60 k0_h4

def k0_chk61 (k0_t1 : Fin k0_t1_loop.trips) (v273 : IVec S16 32) (v297 : IVec S16 32) : Prop :=
  (∀ (k0_h4 : k0_cond4 k0_t1 = 1#1), ∀ a x, ((![v273, v297] : Fin 2 → IVec S16 32) a x).toNat < S4096x8.size a)
theorem k0_idx85_inb : ∀ (k0_t1 : Fin k0_t1_loop.trips) (v273 : IVec S16 32) (v297 : IVec S16 32) (k0_hw61 : k0_chk61 k0_t1 v273 v297), ∀ (k0_h4 : k0_cond4 k0_t1 = 1#1), ∀ a x, ((![v273, v297] : Fin 2 → IVec S16 32) a x).toNat < S4096x8.size a := fun k0_t1 v273 v297 k0_hw61 k0_h4 => k0_hw61 k0_h4

def k0_chk62 (k0_t1 : Fin k0_t1_loop.trips) (v273 : IVec S16 32) (v302 : IVec S16 32) : Prop :=
  (∀ (k0_h4 : k0_cond4 k0_t1 = 1#1), ∀ a x, ((![v273, v302] : Fin 2 → IVec S16 32) a x).toNat < S4096x8.size a)
theorem k0_idx86_inb : ∀ (k0_t1 : Fin k0_t1_loop.trips) (v273 : IVec S16 32) (v302 : IVec S16 32) (k0_hw62 : k0_chk62 k0_t1 v273 v302), ∀ (k0_h4 : k0_cond4 k0_t1 = 1#1), ∀ a x, ((![v273, v302] : Fin 2 → IVec S16 32) a x).toNat < S4096x8.size a := fun k0_t1 v273 v302 k0_hw62 k0_h4 => k0_hw62 k0_h4

def k0_chk63 (k0_t1 : Fin k0_t1_loop.trips) (v273 : IVec S16 32) (v307 : IVec S16 32) : Prop :=
  (∀ (k0_h4 : k0_cond4 k0_t1 = 1#1), ∀ a x, ((![v273, v307] : Fin 2 → IVec S16 32) a x).toNat < S4096x8.size a)
theorem k0_idx87_inb : ∀ (k0_t1 : Fin k0_t1_loop.trips) (v273 : IVec S16 32) (v307 : IVec S16 32) (k0_hw63 : k0_chk63 k0_t1 v273 v307), ∀ (k0_h4 : k0_cond4 k0_t1 = 1#1), ∀ a x, ((![v273, v307] : Fin 2 → IVec S16 32) a x).toNat < S4096x8.size a := fun k0_t1 v273 v307 k0_hw63 k0_h4 => k0_hw63 k0_h4

def k0_chk64 (k0_t1 : Fin k0_t1_loop.trips) (v273 : IVec S16 32) (v312 : IVec S16 32) : Prop :=
  (∀ (k0_h4 : k0_cond4 k0_t1 = 1#1), ∀ a x, ((![v273, v312] : Fin 2 → IVec S16 32) a x).toNat < S4096x8.size a)
theorem k0_idx88_inb : ∀ (k0_t1 : Fin k0_t1_loop.trips) (v273 : IVec S16 32) (v312 : IVec S16 32) (k0_hw64 : k0_chk64 k0_t1 v273 v312), ∀ (k0_h4 : k0_cond4 k0_t1 = 1#1), ∀ a x, ((![v273, v312] : Fin 2 → IVec S16 32) a x).toNat < S4096x8.size a := fun k0_t1 v273 v312 k0_hw64 k0_h4 => k0_hw64 k0_h4

def k0_chk65 (k0_t1 : Fin k0_t1_loop.trips) (v126 : IVec S16 32) (v236 : IVec S16 32) (v239 : IVec S16 32) : Prop :=
  (∀ (k0_h4 : k0_cond4 k0_t1 = 1#1), ∀ a x, ((![v126, v236, v239] : Fin 3 → IVec S16 32) a x).toNat < S16x64x8.size a) ∧
  (∀ (k0_h4 : k0_cond4 k0_t1 = 1#1), ∀ a x, ((![v126, v236, v239] : Fin 3 → IVec S16 32) a x).toNat < S16x64x8.size a)
theorem k0_idx89_inb : ∀ (k0_t1 : Fin k0_t1_loop.trips) (v126 : IVec S16 32) (v236 : IVec S16 32) (v239 : IVec S16 32) (k0_hw65 : k0_chk65 k0_t1 v126 v236 v239), ∀ (k0_h4 : k0_cond4 k0_t1 = 1#1), ∀ a x, ((![v126, v236, v239] : Fin 3 → IVec S16 32) a x).toNat < S16x64x8.size a := fun k0_t1 v126 v236 v239 k0_hw65 k0_h4 => k0_hw65.1 k0_h4
theorem k0_idx90_inb : ∀ (k0_t1 : Fin k0_t1_loop.trips) (v126 : IVec S16 32) (v236 : IVec S16 32) (v239 : IVec S16 32) (k0_hw65 : k0_chk65 k0_t1 v126 v236 v239), ∀ (k0_h4 : k0_cond4 k0_t1 = 1#1), ∀ a x, ((![v126, v236, v239] : Fin 3 → IVec S16 32) a x).toNat < S16x64x8.size a := fun k0_t1 v126 v236 v239 k0_hw65 k0_h4 => k0_hw65.2 k0_h4

def k0_chk66 (k0_t1 : Fin k0_t1_loop.trips) (v126 : IVec S16 32) (v236 : IVec S16 32) (v243 : IVec S16 32) : Prop :=
  (∀ (k0_h4 : k0_cond4 k0_t1 = 1#1), ∀ a x, ((![v126, v236, v243] : Fin 3 → IVec S16 32) a x).toNat < S16x64x8.size a) ∧
  (∀ (k0_h4 : k0_cond4 k0_t1 = 1#1), ∀ a x, ((![v126, v236, v243] : Fin 3 → IVec S16 32) a x).toNat < S16x64x8.size a)
theorem k0_idx91_inb : ∀ (k0_t1 : Fin k0_t1_loop.trips) (v126 : IVec S16 32) (v236 : IVec S16 32) (v243 : IVec S16 32) (k0_hw66 : k0_chk66 k0_t1 v126 v236 v243), ∀ (k0_h4 : k0_cond4 k0_t1 = 1#1), ∀ a x, ((![v126, v236, v243] : Fin 3 → IVec S16 32) a x).toNat < S16x64x8.size a := fun k0_t1 v126 v236 v243 k0_hw66 k0_h4 => k0_hw66.1 k0_h4
theorem k0_idx92_inb : ∀ (k0_t1 : Fin k0_t1_loop.trips) (v126 : IVec S16 32) (v236 : IVec S16 32) (v243 : IVec S16 32) (k0_hw66 : k0_chk66 k0_t1 v126 v236 v243), ∀ (k0_h4 : k0_cond4 k0_t1 = 1#1), ∀ a x, ((![v126, v236, v243] : Fin 3 → IVec S16 32) a x).toNat < S16x64x8.size a := fun k0_t1 v126 v236 v243 k0_hw66 k0_h4 => k0_hw66.2 k0_h4

def k0_chk67 (k0_t1 : Fin k0_t1_loop.trips) (v126 : IVec S16 32) (v236 : IVec S16 32) (v247 : IVec S16 32) : Prop :=
  (∀ (k0_h4 : k0_cond4 k0_t1 = 1#1), ∀ a x, ((![v126, v236, v247] : Fin 3 → IVec S16 32) a x).toNat < S16x64x8.size a) ∧
  (∀ (k0_h4 : k0_cond4 k0_t1 = 1#1), ∀ a x, ((![v126, v236, v247] : Fin 3 → IVec S16 32) a x).toNat < S16x64x8.size a)
theorem k0_idx93_inb : ∀ (k0_t1 : Fin k0_t1_loop.trips) (v126 : IVec S16 32) (v236 : IVec S16 32) (v247 : IVec S16 32) (k0_hw67 : k0_chk67 k0_t1 v126 v236 v247), ∀ (k0_h4 : k0_cond4 k0_t1 = 1#1), ∀ a x, ((![v126, v236, v247] : Fin 3 → IVec S16 32) a x).toNat < S16x64x8.size a := fun k0_t1 v126 v236 v247 k0_hw67 k0_h4 => k0_hw67.1 k0_h4
theorem k0_idx94_inb : ∀ (k0_t1 : Fin k0_t1_loop.trips) (v126 : IVec S16 32) (v236 : IVec S16 32) (v247 : IVec S16 32) (k0_hw67 : k0_chk67 k0_t1 v126 v236 v247), ∀ (k0_h4 : k0_cond4 k0_t1 = 1#1), ∀ a x, ((![v126, v236, v247] : Fin 3 → IVec S16 32) a x).toNat < S16x64x8.size a := fun k0_t1 v126 v236 v247 k0_hw67 k0_h4 => k0_hw67.2 k0_h4

def k0_chk68 (k0_t1 : Fin k0_t1_loop.trips) (v126 : IVec S16 32) (v236 : IVec S16 32) (v251 : IVec S16 32) : Prop :=
  (∀ (k0_h4 : k0_cond4 k0_t1 = 1#1), ∀ a x, ((![v126, v236, v251] : Fin 3 → IVec S16 32) a x).toNat < S16x64x8.size a) ∧
  (∀ (k0_h4 : k0_cond4 k0_t1 = 1#1), ∀ a x, ((![v126, v236, v251] : Fin 3 → IVec S16 32) a x).toNat < S16x64x8.size a)
theorem k0_idx95_inb : ∀ (k0_t1 : Fin k0_t1_loop.trips) (v126 : IVec S16 32) (v236 : IVec S16 32) (v251 : IVec S16 32) (k0_hw68 : k0_chk68 k0_t1 v126 v236 v251), ∀ (k0_h4 : k0_cond4 k0_t1 = 1#1), ∀ a x, ((![v126, v236, v251] : Fin 3 → IVec S16 32) a x).toNat < S16x64x8.size a := fun k0_t1 v126 v236 v251 k0_hw68 k0_h4 => k0_hw68.1 k0_h4
theorem k0_idx96_inb : ∀ (k0_t1 : Fin k0_t1_loop.trips) (v126 : IVec S16 32) (v236 : IVec S16 32) (v251 : IVec S16 32) (k0_hw68 : k0_chk68 k0_t1 v126 v236 v251), ∀ (k0_h4 : k0_cond4 k0_t1 = 1#1), ∀ a x, ((![v126, v236, v251] : Fin 3 → IVec S16 32) a x).toNat < S16x64x8.size a := fun k0_t1 v126 v236 v251 k0_hw68 k0_h4 => k0_hw68.2 k0_h4

def k0_chk69 (k0_t1 : Fin k0_t1_loop.trips) (v126 : IVec S16 32) (v236 : IVec S16 32) (v255 : IVec S16 32) : Prop :=
  (∀ (k0_h4 : k0_cond4 k0_t1 = 1#1), ∀ a x, ((![v126, v236, v255] : Fin 3 → IVec S16 32) a x).toNat < S16x64x8.size a) ∧
  (∀ (k0_h4 : k0_cond4 k0_t1 = 1#1), ∀ a x, ((![v126, v236, v255] : Fin 3 → IVec S16 32) a x).toNat < S16x64x8.size a)
theorem k0_idx97_inb : ∀ (k0_t1 : Fin k0_t1_loop.trips) (v126 : IVec S16 32) (v236 : IVec S16 32) (v255 : IVec S16 32) (k0_hw69 : k0_chk69 k0_t1 v126 v236 v255), ∀ (k0_h4 : k0_cond4 k0_t1 = 1#1), ∀ a x, ((![v126, v236, v255] : Fin 3 → IVec S16 32) a x).toNat < S16x64x8.size a := fun k0_t1 v126 v236 v255 k0_hw69 k0_h4 => k0_hw69.1 k0_h4
theorem k0_idx98_inb : ∀ (k0_t1 : Fin k0_t1_loop.trips) (v126 : IVec S16 32) (v236 : IVec S16 32) (v255 : IVec S16 32) (k0_hw69 : k0_chk69 k0_t1 v126 v236 v255), ∀ (k0_h4 : k0_cond4 k0_t1 = 1#1), ∀ a x, ((![v126, v236, v255] : Fin 3 → IVec S16 32) a x).toNat < S16x64x8.size a := fun k0_t1 v126 v236 v255 k0_hw69 k0_h4 => k0_hw69.2 k0_h4

def k0_chk70 (k0_t1 : Fin k0_t1_loop.trips) (v126 : IVec S16 32) (v236 : IVec S16 32) (v259 : IVec S16 32) : Prop :=
  (∀ (k0_h4 : k0_cond4 k0_t1 = 1#1), ∀ a x, ((![v126, v236, v259] : Fin 3 → IVec S16 32) a x).toNat < S16x64x8.size a) ∧
  (∀ (k0_h4 : k0_cond4 k0_t1 = 1#1), ∀ a x, ((![v126, v236, v259] : Fin 3 → IVec S16 32) a x).toNat < S16x64x8.size a)
theorem k0_idx99_inb : ∀ (k0_t1 : Fin k0_t1_loop.trips) (v126 : IVec S16 32) (v236 : IVec S16 32) (v259 : IVec S16 32) (k0_hw70 : k0_chk70 k0_t1 v126 v236 v259), ∀ (k0_h4 : k0_cond4 k0_t1 = 1#1), ∀ a x, ((![v126, v236, v259] : Fin 3 → IVec S16 32) a x).toNat < S16x64x8.size a := fun k0_t1 v126 v236 v259 k0_hw70 k0_h4 => k0_hw70.1 k0_h4
theorem k0_idx100_inb : ∀ (k0_t1 : Fin k0_t1_loop.trips) (v126 : IVec S16 32) (v236 : IVec S16 32) (v259 : IVec S16 32) (k0_hw70 : k0_chk70 k0_t1 v126 v236 v259), ∀ (k0_h4 : k0_cond4 k0_t1 = 1#1), ∀ a x, ((![v126, v236, v259] : Fin 3 → IVec S16 32) a x).toNat < S16x64x8.size a := fun k0_t1 v126 v236 v259 k0_hw70 k0_h4 => k0_hw70.2 k0_h4

def k0_chk71 (k0_t1 : Fin k0_t1_loop.trips) (v126 : IVec S16 32) (v236 : IVec S16 32) (v263 : IVec S16 32) : Prop :=
  (∀ (k0_h4 : k0_cond4 k0_t1 = 1#1), ∀ a x, ((![v126, v236, v263] : Fin 3 → IVec S16 32) a x).toNat < S16x64x8.size a) ∧
  (∀ (k0_h4 : k0_cond4 k0_t1 = 1#1), ∀ a x, ((![v126, v236, v263] : Fin 3 → IVec S16 32) a x).toNat < S16x64x8.size a)
theorem k0_idx101_inb : ∀ (k0_t1 : Fin k0_t1_loop.trips) (v126 : IVec S16 32) (v236 : IVec S16 32) (v263 : IVec S16 32) (k0_hw71 : k0_chk71 k0_t1 v126 v236 v263), ∀ (k0_h4 : k0_cond4 k0_t1 = 1#1), ∀ a x, ((![v126, v236, v263] : Fin 3 → IVec S16 32) a x).toNat < S16x64x8.size a := fun k0_t1 v126 v236 v263 k0_hw71 k0_h4 => k0_hw71.1 k0_h4
theorem k0_idx102_inb : ∀ (k0_t1 : Fin k0_t1_loop.trips) (v126 : IVec S16 32) (v236 : IVec S16 32) (v263 : IVec S16 32) (k0_hw71 : k0_chk71 k0_t1 v126 v236 v263), ∀ (k0_h4 : k0_cond4 k0_t1 = 1#1), ∀ a x, ((![v126, v236, v263] : Fin 3 → IVec S16 32) a x).toNat < S16x64x8.size a := fun k0_t1 v126 v236 v263 k0_hw71 k0_h4 => k0_hw71.2 k0_h4

def k0_chk72 (k0_t1 : Fin k0_t1_loop.trips) (v126 : IVec S16 32) (v236 : IVec S16 32) (v267 : IVec S16 32) : Prop :=
  (∀ (k0_h4 : k0_cond4 k0_t1 = 1#1), ∀ a x, ((![v126, v236, v267] : Fin 3 → IVec S16 32) a x).toNat < S16x64x8.size a) ∧
  (∀ (k0_h4 : k0_cond4 k0_t1 = 1#1), ∀ a x, ((![v126, v236, v267] : Fin 3 → IVec S16 32) a x).toNat < S16x64x8.size a)
theorem k0_idx103_inb : ∀ (k0_t1 : Fin k0_t1_loop.trips) (v126 : IVec S16 32) (v236 : IVec S16 32) (v267 : IVec S16 32) (k0_hw72 : k0_chk72 k0_t1 v126 v236 v267), ∀ (k0_h4 : k0_cond4 k0_t1 = 1#1), ∀ a x, ((![v126, v236, v267] : Fin 3 → IVec S16 32) a x).toNat < S16x64x8.size a := fun k0_t1 v126 v236 v267 k0_hw72 k0_h4 => k0_hw72.1 k0_h4
theorem k0_idx104_inb : ∀ (k0_t1 : Fin k0_t1_loop.trips) (v126 : IVec S16 32) (v236 : IVec S16 32) (v267 : IVec S16 32) (k0_hw72 : k0_chk72 k0_t1 v126 v236 v267), ∀ (k0_h4 : k0_cond4 k0_t1 = 1#1), ∀ a x, ((![v126, v236, v267] : Fin 3 → IVec S16 32) a x).toNat < S16x64x8.size a := fun k0_t1 v126 v236 v267 k0_hw72 k0_h4 => k0_hw72.2 k0_h4
def k0_cond5 (k0_t1 : Fin k0_t1_loop.trips) : BitVec 1 :=
  let c0_i32_19 : BitVec 32 := 0#32
  let c1_i32_20 : BitVec 32 := 1#32
  let arg19 : BitVec 32 := Scf.iv c0_i32_19 c1_i32_20 k0_t1
  let c2_i32_26 : BitVec 32 := 2#32
  let c0_i32_27 : BitVec 32 := 0#32
  let v43 : BitVec 1 := Scalar.cmpi .eq c2_i32_26 c0_i32_27
  let c1_i32_28 : BitVec 32 := 1#32
  let v44 : BitVec 32 := Scalar.select v43 c1_i32_28 c2_i32_26
  let v45 : BitVec 32 := Scalar.remsi arg19 v44
  let c0_i32_30 : BitVec 32 := 0#32
  let v47 : BitVec 1 := Scalar.cmpi .slt v45 c0_i32_30
  let c0_i32_31 : BitVec 32 := 0#32
  let v48 : BitVec 1 := Scalar.cmpi .slt v44 c0_i32_31
  let v49 : BitVec 1 := Scalar.xori v47 v48
  let c0_i32_29 : BitVec 32 := 0#32
  let v46 : BitVec 1 := Scalar.cmpi .ne v45 c0_i32_29
  let v50 : BitVec 1 := Scalar.andi v49 v46
  let v51 : BitVec 32 := Scalar.addi v45 v44
  let v52 : BitVec 32 := Scalar.select v50 v51 v45
  let c1_i32_51 : BitVec 32 := 1#32
  let v109 : BitVec 1 := Scalar.cmpi .eq v52 c1_i32_51
  let v110 : BitVec 32 := Scalar.extui v109
  let c0_i32_52 : BitVec 32 := 0#32
  let v111 : BitVec 1 := Scalar.cmpi .ne v110 c0_i32_52
  v111

def k0_off13 (i : grid0.Coords) (k0_t1 : Fin k0_t1_loop.trips) : Fin 4 → Nat :=
  let c0_i32_19 : BitVec 32 := 0#32
  let c1_i32_20 : BitVec 32 := 1#32
  let arg19 : BitVec 32 := Scf.iv c0_i32_19 c1_i32_20 k0_t1
  let c0_i32_57 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_58 : BitVec 32 := 0#32
  ![arg19.toNat, 0, v11.toNat, 0]
def k0_off14 (i : grid0.Coords) (k0_t1 : Fin k0_t1_loop.trips) : Fin 5 → Nat :=
  let c0_i32_19 : BitVec 32 := 0#32
  let c1_i32_20 : BitVec 32 := 1#32
  let arg19 : BitVec 32 := Scf.iv c0_i32_19 c1_i32_20 k0_t1
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c8_i32_3 : BitVec 32 := 8#32
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi v1 c8_i32_3
  let c0_i32_8 : BitVec 32 := 0#32
  let v25 : BitVec 1 := Scalar.cmpi .ne v24 c0_i32_8
  let v26 : BitVec 1 := Scalar.andi v23 v25
  let v12 : BitVec 32 := Scalar.divsi v1 c8_i32_3
  let c1_i32_9 : BitVec 32 := 1#32
  let v27 : BitVec 32 := Scalar.subi v12 c1_i32_9
  let v28 : BitVec 32 := Scalar.select v26 v27 v12
  let c16_i32 : BitVec 32 := 16#32
  let v30 : BitVec 32 := Scalar.muli v28 c16_i32
  let c0_i32_61 : BitVec 32 := 0#32
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_62 : BitVec 32 := 0#32
  ![arg19.toNat, v30.toNat, 0, v11.toNat, 0]
@[reducible] def k0_t7_loop : Scf.Loop 32 :=
  let c0_i32_66 : BitVec 32 := 0#32
  let c16_i32_67 : BitVec 32 := 16#32
  let v124 : BitVec 32 := Scalar.addi c0_i32_66 c16_i32_67
  let c1_i32_68 : BitVec 32 := 1#32
  ⟨c0_i32_66, v124, c1_i32_68⟩
@[reducible] def k0_t8_loop : Scf.Loop 32 :=
  let c0_i32_71 : BitVec 32 := 0#32
  let c20_i32 : BitVec 32 := 20#32
  let v129 : BitVec 32 := Scalar.addi c0_i32_71 c20_i32
  let c1_i32_72 : BitVec 32 := 1#32
  ⟨c0_i32_71, v129, c1_i32_72⟩
def k0_off15 (k0_t7 : Fin k0_t7_loop.trips) (k0_t8 : Fin k0_t8_loop.trips) : Fin 3 → Nat :=
  let c0_i32_66 : BitVec 32 := 0#32
  let c1_i32_68 : BitVec 32 := 1#32
  let arg20 : BitVec 32 := Scf.iv c0_i32_66 c1_i32_68 k0_t7
  let v271 : Index := Scalar.indexCast arg20
  let c0_i32_71 : BitVec 32 := 0#32
  let c1_i32_72 : BitVec 32 := 1#32
  let arg21 : BitVec 32 := Scf.iv c0_i32_71 c1_i32_72 k0_t8
  let v272 : Index := Scalar.indexCast arg21
  let c0 : Index := 0#32
  ![v271.toNat, v272.toNat, 0]

def k0_chk73 (k0_t1 : Fin k0_t1_loop.trips) (v273 : IVec S16 32) (v277 : IVec S16 32) : Prop :=
  (∀ (k0_h5 : k0_cond5 k0_t1 = 1#1), ∀ a x, ((![v273, v277] : Fin 2 → IVec S16 32) a x).toNat < S4096x8.size a)
theorem k0_idx105_inb : ∀ (k0_t1 : Fin k0_t1_loop.trips) (v273 : IVec S16 32) (v277 : IVec S16 32) (k0_hw73 : k0_chk73 k0_t1 v273 v277), ∀ (k0_h5 : k0_cond5 k0_t1 = 1#1), ∀ a x, ((![v273, v277] : Fin 2 → IVec S16 32) a x).toNat < S4096x8.size a := fun k0_t1 v273 v277 k0_hw73 k0_h5 => k0_hw73 k0_h5

def k0_chk74 (k0_t1 : Fin k0_t1_loop.trips) (v273 : IVec S16 32) (v282 : IVec S16 32) : Prop :=
  (∀ (k0_h5 : k0_cond5 k0_t1 = 1#1), ∀ a x, ((![v273, v282] : Fin 2 → IVec S16 32) a x).toNat < S4096x8.size a)
theorem k0_idx106_inb : ∀ (k0_t1 : Fin k0_t1_loop.trips) (v273 : IVec S16 32) (v282 : IVec S16 32) (k0_hw74 : k0_chk74 k0_t1 v273 v282), ∀ (k0_h5 : k0_cond5 k0_t1 = 1#1), ∀ a x, ((![v273, v282] : Fin 2 → IVec S16 32) a x).toNat < S4096x8.size a := fun k0_t1 v273 v282 k0_hw74 k0_h5 => k0_hw74 k0_h5

def k0_chk75 (k0_t1 : Fin k0_t1_loop.trips) (v273 : IVec S16 32) (v287 : IVec S16 32) : Prop :=
  (∀ (k0_h5 : k0_cond5 k0_t1 = 1#1), ∀ a x, ((![v273, v287] : Fin 2 → IVec S16 32) a x).toNat < S4096x8.size a)
theorem k0_idx107_inb : ∀ (k0_t1 : Fin k0_t1_loop.trips) (v273 : IVec S16 32) (v287 : IVec S16 32) (k0_hw75 : k0_chk75 k0_t1 v273 v287), ∀ (k0_h5 : k0_cond5 k0_t1 = 1#1), ∀ a x, ((![v273, v287] : Fin 2 → IVec S16 32) a x).toNat < S4096x8.size a := fun k0_t1 v273 v287 k0_hw75 k0_h5 => k0_hw75 k0_h5

def k0_chk76 (k0_t1 : Fin k0_t1_loop.trips) (v273 : IVec S16 32) (v292 : IVec S16 32) : Prop :=
  (∀ (k0_h5 : k0_cond5 k0_t1 = 1#1), ∀ a x, ((![v273, v292] : Fin 2 → IVec S16 32) a x).toNat < S4096x8.size a)
theorem k0_idx108_inb : ∀ (k0_t1 : Fin k0_t1_loop.trips) (v273 : IVec S16 32) (v292 : IVec S16 32) (k0_hw76 : k0_chk76 k0_t1 v273 v292), ∀ (k0_h5 : k0_cond5 k0_t1 = 1#1), ∀ a x, ((![v273, v292] : Fin 2 → IVec S16 32) a x).toNat < S4096x8.size a := fun k0_t1 v273 v292 k0_hw76 k0_h5 => k0_hw76 k0_h5

def k0_chk77 (k0_t1 : Fin k0_t1_loop.trips) (v273 : IVec S16 32) (v297 : IVec S16 32) : Prop :=
  (∀ (k0_h5 : k0_cond5 k0_t1 = 1#1), ∀ a x, ((![v273, v297] : Fin 2 → IVec S16 32) a x).toNat < S4096x8.size a)
theorem k0_idx109_inb : ∀ (k0_t1 : Fin k0_t1_loop.trips) (v273 : IVec S16 32) (v297 : IVec S16 32) (k0_hw77 : k0_chk77 k0_t1 v273 v297), ∀ (k0_h5 : k0_cond5 k0_t1 = 1#1), ∀ a x, ((![v273, v297] : Fin 2 → IVec S16 32) a x).toNat < S4096x8.size a := fun k0_t1 v273 v297 k0_hw77 k0_h5 => k0_hw77 k0_h5

def k0_chk78 (k0_t1 : Fin k0_t1_loop.trips) (v273 : IVec S16 32) (v302 : IVec S16 32) : Prop :=
  (∀ (k0_h5 : k0_cond5 k0_t1 = 1#1), ∀ a x, ((![v273, v302] : Fin 2 → IVec S16 32) a x).toNat < S4096x8.size a)
theorem k0_idx110_inb : ∀ (k0_t1 : Fin k0_t1_loop.trips) (v273 : IVec S16 32) (v302 : IVec S16 32) (k0_hw78 : k0_chk78 k0_t1 v273 v302), ∀ (k0_h5 : k0_cond5 k0_t1 = 1#1), ∀ a x, ((![v273, v302] : Fin 2 → IVec S16 32) a x).toNat < S4096x8.size a := fun k0_t1 v273 v302 k0_hw78 k0_h5 => k0_hw78 k0_h5

def k0_chk79 (k0_t1 : Fin k0_t1_loop.trips) (v273 : IVec S16 32) (v307 : IVec S16 32) : Prop :=
  (∀ (k0_h5 : k0_cond5 k0_t1 = 1#1), ∀ a x, ((![v273, v307] : Fin 2 → IVec S16 32) a x).toNat < S4096x8.size a)
theorem k0_idx111_inb : ∀ (k0_t1 : Fin k0_t1_loop.trips) (v273 : IVec S16 32) (v307 : IVec S16 32) (k0_hw79 : k0_chk79 k0_t1 v273 v307), ∀ (k0_h5 : k0_cond5 k0_t1 = 1#1), ∀ a x, ((![v273, v307] : Fin 2 → IVec S16 32) a x).toNat < S4096x8.size a := fun k0_t1 v273 v307 k0_hw79 k0_h5 => k0_hw79 k0_h5

def k0_chk80 (k0_t1 : Fin k0_t1_loop.trips) (v273 : IVec S16 32) (v312 : IVec S16 32) : Prop :=
  (∀ (k0_h5 : k0_cond5 k0_t1 = 1#1), ∀ a x, ((![v273, v312] : Fin 2 → IVec S16 32) a x).toNat < S4096x8.size a)
theorem k0_idx112_inb : ∀ (k0_t1 : Fin k0_t1_loop.trips) (v273 : IVec S16 32) (v312 : IVec S16 32) (k0_hw80 : k0_chk80 k0_t1 v273 v312), ∀ (k0_h5 : k0_cond5 k0_t1 = 1#1), ∀ a x, ((![v273, v312] : Fin 2 → IVec S16 32) a x).toNat < S4096x8.size a := fun k0_t1 v273 v312 k0_hw80 k0_h5 => k0_hw80 k0_h5

def k0_chk81 (k0_t1 : Fin k0_t1_loop.trips) (v126 : IVec S16 32) (v128 : IVec S16 32) (v131 : IVec S16 32) : Prop :=
  (∀ (k0_h5 : k0_cond5 k0_t1 = 1#1), ∀ a x, ((![v126, v128, v131] : Fin 3 → IVec S16 32) a x).toNat < S16x64x8.size a) ∧
  (∀ (k0_h5 : k0_cond5 k0_t1 = 1#1), ∀ a x, ((![v126, v128, v131] : Fin 3 → IVec S16 32) a x).toNat < S16x64x8.size a)
theorem k0_idx113_inb : ∀ (k0_t1 : Fin k0_t1_loop.trips) (v126 : IVec S16 32) (v128 : IVec S16 32) (v131 : IVec S16 32) (k0_hw81 : k0_chk81 k0_t1 v126 v128 v131), ∀ (k0_h5 : k0_cond5 k0_t1 = 1#1), ∀ a x, ((![v126, v128, v131] : Fin 3 → IVec S16 32) a x).toNat < S16x64x8.size a := fun k0_t1 v126 v128 v131 k0_hw81 k0_h5 => k0_hw81.1 k0_h5
theorem k0_idx114_inb : ∀ (k0_t1 : Fin k0_t1_loop.trips) (v126 : IVec S16 32) (v128 : IVec S16 32) (v131 : IVec S16 32) (k0_hw81 : k0_chk81 k0_t1 v126 v128 v131), ∀ (k0_h5 : k0_cond5 k0_t1 = 1#1), ∀ a x, ((![v126, v128, v131] : Fin 3 → IVec S16 32) a x).toNat < S16x64x8.size a := fun k0_t1 v126 v128 v131 k0_hw81 k0_h5 => k0_hw81.2 k0_h5

def k0_chk82 (k0_t1 : Fin k0_t1_loop.trips) (v126 : IVec S16 32) (v128 : IVec S16 32) (v135 : IVec S16 32) : Prop :=
  (∀ (k0_h5 : k0_cond5 k0_t1 = 1#1), ∀ a x, ((![v126, v128, v135] : Fin 3 → IVec S16 32) a x).toNat < S16x64x8.size a) ∧
  (∀ (k0_h5 : k0_cond5 k0_t1 = 1#1), ∀ a x, ((![v126, v128, v135] : Fin 3 → IVec S16 32) a x).toNat < S16x64x8.size a)
theorem k0_idx115_inb : ∀ (k0_t1 : Fin k0_t1_loop.trips) (v126 : IVec S16 32) (v128 : IVec S16 32) (v135 : IVec S16 32) (k0_hw82 : k0_chk82 k0_t1 v126 v128 v135), ∀ (k0_h5 : k0_cond5 k0_t1 = 1#1), ∀ a x, ((![v126, v128, v135] : Fin 3 → IVec S16 32) a x).toNat < S16x64x8.size a := fun k0_t1 v126 v128 v135 k0_hw82 k0_h5 => k0_hw82.1 k0_h5
theorem k0_idx116_inb : ∀ (k0_t1 : Fin k0_t1_loop.trips) (v126 : IVec S16 32) (v128 : IVec S16 32) (v135 : IVec S16 32) (k0_hw82 : k0_chk82 k0_t1 v126 v128 v135), ∀ (k0_h5 : k0_cond5 k0_t1 = 1#1), ∀ a x, ((![v126, v128, v135] : Fin 3 → IVec S16 32) a x).toNat < S16x64x8.size a := fun k0_t1 v126 v128 v135 k0_hw82 k0_h5 => k0_hw82.2 k0_h5

def k0_chk83 (k0_t1 : Fin k0_t1_loop.trips) (v126 : IVec S16 32) (v128 : IVec S16 32) (v139 : IVec S16 32) : Prop :=
  (∀ (k0_h5 : k0_cond5 k0_t1 = 1#1), ∀ a x, ((![v126, v128, v139] : Fin 3 → IVec S16 32) a x).toNat < S16x64x8.size a) ∧
  (∀ (k0_h5 : k0_cond5 k0_t1 = 1#1), ∀ a x, ((![v126, v128, v139] : Fin 3 → IVec S16 32) a x).toNat < S16x64x8.size a)
theorem k0_idx117_inb : ∀ (k0_t1 : Fin k0_t1_loop.trips) (v126 : IVec S16 32) (v128 : IVec S16 32) (v139 : IVec S16 32) (k0_hw83 : k0_chk83 k0_t1 v126 v128 v139), ∀ (k0_h5 : k0_cond5 k0_t1 = 1#1), ∀ a x, ((![v126, v128, v139] : Fin 3 → IVec S16 32) a x).toNat < S16x64x8.size a := fun k0_t1 v126 v128 v139 k0_hw83 k0_h5 => k0_hw83.1 k0_h5
theorem k0_idx118_inb : ∀ (k0_t1 : Fin k0_t1_loop.trips) (v126 : IVec S16 32) (v128 : IVec S16 32) (v139 : IVec S16 32) (k0_hw83 : k0_chk83 k0_t1 v126 v128 v139), ∀ (k0_h5 : k0_cond5 k0_t1 = 1#1), ∀ a x, ((![v126, v128, v139] : Fin 3 → IVec S16 32) a x).toNat < S16x64x8.size a := fun k0_t1 v126 v128 v139 k0_hw83 k0_h5 => k0_hw83.2 k0_h5

def k0_chk84 (k0_t1 : Fin k0_t1_loop.trips) (v126 : IVec S16 32) (v128 : IVec S16 32) (v143 : IVec S16 32) : Prop :=
  (∀ (k0_h5 : k0_cond5 k0_t1 = 1#1), ∀ a x, ((![v126, v128, v143] : Fin 3 → IVec S16 32) a x).toNat < S16x64x8.size a) ∧
  (∀ (k0_h5 : k0_cond5 k0_t1 = 1#1), ∀ a x, ((![v126, v128, v143] : Fin 3 → IVec S16 32) a x).toNat < S16x64x8.size a)
theorem k0_idx119_inb : ∀ (k0_t1 : Fin k0_t1_loop.trips) (v126 : IVec S16 32) (v128 : IVec S16 32) (v143 : IVec S16 32) (k0_hw84 : k0_chk84 k0_t1 v126 v128 v143), ∀ (k0_h5 : k0_cond5 k0_t1 = 1#1), ∀ a x, ((![v126, v128, v143] : Fin 3 → IVec S16 32) a x).toNat < S16x64x8.size a := fun k0_t1 v126 v128 v143 k0_hw84 k0_h5 => k0_hw84.1 k0_h5
theorem k0_idx120_inb : ∀ (k0_t1 : Fin k0_t1_loop.trips) (v126 : IVec S16 32) (v128 : IVec S16 32) (v143 : IVec S16 32) (k0_hw84 : k0_chk84 k0_t1 v126 v128 v143), ∀ (k0_h5 : k0_cond5 k0_t1 = 1#1), ∀ a x, ((![v126, v128, v143] : Fin 3 → IVec S16 32) a x).toNat < S16x64x8.size a := fun k0_t1 v126 v128 v143 k0_hw84 k0_h5 => k0_hw84.2 k0_h5

def k0_chk85 (k0_t1 : Fin k0_t1_loop.trips) (v126 : IVec S16 32) (v128 : IVec S16 32) (v147 : IVec S16 32) : Prop :=
  (∀ (k0_h5 : k0_cond5 k0_t1 = 1#1), ∀ a x, ((![v126, v128, v147] : Fin 3 → IVec S16 32) a x).toNat < S16x64x8.size a) ∧
  (∀ (k0_h5 : k0_cond5 k0_t1 = 1#1), ∀ a x, ((![v126, v128, v147] : Fin 3 → IVec S16 32) a x).toNat < S16x64x8.size a)
theorem k0_idx121_inb : ∀ (k0_t1 : Fin k0_t1_loop.trips) (v126 : IVec S16 32) (v128 : IVec S16 32) (v147 : IVec S16 32) (k0_hw85 : k0_chk85 k0_t1 v126 v128 v147), ∀ (k0_h5 : k0_cond5 k0_t1 = 1#1), ∀ a x, ((![v126, v128, v147] : Fin 3 → IVec S16 32) a x).toNat < S16x64x8.size a := fun k0_t1 v126 v128 v147 k0_hw85 k0_h5 => k0_hw85.1 k0_h5
theorem k0_idx122_inb : ∀ (k0_t1 : Fin k0_t1_loop.trips) (v126 : IVec S16 32) (v128 : IVec S16 32) (v147 : IVec S16 32) (k0_hw85 : k0_chk85 k0_t1 v126 v128 v147), ∀ (k0_h5 : k0_cond5 k0_t1 = 1#1), ∀ a x, ((![v126, v128, v147] : Fin 3 → IVec S16 32) a x).toNat < S16x64x8.size a := fun k0_t1 v126 v128 v147 k0_hw85 k0_h5 => k0_hw85.2 k0_h5

def k0_chk86 (k0_t1 : Fin k0_t1_loop.trips) (v126 : IVec S16 32) (v128 : IVec S16 32) (v151 : IVec S16 32) : Prop :=
  (∀ (k0_h5 : k0_cond5 k0_t1 = 1#1), ∀ a x, ((![v126, v128, v151] : Fin 3 → IVec S16 32) a x).toNat < S16x64x8.size a) ∧
  (∀ (k0_h5 : k0_cond5 k0_t1 = 1#1), ∀ a x, ((![v126, v128, v151] : Fin 3 → IVec S16 32) a x).toNat < S16x64x8.size a)
theorem k0_idx123_inb : ∀ (k0_t1 : Fin k0_t1_loop.trips) (v126 : IVec S16 32) (v128 : IVec S16 32) (v151 : IVec S16 32) (k0_hw86 : k0_chk86 k0_t1 v126 v128 v151), ∀ (k0_h5 : k0_cond5 k0_t1 = 1#1), ∀ a x, ((![v126, v128, v151] : Fin 3 → IVec S16 32) a x).toNat < S16x64x8.size a := fun k0_t1 v126 v128 v151 k0_hw86 k0_h5 => k0_hw86.1 k0_h5
theorem k0_idx124_inb : ∀ (k0_t1 : Fin k0_t1_loop.trips) (v126 : IVec S16 32) (v128 : IVec S16 32) (v151 : IVec S16 32) (k0_hw86 : k0_chk86 k0_t1 v126 v128 v151), ∀ (k0_h5 : k0_cond5 k0_t1 = 1#1), ∀ a x, ((![v126, v128, v151] : Fin 3 → IVec S16 32) a x).toNat < S16x64x8.size a := fun k0_t1 v126 v128 v151 k0_hw86 k0_h5 => k0_hw86.2 k0_h5

def k0_chk87 (k0_t1 : Fin k0_t1_loop.trips) (v126 : IVec S16 32) (v128 : IVec S16 32) (v155 : IVec S16 32) : Prop :=
  (∀ (k0_h5 : k0_cond5 k0_t1 = 1#1), ∀ a x, ((![v126, v128, v155] : Fin 3 → IVec S16 32) a x).toNat < S16x64x8.size a) ∧
  (∀ (k0_h5 : k0_cond5 k0_t1 = 1#1), ∀ a x, ((![v126, v128, v155] : Fin 3 → IVec S16 32) a x).toNat < S16x64x8.size a)
theorem k0_idx125_inb : ∀ (k0_t1 : Fin k0_t1_loop.trips) (v126 : IVec S16 32) (v128 : IVec S16 32) (v155 : IVec S16 32) (k0_hw87 : k0_chk87 k0_t1 v126 v128 v155), ∀ (k0_h5 : k0_cond5 k0_t1 = 1#1), ∀ a x, ((![v126, v128, v155] : Fin 3 → IVec S16 32) a x).toNat < S16x64x8.size a := fun k0_t1 v126 v128 v155 k0_hw87 k0_h5 => k0_hw87.1 k0_h5
theorem k0_idx126_inb : ∀ (k0_t1 : Fin k0_t1_loop.trips) (v126 : IVec S16 32) (v128 : IVec S16 32) (v155 : IVec S16 32) (k0_hw87 : k0_chk87 k0_t1 v126 v128 v155), ∀ (k0_h5 : k0_cond5 k0_t1 = 1#1), ∀ a x, ((![v126, v128, v155] : Fin 3 → IVec S16 32) a x).toNat < S16x64x8.size a := fun k0_t1 v126 v128 v155 k0_hw87 k0_h5 => k0_hw87.2 k0_h5

def k0_chk88 (k0_t1 : Fin k0_t1_loop.trips) (v126 : IVec S16 32) (v128 : IVec S16 32) (v159 : IVec S16 32) : Prop :=
  (∀ (k0_h5 : k0_cond5 k0_t1 = 1#1), ∀ a x, ((![v126, v128, v159] : Fin 3 → IVec S16 32) a x).toNat < S16x64x8.size a) ∧
  (∀ (k0_h5 : k0_cond5 k0_t1 = 1#1), ∀ a x, ((![v126, v128, v159] : Fin 3 → IVec S16 32) a x).toNat < S16x64x8.size a)
theorem k0_idx127_inb : ∀ (k0_t1 : Fin k0_t1_loop.trips) (v126 : IVec S16 32) (v128 : IVec S16 32) (v159 : IVec S16 32) (k0_hw88 : k0_chk88 k0_t1 v126 v128 v159), ∀ (k0_h5 : k0_cond5 k0_t1 = 1#1), ∀ a x, ((![v126, v128, v159] : Fin 3 → IVec S16 32) a x).toNat < S16x64x8.size a := fun k0_t1 v126 v128 v159 k0_hw88 k0_h5 => k0_hw88.1 k0_h5
theorem k0_idx128_inb : ∀ (k0_t1 : Fin k0_t1_loop.trips) (v126 : IVec S16 32) (v128 : IVec S16 32) (v159 : IVec S16 32) (k0_hw88 : k0_chk88 k0_t1 v126 v128 v159), ∀ (k0_h5 : k0_cond5 k0_t1 = 1#1), ∀ a x, ((![v126, v128, v159] : Fin 3 → IVec S16 32) a x).toNat < S16x64x8.size a := fun k0_t1 v126 v128 v159 k0_hw88 k0_h5 => k0_hw88.2 k0_h5
@[reducible] def k0_t9_loop : Scf.Loop 32 :=
  let c0_i32_83 : BitVec 32 := 0#32
  let c20_i32_84 : BitVec 32 := 20#32
  let v165 : BitVec 32 := Scalar.addi c0_i32_83 c20_i32_84
  let c1_i32_85 : BitVec 32 := 1#32
  ⟨c0_i32_83, v165, c1_i32_85⟩
def k0_off16 (k0_t7 : Fin k0_t7_loop.trips) (k0_t9 : Fin k0_t9_loop.trips) : Fin 3 → Nat :=
  let c0_i32_66 : BitVec 32 := 0#32
  let c1_i32_68 : BitVec 32 := 1#32
  let arg20 : BitVec 32 := Scf.iv c0_i32_66 c1_i32_68 k0_t7
  let v271 : Index := Scalar.indexCast arg20
  let c0_i32_83 : BitVec 32 := 0#32
  let c1_i32_85 : BitVec 32 := 1#32
  let arg21 : BitVec 32 := Scf.iv c0_i32_83 c1_i32_85 k0_t9
  let v272 : Index := Scalar.indexCast arg21
  let c16 : Index := 16#32
  ![v271.toNat, v272.toNat, 16]

def k0_chk89 (k0_t1 : Fin k0_t1_loop.trips) (v273 : IVec S16 32) (v277 : IVec S16 32) : Prop :=
  (∀ (k0_h5 : k0_cond5 k0_t1 = 1#1), ∀ a x, ((![v273, v277] : Fin 2 → IVec S16 32) a x).toNat < S4096x8.size a)
theorem k0_idx129_inb : ∀ (k0_t1 : Fin k0_t1_loop.trips) (v273 : IVec S16 32) (v277 : IVec S16 32) (k0_hw89 : k0_chk89 k0_t1 v273 v277), ∀ (k0_h5 : k0_cond5 k0_t1 = 1#1), ∀ a x, ((![v273, v277] : Fin 2 → IVec S16 32) a x).toNat < S4096x8.size a := fun k0_t1 v273 v277 k0_hw89 k0_h5 => k0_hw89 k0_h5

def k0_chk90 (k0_t1 : Fin k0_t1_loop.trips) (v273 : IVec S16 32) (v282 : IVec S16 32) : Prop :=
  (∀ (k0_h5 : k0_cond5 k0_t1 = 1#1), ∀ a x, ((![v273, v282] : Fin 2 → IVec S16 32) a x).toNat < S4096x8.size a)
theorem k0_idx130_inb : ∀ (k0_t1 : Fin k0_t1_loop.trips) (v273 : IVec S16 32) (v282 : IVec S16 32) (k0_hw90 : k0_chk90 k0_t1 v273 v282), ∀ (k0_h5 : k0_cond5 k0_t1 = 1#1), ∀ a x, ((![v273, v282] : Fin 2 → IVec S16 32) a x).toNat < S4096x8.size a := fun k0_t1 v273 v282 k0_hw90 k0_h5 => k0_hw90 k0_h5

def k0_chk91 (k0_t1 : Fin k0_t1_loop.trips) (v273 : IVec S16 32) (v287 : IVec S16 32) : Prop :=
  (∀ (k0_h5 : k0_cond5 k0_t1 = 1#1), ∀ a x, ((![v273, v287] : Fin 2 → IVec S16 32) a x).toNat < S4096x8.size a)
theorem k0_idx131_inb : ∀ (k0_t1 : Fin k0_t1_loop.trips) (v273 : IVec S16 32) (v287 : IVec S16 32) (k0_hw91 : k0_chk91 k0_t1 v273 v287), ∀ (k0_h5 : k0_cond5 k0_t1 = 1#1), ∀ a x, ((![v273, v287] : Fin 2 → IVec S16 32) a x).toNat < S4096x8.size a := fun k0_t1 v273 v287 k0_hw91 k0_h5 => k0_hw91 k0_h5

def k0_chk92 (k0_t1 : Fin k0_t1_loop.trips) (v273 : IVec S16 32) (v292 : IVec S16 32) : Prop :=
  (∀ (k0_h5 : k0_cond5 k0_t1 = 1#1), ∀ a x, ((![v273, v292] : Fin 2 → IVec S16 32) a x).toNat < S4096x8.size a)
theorem k0_idx132_inb : ∀ (k0_t1 : Fin k0_t1_loop.trips) (v273 : IVec S16 32) (v292 : IVec S16 32) (k0_hw92 : k0_chk92 k0_t1 v273 v292), ∀ (k0_h5 : k0_cond5 k0_t1 = 1#1), ∀ a x, ((![v273, v292] : Fin 2 → IVec S16 32) a x).toNat < S4096x8.size a := fun k0_t1 v273 v292 k0_hw92 k0_h5 => k0_hw92 k0_h5

def k0_chk93 (k0_t1 : Fin k0_t1_loop.trips) (v273 : IVec S16 32) (v297 : IVec S16 32) : Prop :=
  (∀ (k0_h5 : k0_cond5 k0_t1 = 1#1), ∀ a x, ((![v273, v297] : Fin 2 → IVec S16 32) a x).toNat < S4096x8.size a)
theorem k0_idx133_inb : ∀ (k0_t1 : Fin k0_t1_loop.trips) (v273 : IVec S16 32) (v297 : IVec S16 32) (k0_hw93 : k0_chk93 k0_t1 v273 v297), ∀ (k0_h5 : k0_cond5 k0_t1 = 1#1), ∀ a x, ((![v273, v297] : Fin 2 → IVec S16 32) a x).toNat < S4096x8.size a := fun k0_t1 v273 v297 k0_hw93 k0_h5 => k0_hw93 k0_h5

def k0_chk94 (k0_t1 : Fin k0_t1_loop.trips) (v273 : IVec S16 32) (v302 : IVec S16 32) : Prop :=
  (∀ (k0_h5 : k0_cond5 k0_t1 = 1#1), ∀ a x, ((![v273, v302] : Fin 2 → IVec S16 32) a x).toNat < S4096x8.size a)
theorem k0_idx134_inb : ∀ (k0_t1 : Fin k0_t1_loop.trips) (v273 : IVec S16 32) (v302 : IVec S16 32) (k0_hw94 : k0_chk94 k0_t1 v273 v302), ∀ (k0_h5 : k0_cond5 k0_t1 = 1#1), ∀ a x, ((![v273, v302] : Fin 2 → IVec S16 32) a x).toNat < S4096x8.size a := fun k0_t1 v273 v302 k0_hw94 k0_h5 => k0_hw94 k0_h5

def k0_chk95 (k0_t1 : Fin k0_t1_loop.trips) (v273 : IVec S16 32) (v307 : IVec S16 32) : Prop :=
  (∀ (k0_h5 : k0_cond5 k0_t1 = 1#1), ∀ a x, ((![v273, v307] : Fin 2 → IVec S16 32) a x).toNat < S4096x8.size a)
theorem k0_idx135_inb : ∀ (k0_t1 : Fin k0_t1_loop.trips) (v273 : IVec S16 32) (v307 : IVec S16 32) (k0_hw95 : k0_chk95 k0_t1 v273 v307), ∀ (k0_h5 : k0_cond5 k0_t1 = 1#1), ∀ a x, ((![v273, v307] : Fin 2 → IVec S16 32) a x).toNat < S4096x8.size a := fun k0_t1 v273 v307 k0_hw95 k0_h5 => k0_hw95 k0_h5

def k0_chk96 (k0_t1 : Fin k0_t1_loop.trips) (v273 : IVec S16 32) (v312 : IVec S16 32) : Prop :=
  (∀ (k0_h5 : k0_cond5 k0_t1 = 1#1), ∀ a x, ((![v273, v312] : Fin 2 → IVec S16 32) a x).toNat < S4096x8.size a)
theorem k0_idx136_inb : ∀ (k0_t1 : Fin k0_t1_loop.trips) (v273 : IVec S16 32) (v312 : IVec S16 32) (k0_hw96 : k0_chk96 k0_t1 v273 v312), ∀ (k0_h5 : k0_cond5 k0_t1 = 1#1), ∀ a x, ((![v273, v312] : Fin 2 → IVec S16 32) a x).toNat < S4096x8.size a := fun k0_t1 v273 v312 k0_hw96 k0_h5 => k0_hw96 k0_h5

def k0_chk97 (k0_t1 : Fin k0_t1_loop.trips) (v126 : IVec S16 32) (v164 : IVec S16 32) (v167 : IVec S16 32) : Prop :=
  (∀ (k0_h5 : k0_cond5 k0_t1 = 1#1), ∀ a x, ((![v126, v164, v167] : Fin 3 → IVec S16 32) a x).toNat < S16x64x8.size a) ∧
  (∀ (k0_h5 : k0_cond5 k0_t1 = 1#1), ∀ a x, ((![v126, v164, v167] : Fin 3 → IVec S16 32) a x).toNat < S16x64x8.size a)
theorem k0_idx137_inb : ∀ (k0_t1 : Fin k0_t1_loop.trips) (v126 : IVec S16 32) (v164 : IVec S16 32) (v167 : IVec S16 32) (k0_hw97 : k0_chk97 k0_t1 v126 v164 v167), ∀ (k0_h5 : k0_cond5 k0_t1 = 1#1), ∀ a x, ((![v126, v164, v167] : Fin 3 → IVec S16 32) a x).toNat < S16x64x8.size a := fun k0_t1 v126 v164 v167 k0_hw97 k0_h5 => k0_hw97.1 k0_h5
theorem k0_idx138_inb : ∀ (k0_t1 : Fin k0_t1_loop.trips) (v126 : IVec S16 32) (v164 : IVec S16 32) (v167 : IVec S16 32) (k0_hw97 : k0_chk97 k0_t1 v126 v164 v167), ∀ (k0_h5 : k0_cond5 k0_t1 = 1#1), ∀ a x, ((![v126, v164, v167] : Fin 3 → IVec S16 32) a x).toNat < S16x64x8.size a := fun k0_t1 v126 v164 v167 k0_hw97 k0_h5 => k0_hw97.2 k0_h5

def k0_chk98 (k0_t1 : Fin k0_t1_loop.trips) (v126 : IVec S16 32) (v164 : IVec S16 32) (v171 : IVec S16 32) : Prop :=
  (∀ (k0_h5 : k0_cond5 k0_t1 = 1#1), ∀ a x, ((![v126, v164, v171] : Fin 3 → IVec S16 32) a x).toNat < S16x64x8.size a) ∧
  (∀ (k0_h5 : k0_cond5 k0_t1 = 1#1), ∀ a x, ((![v126, v164, v171] : Fin 3 → IVec S16 32) a x).toNat < S16x64x8.size a)
theorem k0_idx139_inb : ∀ (k0_t1 : Fin k0_t1_loop.trips) (v126 : IVec S16 32) (v164 : IVec S16 32) (v171 : IVec S16 32) (k0_hw98 : k0_chk98 k0_t1 v126 v164 v171), ∀ (k0_h5 : k0_cond5 k0_t1 = 1#1), ∀ a x, ((![v126, v164, v171] : Fin 3 → IVec S16 32) a x).toNat < S16x64x8.size a := fun k0_t1 v126 v164 v171 k0_hw98 k0_h5 => k0_hw98.1 k0_h5
theorem k0_idx140_inb : ∀ (k0_t1 : Fin k0_t1_loop.trips) (v126 : IVec S16 32) (v164 : IVec S16 32) (v171 : IVec S16 32) (k0_hw98 : k0_chk98 k0_t1 v126 v164 v171), ∀ (k0_h5 : k0_cond5 k0_t1 = 1#1), ∀ a x, ((![v126, v164, v171] : Fin 3 → IVec S16 32) a x).toNat < S16x64x8.size a := fun k0_t1 v126 v164 v171 k0_hw98 k0_h5 => k0_hw98.2 k0_h5

def k0_chk99 (k0_t1 : Fin k0_t1_loop.trips) (v126 : IVec S16 32) (v164 : IVec S16 32) (v175 : IVec S16 32) : Prop :=
  (∀ (k0_h5 : k0_cond5 k0_t1 = 1#1), ∀ a x, ((![v126, v164, v175] : Fin 3 → IVec S16 32) a x).toNat < S16x64x8.size a) ∧
  (∀ (k0_h5 : k0_cond5 k0_t1 = 1#1), ∀ a x, ((![v126, v164, v175] : Fin 3 → IVec S16 32) a x).toNat < S16x64x8.size a)
theorem k0_idx141_inb : ∀ (k0_t1 : Fin k0_t1_loop.trips) (v126 : IVec S16 32) (v164 : IVec S16 32) (v175 : IVec S16 32) (k0_hw99 : k0_chk99 k0_t1 v126 v164 v175), ∀ (k0_h5 : k0_cond5 k0_t1 = 1#1), ∀ a x, ((![v126, v164, v175] : Fin 3 → IVec S16 32) a x).toNat < S16x64x8.size a := fun k0_t1 v126 v164 v175 k0_hw99 k0_h5 => k0_hw99.1 k0_h5
theorem k0_idx142_inb : ∀ (k0_t1 : Fin k0_t1_loop.trips) (v126 : IVec S16 32) (v164 : IVec S16 32) (v175 : IVec S16 32) (k0_hw99 : k0_chk99 k0_t1 v126 v164 v175), ∀ (k0_h5 : k0_cond5 k0_t1 = 1#1), ∀ a x, ((![v126, v164, v175] : Fin 3 → IVec S16 32) a x).toNat < S16x64x8.size a := fun k0_t1 v126 v164 v175 k0_hw99 k0_h5 => k0_hw99.2 k0_h5

def k0_chk100 (k0_t1 : Fin k0_t1_loop.trips) (v126 : IVec S16 32) (v164 : IVec S16 32) (v179 : IVec S16 32) : Prop :=
  (∀ (k0_h5 : k0_cond5 k0_t1 = 1#1), ∀ a x, ((![v126, v164, v179] : Fin 3 → IVec S16 32) a x).toNat < S16x64x8.size a) ∧
  (∀ (k0_h5 : k0_cond5 k0_t1 = 1#1), ∀ a x, ((![v126, v164, v179] : Fin 3 → IVec S16 32) a x).toNat < S16x64x8.size a)
theorem k0_idx143_inb : ∀ (k0_t1 : Fin k0_t1_loop.trips) (v126 : IVec S16 32) (v164 : IVec S16 32) (v179 : IVec S16 32) (k0_hw100 : k0_chk100 k0_t1 v126 v164 v179), ∀ (k0_h5 : k0_cond5 k0_t1 = 1#1), ∀ a x, ((![v126, v164, v179] : Fin 3 → IVec S16 32) a x).toNat < S16x64x8.size a := fun k0_t1 v126 v164 v179 k0_hw100 k0_h5 => k0_hw100.1 k0_h5
theorem k0_idx144_inb : ∀ (k0_t1 : Fin k0_t1_loop.trips) (v126 : IVec S16 32) (v164 : IVec S16 32) (v179 : IVec S16 32) (k0_hw100 : k0_chk100 k0_t1 v126 v164 v179), ∀ (k0_h5 : k0_cond5 k0_t1 = 1#1), ∀ a x, ((![v126, v164, v179] : Fin 3 → IVec S16 32) a x).toNat < S16x64x8.size a := fun k0_t1 v126 v164 v179 k0_hw100 k0_h5 => k0_hw100.2 k0_h5

def k0_chk101 (k0_t1 : Fin k0_t1_loop.trips) (v126 : IVec S16 32) (v164 : IVec S16 32) (v183 : IVec S16 32) : Prop :=
  (∀ (k0_h5 : k0_cond5 k0_t1 = 1#1), ∀ a x, ((![v126, v164, v183] : Fin 3 → IVec S16 32) a x).toNat < S16x64x8.size a) ∧
  (∀ (k0_h5 : k0_cond5 k0_t1 = 1#1), ∀ a x, ((![v126, v164, v183] : Fin 3 → IVec S16 32) a x).toNat < S16x64x8.size a)
theorem k0_idx145_inb : ∀ (k0_t1 : Fin k0_t1_loop.trips) (v126 : IVec S16 32) (v164 : IVec S16 32) (v183 : IVec S16 32) (k0_hw101 : k0_chk101 k0_t1 v126 v164 v183), ∀ (k0_h5 : k0_cond5 k0_t1 = 1#1), ∀ a x, ((![v126, v164, v183] : Fin 3 → IVec S16 32) a x).toNat < S16x64x8.size a := fun k0_t1 v126 v164 v183 k0_hw101 k0_h5 => k0_hw101.1 k0_h5
theorem k0_idx146_inb : ∀ (k0_t1 : Fin k0_t1_loop.trips) (v126 : IVec S16 32) (v164 : IVec S16 32) (v183 : IVec S16 32) (k0_hw101 : k0_chk101 k0_t1 v126 v164 v183), ∀ (k0_h5 : k0_cond5 k0_t1 = 1#1), ∀ a x, ((![v126, v164, v183] : Fin 3 → IVec S16 32) a x).toNat < S16x64x8.size a := fun k0_t1 v126 v164 v183 k0_hw101 k0_h5 => k0_hw101.2 k0_h5

def k0_chk102 (k0_t1 : Fin k0_t1_loop.trips) (v126 : IVec S16 32) (v164 : IVec S16 32) (v187 : IVec S16 32) : Prop :=
  (∀ (k0_h5 : k0_cond5 k0_t1 = 1#1), ∀ a x, ((![v126, v164, v187] : Fin 3 → IVec S16 32) a x).toNat < S16x64x8.size a) ∧
  (∀ (k0_h5 : k0_cond5 k0_t1 = 1#1), ∀ a x, ((![v126, v164, v187] : Fin 3 → IVec S16 32) a x).toNat < S16x64x8.size a)
theorem k0_idx147_inb : ∀ (k0_t1 : Fin k0_t1_loop.trips) (v126 : IVec S16 32) (v164 : IVec S16 32) (v187 : IVec S16 32) (k0_hw102 : k0_chk102 k0_t1 v126 v164 v187), ∀ (k0_h5 : k0_cond5 k0_t1 = 1#1), ∀ a x, ((![v126, v164, v187] : Fin 3 → IVec S16 32) a x).toNat < S16x64x8.size a := fun k0_t1 v126 v164 v187 k0_hw102 k0_h5 => k0_hw102.1 k0_h5
theorem k0_idx148_inb : ∀ (k0_t1 : Fin k0_t1_loop.trips) (v126 : IVec S16 32) (v164 : IVec S16 32) (v187 : IVec S16 32) (k0_hw102 : k0_chk102 k0_t1 v126 v164 v187), ∀ (k0_h5 : k0_cond5 k0_t1 = 1#1), ∀ a x, ((![v126, v164, v187] : Fin 3 → IVec S16 32) a x).toNat < S16x64x8.size a := fun k0_t1 v126 v164 v187 k0_hw102 k0_h5 => k0_hw102.2 k0_h5

def k0_chk103 (k0_t1 : Fin k0_t1_loop.trips) (v126 : IVec S16 32) (v164 : IVec S16 32) (v191 : IVec S16 32) : Prop :=
  (∀ (k0_h5 : k0_cond5 k0_t1 = 1#1), ∀ a x, ((![v126, v164, v191] : Fin 3 → IVec S16 32) a x).toNat < S16x64x8.size a) ∧
  (∀ (k0_h5 : k0_cond5 k0_t1 = 1#1), ∀ a x, ((![v126, v164, v191] : Fin 3 → IVec S16 32) a x).toNat < S16x64x8.size a)
theorem k0_idx149_inb : ∀ (k0_t1 : Fin k0_t1_loop.trips) (v126 : IVec S16 32) (v164 : IVec S16 32) (v191 : IVec S16 32) (k0_hw103 : k0_chk103 k0_t1 v126 v164 v191), ∀ (k0_h5 : k0_cond5 k0_t1 = 1#1), ∀ a x, ((![v126, v164, v191] : Fin 3 → IVec S16 32) a x).toNat < S16x64x8.size a := fun k0_t1 v126 v164 v191 k0_hw103 k0_h5 => k0_hw103.1 k0_h5
theorem k0_idx150_inb : ∀ (k0_t1 : Fin k0_t1_loop.trips) (v126 : IVec S16 32) (v164 : IVec S16 32) (v191 : IVec S16 32) (k0_hw103 : k0_chk103 k0_t1 v126 v164 v191), ∀ (k0_h5 : k0_cond5 k0_t1 = 1#1), ∀ a x, ((![v126, v164, v191] : Fin 3 → IVec S16 32) a x).toNat < S16x64x8.size a := fun k0_t1 v126 v164 v191 k0_hw103 k0_h5 => k0_hw103.2 k0_h5

def k0_chk104 (k0_t1 : Fin k0_t1_loop.trips) (v126 : IVec S16 32) (v164 : IVec S16 32) (v195 : IVec S16 32) : Prop :=
  (∀ (k0_h5 : k0_cond5 k0_t1 = 1#1), ∀ a x, ((![v126, v164, v195] : Fin 3 → IVec S16 32) a x).toNat < S16x64x8.size a) ∧
  (∀ (k0_h5 : k0_cond5 k0_t1 = 1#1), ∀ a x, ((![v126, v164, v195] : Fin 3 → IVec S16 32) a x).toNat < S16x64x8.size a)
theorem k0_idx151_inb : ∀ (k0_t1 : Fin k0_t1_loop.trips) (v126 : IVec S16 32) (v164 : IVec S16 32) (v195 : IVec S16 32) (k0_hw104 : k0_chk104 k0_t1 v126 v164 v195), ∀ (k0_h5 : k0_cond5 k0_t1 = 1#1), ∀ a x, ((![v126, v164, v195] : Fin 3 → IVec S16 32) a x).toNat < S16x64x8.size a := fun k0_t1 v126 v164 v195 k0_hw104 k0_h5 => k0_hw104.1 k0_h5
theorem k0_idx152_inb : ∀ (k0_t1 : Fin k0_t1_loop.trips) (v126 : IVec S16 32) (v164 : IVec S16 32) (v195 : IVec S16 32) (k0_hw104 : k0_chk104 k0_t1 v126 v164 v195), ∀ (k0_h5 : k0_cond5 k0_t1 = 1#1), ∀ a x, ((![v126, v164, v195] : Fin 3 → IVec S16 32) a x).toNat < S16x64x8.size a := fun k0_t1 v126 v164 v195 k0_hw104 k0_h5 => k0_hw104.2 k0_h5
@[reducible] def k0_t10_loop : Scf.Loop 32 :=
  let c0_i32_96 : BitVec 32 := 0#32
  let c20_i32_97 : BitVec 32 := 20#32
  let v201 : BitVec 32 := Scalar.addi c0_i32_96 c20_i32_97
  let c1_i32_98 : BitVec 32 := 1#32
  ⟨c0_i32_96, v201, c1_i32_98⟩
def k0_off17 (k0_t7 : Fin k0_t7_loop.trips) (k0_t10 : Fin k0_t10_loop.trips) : Fin 3 → Nat :=
  let c0_i32_66 : BitVec 32 := 0#32
  let c1_i32_68 : BitVec 32 := 1#32
  let arg20 : BitVec 32 := Scf.iv c0_i32_66 c1_i32_68 k0_t7
  let v271 : Index := Scalar.indexCast arg20
  let c0_i32_96 : BitVec 32 := 0#32
  let c1_i32_98 : BitVec 32 := 1#32
  let arg21 : BitVec 32 := Scf.iv c0_i32_96 c1_i32_98 k0_t10
  let v272 : Index := Scalar.indexCast arg21
  let c32 : Index := 32#32
  ![v271.toNat, v272.toNat, 32]

def k0_chk105 (k0_t1 : Fin k0_t1_loop.trips) (v273 : IVec S16 32) (v277 : IVec S16 32) : Prop :=
  (∀ (k0_h5 : k0_cond5 k0_t1 = 1#1), ∀ a x, ((![v273, v277] : Fin 2 → IVec S16 32) a x).toNat < S4096x8.size a)
theorem k0_idx153_inb : ∀ (k0_t1 : Fin k0_t1_loop.trips) (v273 : IVec S16 32) (v277 : IVec S16 32) (k0_hw105 : k0_chk105 k0_t1 v273 v277), ∀ (k0_h5 : k0_cond5 k0_t1 = 1#1), ∀ a x, ((![v273, v277] : Fin 2 → IVec S16 32) a x).toNat < S4096x8.size a := fun k0_t1 v273 v277 k0_hw105 k0_h5 => k0_hw105 k0_h5

def k0_chk106 (k0_t1 : Fin k0_t1_loop.trips) (v273 : IVec S16 32) (v282 : IVec S16 32) : Prop :=
  (∀ (k0_h5 : k0_cond5 k0_t1 = 1#1), ∀ a x, ((![v273, v282] : Fin 2 → IVec S16 32) a x).toNat < S4096x8.size a)
theorem k0_idx154_inb : ∀ (k0_t1 : Fin k0_t1_loop.trips) (v273 : IVec S16 32) (v282 : IVec S16 32) (k0_hw106 : k0_chk106 k0_t1 v273 v282), ∀ (k0_h5 : k0_cond5 k0_t1 = 1#1), ∀ a x, ((![v273, v282] : Fin 2 → IVec S16 32) a x).toNat < S4096x8.size a := fun k0_t1 v273 v282 k0_hw106 k0_h5 => k0_hw106 k0_h5

def k0_chk107 (k0_t1 : Fin k0_t1_loop.trips) (v273 : IVec S16 32) (v287 : IVec S16 32) : Prop :=
  (∀ (k0_h5 : k0_cond5 k0_t1 = 1#1), ∀ a x, ((![v273, v287] : Fin 2 → IVec S16 32) a x).toNat < S4096x8.size a)
theorem k0_idx155_inb : ∀ (k0_t1 : Fin k0_t1_loop.trips) (v273 : IVec S16 32) (v287 : IVec S16 32) (k0_hw107 : k0_chk107 k0_t1 v273 v287), ∀ (k0_h5 : k0_cond5 k0_t1 = 1#1), ∀ a x, ((![v273, v287] : Fin 2 → IVec S16 32) a x).toNat < S4096x8.size a := fun k0_t1 v273 v287 k0_hw107 k0_h5 => k0_hw107 k0_h5

def k0_chk108 (k0_t1 : Fin k0_t1_loop.trips) (v273 : IVec S16 32) (v292 : IVec S16 32) : Prop :=
  (∀ (k0_h5 : k0_cond5 k0_t1 = 1#1), ∀ a x, ((![v273, v292] : Fin 2 → IVec S16 32) a x).toNat < S4096x8.size a)
theorem k0_idx156_inb : ∀ (k0_t1 : Fin k0_t1_loop.trips) (v273 : IVec S16 32) (v292 : IVec S16 32) (k0_hw108 : k0_chk108 k0_t1 v273 v292), ∀ (k0_h5 : k0_cond5 k0_t1 = 1#1), ∀ a x, ((![v273, v292] : Fin 2 → IVec S16 32) a x).toNat < S4096x8.size a := fun k0_t1 v273 v292 k0_hw108 k0_h5 => k0_hw108 k0_h5

def k0_chk109 (k0_t1 : Fin k0_t1_loop.trips) (v273 : IVec S16 32) (v297 : IVec S16 32) : Prop :=
  (∀ (k0_h5 : k0_cond5 k0_t1 = 1#1), ∀ a x, ((![v273, v297] : Fin 2 → IVec S16 32) a x).toNat < S4096x8.size a)
theorem k0_idx157_inb : ∀ (k0_t1 : Fin k0_t1_loop.trips) (v273 : IVec S16 32) (v297 : IVec S16 32) (k0_hw109 : k0_chk109 k0_t1 v273 v297), ∀ (k0_h5 : k0_cond5 k0_t1 = 1#1), ∀ a x, ((![v273, v297] : Fin 2 → IVec S16 32) a x).toNat < S4096x8.size a := fun k0_t1 v273 v297 k0_hw109 k0_h5 => k0_hw109 k0_h5

def k0_chk110 (k0_t1 : Fin k0_t1_loop.trips) (v273 : IVec S16 32) (v302 : IVec S16 32) : Prop :=
  (∀ (k0_h5 : k0_cond5 k0_t1 = 1#1), ∀ a x, ((![v273, v302] : Fin 2 → IVec S16 32) a x).toNat < S4096x8.size a)
theorem k0_idx158_inb : ∀ (k0_t1 : Fin k0_t1_loop.trips) (v273 : IVec S16 32) (v302 : IVec S16 32) (k0_hw110 : k0_chk110 k0_t1 v273 v302), ∀ (k0_h5 : k0_cond5 k0_t1 = 1#1), ∀ a x, ((![v273, v302] : Fin 2 → IVec S16 32) a x).toNat < S4096x8.size a := fun k0_t1 v273 v302 k0_hw110 k0_h5 => k0_hw110 k0_h5

def k0_chk111 (k0_t1 : Fin k0_t1_loop.trips) (v273 : IVec S16 32) (v307 : IVec S16 32) : Prop :=
  (∀ (k0_h5 : k0_cond5 k0_t1 = 1#1), ∀ a x, ((![v273, v307] : Fin 2 → IVec S16 32) a x).toNat < S4096x8.size a)
theorem k0_idx159_inb : ∀ (k0_t1 : Fin k0_t1_loop.trips) (v273 : IVec S16 32) (v307 : IVec S16 32) (k0_hw111 : k0_chk111 k0_t1 v273 v307), ∀ (k0_h5 : k0_cond5 k0_t1 = 1#1), ∀ a x, ((![v273, v307] : Fin 2 → IVec S16 32) a x).toNat < S4096x8.size a := fun k0_t1 v273 v307 k0_hw111 k0_h5 => k0_hw111 k0_h5

def k0_chk112 (k0_t1 : Fin k0_t1_loop.trips) (v273 : IVec S16 32) (v312 : IVec S16 32) : Prop :=
  (∀ (k0_h5 : k0_cond5 k0_t1 = 1#1), ∀ a x, ((![v273, v312] : Fin 2 → IVec S16 32) a x).toNat < S4096x8.size a)
theorem k0_idx160_inb : ∀ (k0_t1 : Fin k0_t1_loop.trips) (v273 : IVec S16 32) (v312 : IVec S16 32) (k0_hw112 : k0_chk112 k0_t1 v273 v312), ∀ (k0_h5 : k0_cond5 k0_t1 = 1#1), ∀ a x, ((![v273, v312] : Fin 2 → IVec S16 32) a x).toNat < S4096x8.size a := fun k0_t1 v273 v312 k0_hw112 k0_h5 => k0_hw112 k0_h5

def k0_chk113 (k0_t1 : Fin k0_t1_loop.trips) (v126 : IVec S16 32) (v200 : IVec S16 32) (v203 : IVec S16 32) : Prop :=
  (∀ (k0_h5 : k0_cond5 k0_t1 = 1#1), ∀ a x, ((![v126, v200, v203] : Fin 3 → IVec S16 32) a x).toNat < S16x64x8.size a) ∧
  (∀ (k0_h5 : k0_cond5 k0_t1 = 1#1), ∀ a x, ((![v126, v200, v203] : Fin 3 → IVec S16 32) a x).toNat < S16x64x8.size a)
theorem k0_idx161_inb : ∀ (k0_t1 : Fin k0_t1_loop.trips) (v126 : IVec S16 32) (v200 : IVec S16 32) (v203 : IVec S16 32) (k0_hw113 : k0_chk113 k0_t1 v126 v200 v203), ∀ (k0_h5 : k0_cond5 k0_t1 = 1#1), ∀ a x, ((![v126, v200, v203] : Fin 3 → IVec S16 32) a x).toNat < S16x64x8.size a := fun k0_t1 v126 v200 v203 k0_hw113 k0_h5 => k0_hw113.1 k0_h5
theorem k0_idx162_inb : ∀ (k0_t1 : Fin k0_t1_loop.trips) (v126 : IVec S16 32) (v200 : IVec S16 32) (v203 : IVec S16 32) (k0_hw113 : k0_chk113 k0_t1 v126 v200 v203), ∀ (k0_h5 : k0_cond5 k0_t1 = 1#1), ∀ a x, ((![v126, v200, v203] : Fin 3 → IVec S16 32) a x).toNat < S16x64x8.size a := fun k0_t1 v126 v200 v203 k0_hw113 k0_h5 => k0_hw113.2 k0_h5

def k0_chk114 (k0_t1 : Fin k0_t1_loop.trips) (v126 : IVec S16 32) (v200 : IVec S16 32) (v207 : IVec S16 32) : Prop :=
  (∀ (k0_h5 : k0_cond5 k0_t1 = 1#1), ∀ a x, ((![v126, v200, v207] : Fin 3 → IVec S16 32) a x).toNat < S16x64x8.size a) ∧
  (∀ (k0_h5 : k0_cond5 k0_t1 = 1#1), ∀ a x, ((![v126, v200, v207] : Fin 3 → IVec S16 32) a x).toNat < S16x64x8.size a)
theorem k0_idx163_inb : ∀ (k0_t1 : Fin k0_t1_loop.trips) (v126 : IVec S16 32) (v200 : IVec S16 32) (v207 : IVec S16 32) (k0_hw114 : k0_chk114 k0_t1 v126 v200 v207), ∀ (k0_h5 : k0_cond5 k0_t1 = 1#1), ∀ a x, ((![v126, v200, v207] : Fin 3 → IVec S16 32) a x).toNat < S16x64x8.size a := fun k0_t1 v126 v200 v207 k0_hw114 k0_h5 => k0_hw114.1 k0_h5
theorem k0_idx164_inb : ∀ (k0_t1 : Fin k0_t1_loop.trips) (v126 : IVec S16 32) (v200 : IVec S16 32) (v207 : IVec S16 32) (k0_hw114 : k0_chk114 k0_t1 v126 v200 v207), ∀ (k0_h5 : k0_cond5 k0_t1 = 1#1), ∀ a x, ((![v126, v200, v207] : Fin 3 → IVec S16 32) a x).toNat < S16x64x8.size a := fun k0_t1 v126 v200 v207 k0_hw114 k0_h5 => k0_hw114.2 k0_h5

def k0_chk115 (k0_t1 : Fin k0_t1_loop.trips) (v126 : IVec S16 32) (v200 : IVec S16 32) (v211 : IVec S16 32) : Prop :=
  (∀ (k0_h5 : k0_cond5 k0_t1 = 1#1), ∀ a x, ((![v126, v200, v211] : Fin 3 → IVec S16 32) a x).toNat < S16x64x8.size a) ∧
  (∀ (k0_h5 : k0_cond5 k0_t1 = 1#1), ∀ a x, ((![v126, v200, v211] : Fin 3 → IVec S16 32) a x).toNat < S16x64x8.size a)
theorem k0_idx165_inb : ∀ (k0_t1 : Fin k0_t1_loop.trips) (v126 : IVec S16 32) (v200 : IVec S16 32) (v211 : IVec S16 32) (k0_hw115 : k0_chk115 k0_t1 v126 v200 v211), ∀ (k0_h5 : k0_cond5 k0_t1 = 1#1), ∀ a x, ((![v126, v200, v211] : Fin 3 → IVec S16 32) a x).toNat < S16x64x8.size a := fun k0_t1 v126 v200 v211 k0_hw115 k0_h5 => k0_hw115.1 k0_h5
theorem k0_idx166_inb : ∀ (k0_t1 : Fin k0_t1_loop.trips) (v126 : IVec S16 32) (v200 : IVec S16 32) (v211 : IVec S16 32) (k0_hw115 : k0_chk115 k0_t1 v126 v200 v211), ∀ (k0_h5 : k0_cond5 k0_t1 = 1#1), ∀ a x, ((![v126, v200, v211] : Fin 3 → IVec S16 32) a x).toNat < S16x64x8.size a := fun k0_t1 v126 v200 v211 k0_hw115 k0_h5 => k0_hw115.2 k0_h5

def k0_chk116 (k0_t1 : Fin k0_t1_loop.trips) (v126 : IVec S16 32) (v200 : IVec S16 32) (v215 : IVec S16 32) : Prop :=
  (∀ (k0_h5 : k0_cond5 k0_t1 = 1#1), ∀ a x, ((![v126, v200, v215] : Fin 3 → IVec S16 32) a x).toNat < S16x64x8.size a) ∧
  (∀ (k0_h5 : k0_cond5 k0_t1 = 1#1), ∀ a x, ((![v126, v200, v215] : Fin 3 → IVec S16 32) a x).toNat < S16x64x8.size a)
theorem k0_idx167_inb : ∀ (k0_t1 : Fin k0_t1_loop.trips) (v126 : IVec S16 32) (v200 : IVec S16 32) (v215 : IVec S16 32) (k0_hw116 : k0_chk116 k0_t1 v126 v200 v215), ∀ (k0_h5 : k0_cond5 k0_t1 = 1#1), ∀ a x, ((![v126, v200, v215] : Fin 3 → IVec S16 32) a x).toNat < S16x64x8.size a := fun k0_t1 v126 v200 v215 k0_hw116 k0_h5 => k0_hw116.1 k0_h5
theorem k0_idx168_inb : ∀ (k0_t1 : Fin k0_t1_loop.trips) (v126 : IVec S16 32) (v200 : IVec S16 32) (v215 : IVec S16 32) (k0_hw116 : k0_chk116 k0_t1 v126 v200 v215), ∀ (k0_h5 : k0_cond5 k0_t1 = 1#1), ∀ a x, ((![v126, v200, v215] : Fin 3 → IVec S16 32) a x).toNat < S16x64x8.size a := fun k0_t1 v126 v200 v215 k0_hw116 k0_h5 => k0_hw116.2 k0_h5

def k0_chk117 (k0_t1 : Fin k0_t1_loop.trips) (v126 : IVec S16 32) (v200 : IVec S16 32) (v219 : IVec S16 32) : Prop :=
  (∀ (k0_h5 : k0_cond5 k0_t1 = 1#1), ∀ a x, ((![v126, v200, v219] : Fin 3 → IVec S16 32) a x).toNat < S16x64x8.size a) ∧
  (∀ (k0_h5 : k0_cond5 k0_t1 = 1#1), ∀ a x, ((![v126, v200, v219] : Fin 3 → IVec S16 32) a x).toNat < S16x64x8.size a)
theorem k0_idx169_inb : ∀ (k0_t1 : Fin k0_t1_loop.trips) (v126 : IVec S16 32) (v200 : IVec S16 32) (v219 : IVec S16 32) (k0_hw117 : k0_chk117 k0_t1 v126 v200 v219), ∀ (k0_h5 : k0_cond5 k0_t1 = 1#1), ∀ a x, ((![v126, v200, v219] : Fin 3 → IVec S16 32) a x).toNat < S16x64x8.size a := fun k0_t1 v126 v200 v219 k0_hw117 k0_h5 => k0_hw117.1 k0_h5
theorem k0_idx170_inb : ∀ (k0_t1 : Fin k0_t1_loop.trips) (v126 : IVec S16 32) (v200 : IVec S16 32) (v219 : IVec S16 32) (k0_hw117 : k0_chk117 k0_t1 v126 v200 v219), ∀ (k0_h5 : k0_cond5 k0_t1 = 1#1), ∀ a x, ((![v126, v200, v219] : Fin 3 → IVec S16 32) a x).toNat < S16x64x8.size a := fun k0_t1 v126 v200 v219 k0_hw117 k0_h5 => k0_hw117.2 k0_h5

def k0_chk118 (k0_t1 : Fin k0_t1_loop.trips) (v126 : IVec S16 32) (v200 : IVec S16 32) (v223 : IVec S16 32) : Prop :=
  (∀ (k0_h5 : k0_cond5 k0_t1 = 1#1), ∀ a x, ((![v126, v200, v223] : Fin 3 → IVec S16 32) a x).toNat < S16x64x8.size a) ∧
  (∀ (k0_h5 : k0_cond5 k0_t1 = 1#1), ∀ a x, ((![v126, v200, v223] : Fin 3 → IVec S16 32) a x).toNat < S16x64x8.size a)
theorem k0_idx171_inb : ∀ (k0_t1 : Fin k0_t1_loop.trips) (v126 : IVec S16 32) (v200 : IVec S16 32) (v223 : IVec S16 32) (k0_hw118 : k0_chk118 k0_t1 v126 v200 v223), ∀ (k0_h5 : k0_cond5 k0_t1 = 1#1), ∀ a x, ((![v126, v200, v223] : Fin 3 → IVec S16 32) a x).toNat < S16x64x8.size a := fun k0_t1 v126 v200 v223 k0_hw118 k0_h5 => k0_hw118.1 k0_h5
theorem k0_idx172_inb : ∀ (k0_t1 : Fin k0_t1_loop.trips) (v126 : IVec S16 32) (v200 : IVec S16 32) (v223 : IVec S16 32) (k0_hw118 : k0_chk118 k0_t1 v126 v200 v223), ∀ (k0_h5 : k0_cond5 k0_t1 = 1#1), ∀ a x, ((![v126, v200, v223] : Fin 3 → IVec S16 32) a x).toNat < S16x64x8.size a := fun k0_t1 v126 v200 v223 k0_hw118 k0_h5 => k0_hw118.2 k0_h5

def k0_chk119 (k0_t1 : Fin k0_t1_loop.trips) (v126 : IVec S16 32) (v200 : IVec S16 32) (v227 : IVec S16 32) : Prop :=
  (∀ (k0_h5 : k0_cond5 k0_t1 = 1#1), ∀ a x, ((![v126, v200, v227] : Fin 3 → IVec S16 32) a x).toNat < S16x64x8.size a) ∧
  (∀ (k0_h5 : k0_cond5 k0_t1 = 1#1), ∀ a x, ((![v126, v200, v227] : Fin 3 → IVec S16 32) a x).toNat < S16x64x8.size a)
theorem k0_idx173_inb : ∀ (k0_t1 : Fin k0_t1_loop.trips) (v126 : IVec S16 32) (v200 : IVec S16 32) (v227 : IVec S16 32) (k0_hw119 : k0_chk119 k0_t1 v126 v200 v227), ∀ (k0_h5 : k0_cond5 k0_t1 = 1#1), ∀ a x, ((![v126, v200, v227] : Fin 3 → IVec S16 32) a x).toNat < S16x64x8.size a := fun k0_t1 v126 v200 v227 k0_hw119 k0_h5 => k0_hw119.1 k0_h5
theorem k0_idx174_inb : ∀ (k0_t1 : Fin k0_t1_loop.trips) (v126 : IVec S16 32) (v200 : IVec S16 32) (v227 : IVec S16 32) (k0_hw119 : k0_chk119 k0_t1 v126 v200 v227), ∀ (k0_h5 : k0_cond5 k0_t1 = 1#1), ∀ a x, ((![v126, v200, v227] : Fin 3 → IVec S16 32) a x).toNat < S16x64x8.size a := fun k0_t1 v126 v200 v227 k0_hw119 k0_h5 => k0_hw119.2 k0_h5

def k0_chk120 (k0_t1 : Fin k0_t1_loop.trips) (v126 : IVec S16 32) (v200 : IVec S16 32) (v231 : IVec S16 32) : Prop :=
  (∀ (k0_h5 : k0_cond5 k0_t1 = 1#1), ∀ a x, ((![v126, v200, v231] : Fin 3 → IVec S16 32) a x).toNat < S16x64x8.size a) ∧
  (∀ (k0_h5 : k0_cond5 k0_t1 = 1#1), ∀ a x, ((![v126, v200, v231] : Fin 3 → IVec S16 32) a x).toNat < S16x64x8.size a)
theorem k0_idx175_inb : ∀ (k0_t1 : Fin k0_t1_loop.trips) (v126 : IVec S16 32) (v200 : IVec S16 32) (v231 : IVec S16 32) (k0_hw120 : k0_chk120 k0_t1 v126 v200 v231), ∀ (k0_h5 : k0_cond5 k0_t1 = 1#1), ∀ a x, ((![v126, v200, v231] : Fin 3 → IVec S16 32) a x).toNat < S16x64x8.size a := fun k0_t1 v126 v200 v231 k0_hw120 k0_h5 => k0_hw120.1 k0_h5
theorem k0_idx176_inb : ∀ (k0_t1 : Fin k0_t1_loop.trips) (v126 : IVec S16 32) (v200 : IVec S16 32) (v231 : IVec S16 32) (k0_hw120 : k0_chk120 k0_t1 v126 v200 v231), ∀ (k0_h5 : k0_cond5 k0_t1 = 1#1), ∀ a x, ((![v126, v200, v231] : Fin 3 → IVec S16 32) a x).toNat < S16x64x8.size a := fun k0_t1 v126 v200 v231 k0_hw120 k0_h5 => k0_hw120.2 k0_h5
@[reducible] def k0_t11_loop : Scf.Loop 32 :=
  let c0_i32_108 : BitVec 32 := 0#32
  let c20_i32_109 : BitVec 32 := 20#32
  let v237 : BitVec 32 := Scalar.addi c0_i32_108 c20_i32_109
  let c1_i32_110 : BitVec 32 := 1#32
  ⟨c0_i32_108, v237, c1_i32_110⟩
def k0_off18 (k0_t7 : Fin k0_t7_loop.trips) (k0_t11 : Fin k0_t11_loop.trips) : Fin 3 → Nat :=
  let c0_i32_66 : BitVec 32 := 0#32
  let c1_i32_68 : BitVec 32 := 1#32
  let arg20 : BitVec 32 := Scf.iv c0_i32_66 c1_i32_68 k0_t7
  let v271 : Index := Scalar.indexCast arg20
  let c0_i32_108 : BitVec 32 := 0#32
  let c1_i32_110 : BitVec 32 := 1#32
  let arg21 : BitVec 32 := Scf.iv c0_i32_108 c1_i32_110 k0_t11
  let v272 : Index := Scalar.indexCast arg21
  let c48 : Index := 48#32
  ![v271.toNat, v272.toNat, 48]

def k0_chk121 (k0_t1 : Fin k0_t1_loop.trips) (v273 : IVec S16 32) (v277 : IVec S16 32) : Prop :=
  (∀ (k0_h5 : k0_cond5 k0_t1 = 1#1), ∀ a x, ((![v273, v277] : Fin 2 → IVec S16 32) a x).toNat < S4096x8.size a)
theorem k0_idx177_inb : ∀ (k0_t1 : Fin k0_t1_loop.trips) (v273 : IVec S16 32) (v277 : IVec S16 32) (k0_hw121 : k0_chk121 k0_t1 v273 v277), ∀ (k0_h5 : k0_cond5 k0_t1 = 1#1), ∀ a x, ((![v273, v277] : Fin 2 → IVec S16 32) a x).toNat < S4096x8.size a := fun k0_t1 v273 v277 k0_hw121 k0_h5 => k0_hw121 k0_h5

def k0_chk122 (k0_t1 : Fin k0_t1_loop.trips) (v273 : IVec S16 32) (v282 : IVec S16 32) : Prop :=
  (∀ (k0_h5 : k0_cond5 k0_t1 = 1#1), ∀ a x, ((![v273, v282] : Fin 2 → IVec S16 32) a x).toNat < S4096x8.size a)
theorem k0_idx178_inb : ∀ (k0_t1 : Fin k0_t1_loop.trips) (v273 : IVec S16 32) (v282 : IVec S16 32) (k0_hw122 : k0_chk122 k0_t1 v273 v282), ∀ (k0_h5 : k0_cond5 k0_t1 = 1#1), ∀ a x, ((![v273, v282] : Fin 2 → IVec S16 32) a x).toNat < S4096x8.size a := fun k0_t1 v273 v282 k0_hw122 k0_h5 => k0_hw122 k0_h5

def k0_chk123 (k0_t1 : Fin k0_t1_loop.trips) (v273 : IVec S16 32) (v287 : IVec S16 32) : Prop :=
  (∀ (k0_h5 : k0_cond5 k0_t1 = 1#1), ∀ a x, ((![v273, v287] : Fin 2 → IVec S16 32) a x).toNat < S4096x8.size a)
theorem k0_idx179_inb : ∀ (k0_t1 : Fin k0_t1_loop.trips) (v273 : IVec S16 32) (v287 : IVec S16 32) (k0_hw123 : k0_chk123 k0_t1 v273 v287), ∀ (k0_h5 : k0_cond5 k0_t1 = 1#1), ∀ a x, ((![v273, v287] : Fin 2 → IVec S16 32) a x).toNat < S4096x8.size a := fun k0_t1 v273 v287 k0_hw123 k0_h5 => k0_hw123 k0_h5

def k0_chk124 (k0_t1 : Fin k0_t1_loop.trips) (v273 : IVec S16 32) (v292 : IVec S16 32) : Prop :=
  (∀ (k0_h5 : k0_cond5 k0_t1 = 1#1), ∀ a x, ((![v273, v292] : Fin 2 → IVec S16 32) a x).toNat < S4096x8.size a)
theorem k0_idx180_inb : ∀ (k0_t1 : Fin k0_t1_loop.trips) (v273 : IVec S16 32) (v292 : IVec S16 32) (k0_hw124 : k0_chk124 k0_t1 v273 v292), ∀ (k0_h5 : k0_cond5 k0_t1 = 1#1), ∀ a x, ((![v273, v292] : Fin 2 → IVec S16 32) a x).toNat < S4096x8.size a := fun k0_t1 v273 v292 k0_hw124 k0_h5 => k0_hw124 k0_h5

def k0_chk125 (k0_t1 : Fin k0_t1_loop.trips) (v273 : IVec S16 32) (v297 : IVec S16 32) : Prop :=
  (∀ (k0_h5 : k0_cond5 k0_t1 = 1#1), ∀ a x, ((![v273, v297] : Fin 2 → IVec S16 32) a x).toNat < S4096x8.size a)
theorem k0_idx181_inb : ∀ (k0_t1 : Fin k0_t1_loop.trips) (v273 : IVec S16 32) (v297 : IVec S16 32) (k0_hw125 : k0_chk125 k0_t1 v273 v297), ∀ (k0_h5 : k0_cond5 k0_t1 = 1#1), ∀ a x, ((![v273, v297] : Fin 2 → IVec S16 32) a x).toNat < S4096x8.size a := fun k0_t1 v273 v297 k0_hw125 k0_h5 => k0_hw125 k0_h5

def k0_chk126 (k0_t1 : Fin k0_t1_loop.trips) (v273 : IVec S16 32) (v302 : IVec S16 32) : Prop :=
  (∀ (k0_h5 : k0_cond5 k0_t1 = 1#1), ∀ a x, ((![v273, v302] : Fin 2 → IVec S16 32) a x).toNat < S4096x8.size a)
theorem k0_idx182_inb : ∀ (k0_t1 : Fin k0_t1_loop.trips) (v273 : IVec S16 32) (v302 : IVec S16 32) (k0_hw126 : k0_chk126 k0_t1 v273 v302), ∀ (k0_h5 : k0_cond5 k0_t1 = 1#1), ∀ a x, ((![v273, v302] : Fin 2 → IVec S16 32) a x).toNat < S4096x8.size a := fun k0_t1 v273 v302 k0_hw126 k0_h5 => k0_hw126 k0_h5

def k0_chk127 (k0_t1 : Fin k0_t1_loop.trips) (v273 : IVec S16 32) (v307 : IVec S16 32) : Prop :=
  (∀ (k0_h5 : k0_cond5 k0_t1 = 1#1), ∀ a x, ((![v273, v307] : Fin 2 → IVec S16 32) a x).toNat < S4096x8.size a)
theorem k0_idx183_inb : ∀ (k0_t1 : Fin k0_t1_loop.trips) (v273 : IVec S16 32) (v307 : IVec S16 32) (k0_hw127 : k0_chk127 k0_t1 v273 v307), ∀ (k0_h5 : k0_cond5 k0_t1 = 1#1), ∀ a x, ((![v273, v307] : Fin 2 → IVec S16 32) a x).toNat < S4096x8.size a := fun k0_t1 v273 v307 k0_hw127 k0_h5 => k0_hw127 k0_h5

def k0_chk128 (k0_t1 : Fin k0_t1_loop.trips) (v273 : IVec S16 32) (v312 : IVec S16 32) : Prop :=
  (∀ (k0_h5 : k0_cond5 k0_t1 = 1#1), ∀ a x, ((![v273, v312] : Fin 2 → IVec S16 32) a x).toNat < S4096x8.size a)
theorem k0_idx184_inb : ∀ (k0_t1 : Fin k0_t1_loop.trips) (v273 : IVec S16 32) (v312 : IVec S16 32) (k0_hw128 : k0_chk128 k0_t1 v273 v312), ∀ (k0_h5 : k0_cond5 k0_t1 = 1#1), ∀ a x, ((![v273, v312] : Fin 2 → IVec S16 32) a x).toNat < S4096x8.size a := fun k0_t1 v273 v312 k0_hw128 k0_h5 => k0_hw128 k0_h5

def k0_chk129 (k0_t1 : Fin k0_t1_loop.trips) (v126 : IVec S16 32) (v236 : IVec S16 32) (v239 : IVec S16 32) : Prop :=
  (∀ (k0_h5 : k0_cond5 k0_t1 = 1#1), ∀ a x, ((![v126, v236, v239] : Fin 3 → IVec S16 32) a x).toNat < S16x64x8.size a) ∧
  (∀ (k0_h5 : k0_cond5 k0_t1 = 1#1), ∀ a x, ((![v126, v236, v239] : Fin 3 → IVec S16 32) a x).toNat < S16x64x8.size a)
theorem k0_idx185_inb : ∀ (k0_t1 : Fin k0_t1_loop.trips) (v126 : IVec S16 32) (v236 : IVec S16 32) (v239 : IVec S16 32) (k0_hw129 : k0_chk129 k0_t1 v126 v236 v239), ∀ (k0_h5 : k0_cond5 k0_t1 = 1#1), ∀ a x, ((![v126, v236, v239] : Fin 3 → IVec S16 32) a x).toNat < S16x64x8.size a := fun k0_t1 v126 v236 v239 k0_hw129 k0_h5 => k0_hw129.1 k0_h5
theorem k0_idx186_inb : ∀ (k0_t1 : Fin k0_t1_loop.trips) (v126 : IVec S16 32) (v236 : IVec S16 32) (v239 : IVec S16 32) (k0_hw129 : k0_chk129 k0_t1 v126 v236 v239), ∀ (k0_h5 : k0_cond5 k0_t1 = 1#1), ∀ a x, ((![v126, v236, v239] : Fin 3 → IVec S16 32) a x).toNat < S16x64x8.size a := fun k0_t1 v126 v236 v239 k0_hw129 k0_h5 => k0_hw129.2 k0_h5

def k0_chk130 (k0_t1 : Fin k0_t1_loop.trips) (v126 : IVec S16 32) (v236 : IVec S16 32) (v243 : IVec S16 32) : Prop :=
  (∀ (k0_h5 : k0_cond5 k0_t1 = 1#1), ∀ a x, ((![v126, v236, v243] : Fin 3 → IVec S16 32) a x).toNat < S16x64x8.size a) ∧
  (∀ (k0_h5 : k0_cond5 k0_t1 = 1#1), ∀ a x, ((![v126, v236, v243] : Fin 3 → IVec S16 32) a x).toNat < S16x64x8.size a)
theorem k0_idx187_inb : ∀ (k0_t1 : Fin k0_t1_loop.trips) (v126 : IVec S16 32) (v236 : IVec S16 32) (v243 : IVec S16 32) (k0_hw130 : k0_chk130 k0_t1 v126 v236 v243), ∀ (k0_h5 : k0_cond5 k0_t1 = 1#1), ∀ a x, ((![v126, v236, v243] : Fin 3 → IVec S16 32) a x).toNat < S16x64x8.size a := fun k0_t1 v126 v236 v243 k0_hw130 k0_h5 => k0_hw130.1 k0_h5
theorem k0_idx188_inb : ∀ (k0_t1 : Fin k0_t1_loop.trips) (v126 : IVec S16 32) (v236 : IVec S16 32) (v243 : IVec S16 32) (k0_hw130 : k0_chk130 k0_t1 v126 v236 v243), ∀ (k0_h5 : k0_cond5 k0_t1 = 1#1), ∀ a x, ((![v126, v236, v243] : Fin 3 → IVec S16 32) a x).toNat < S16x64x8.size a := fun k0_t1 v126 v236 v243 k0_hw130 k0_h5 => k0_hw130.2 k0_h5

def k0_chk131 (k0_t1 : Fin k0_t1_loop.trips) (v126 : IVec S16 32) (v236 : IVec S16 32) (v247 : IVec S16 32) : Prop :=
  (∀ (k0_h5 : k0_cond5 k0_t1 = 1#1), ∀ a x, ((![v126, v236, v247] : Fin 3 → IVec S16 32) a x).toNat < S16x64x8.size a) ∧
  (∀ (k0_h5 : k0_cond5 k0_t1 = 1#1), ∀ a x, ((![v126, v236, v247] : Fin 3 → IVec S16 32) a x).toNat < S16x64x8.size a)
theorem k0_idx189_inb : ∀ (k0_t1 : Fin k0_t1_loop.trips) (v126 : IVec S16 32) (v236 : IVec S16 32) (v247 : IVec S16 32) (k0_hw131 : k0_chk131 k0_t1 v126 v236 v247), ∀ (k0_h5 : k0_cond5 k0_t1 = 1#1), ∀ a x, ((![v126, v236, v247] : Fin 3 → IVec S16 32) a x).toNat < S16x64x8.size a := fun k0_t1 v126 v236 v247 k0_hw131 k0_h5 => k0_hw131.1 k0_h5
theorem k0_idx190_inb : ∀ (k0_t1 : Fin k0_t1_loop.trips) (v126 : IVec S16 32) (v236 : IVec S16 32) (v247 : IVec S16 32) (k0_hw131 : k0_chk131 k0_t1 v126 v236 v247), ∀ (k0_h5 : k0_cond5 k0_t1 = 1#1), ∀ a x, ((![v126, v236, v247] : Fin 3 → IVec S16 32) a x).toNat < S16x64x8.size a := fun k0_t1 v126 v236 v247 k0_hw131 k0_h5 => k0_hw131.2 k0_h5

def k0_chk132 (k0_t1 : Fin k0_t1_loop.trips) (v126 : IVec S16 32) (v236 : IVec S16 32) (v251 : IVec S16 32) : Prop :=
  (∀ (k0_h5 : k0_cond5 k0_t1 = 1#1), ∀ a x, ((![v126, v236, v251] : Fin 3 → IVec S16 32) a x).toNat < S16x64x8.size a) ∧
  (∀ (k0_h5 : k0_cond5 k0_t1 = 1#1), ∀ a x, ((![v126, v236, v251] : Fin 3 → IVec S16 32) a x).toNat < S16x64x8.size a)
theorem k0_idx191_inb : ∀ (k0_t1 : Fin k0_t1_loop.trips) (v126 : IVec S16 32) (v236 : IVec S16 32) (v251 : IVec S16 32) (k0_hw132 : k0_chk132 k0_t1 v126 v236 v251), ∀ (k0_h5 : k0_cond5 k0_t1 = 1#1), ∀ a x, ((![v126, v236, v251] : Fin 3 → IVec S16 32) a x).toNat < S16x64x8.size a := fun k0_t1 v126 v236 v251 k0_hw132 k0_h5 => k0_hw132.1 k0_h5
theorem k0_idx192_inb : ∀ (k0_t1 : Fin k0_t1_loop.trips) (v126 : IVec S16 32) (v236 : IVec S16 32) (v251 : IVec S16 32) (k0_hw132 : k0_chk132 k0_t1 v126 v236 v251), ∀ (k0_h5 : k0_cond5 k0_t1 = 1#1), ∀ a x, ((![v126, v236, v251] : Fin 3 → IVec S16 32) a x).toNat < S16x64x8.size a := fun k0_t1 v126 v236 v251 k0_hw132 k0_h5 => k0_hw132.2 k0_h5

def k0_chk133 (k0_t1 : Fin k0_t1_loop.trips) (v126 : IVec S16 32) (v236 : IVec S16 32) (v255 : IVec S16 32) : Prop :=
  (∀ (k0_h5 : k0_cond5 k0_t1 = 1#1), ∀ a x, ((![v126, v236, v255] : Fin 3 → IVec S16 32) a x).toNat < S16x64x8.size a) ∧
  (∀ (k0_h5 : k0_cond5 k0_t1 = 1#1), ∀ a x, ((![v126, v236, v255] : Fin 3 → IVec S16 32) a x).toNat < S16x64x8.size a)
theorem k0_idx193_inb : ∀ (k0_t1 : Fin k0_t1_loop.trips) (v126 : IVec S16 32) (v236 : IVec S16 32) (v255 : IVec S16 32) (k0_hw133 : k0_chk133 k0_t1 v126 v236 v255), ∀ (k0_h5 : k0_cond5 k0_t1 = 1#1), ∀ a x, ((![v126, v236, v255] : Fin 3 → IVec S16 32) a x).toNat < S16x64x8.size a := fun k0_t1 v126 v236 v255 k0_hw133 k0_h5 => k0_hw133.1 k0_h5
theorem k0_idx194_inb : ∀ (k0_t1 : Fin k0_t1_loop.trips) (v126 : IVec S16 32) (v236 : IVec S16 32) (v255 : IVec S16 32) (k0_hw133 : k0_chk133 k0_t1 v126 v236 v255), ∀ (k0_h5 : k0_cond5 k0_t1 = 1#1), ∀ a x, ((![v126, v236, v255] : Fin 3 → IVec S16 32) a x).toNat < S16x64x8.size a := fun k0_t1 v126 v236 v255 k0_hw133 k0_h5 => k0_hw133.2 k0_h5

def k0_chk134 (k0_t1 : Fin k0_t1_loop.trips) (v126 : IVec S16 32) (v236 : IVec S16 32) (v259 : IVec S16 32) : Prop :=
  (∀ (k0_h5 : k0_cond5 k0_t1 = 1#1), ∀ a x, ((![v126, v236, v259] : Fin 3 → IVec S16 32) a x).toNat < S16x64x8.size a) ∧
  (∀ (k0_h5 : k0_cond5 k0_t1 = 1#1), ∀ a x, ((![v126, v236, v259] : Fin 3 → IVec S16 32) a x).toNat < S16x64x8.size a)
theorem k0_idx195_inb : ∀ (k0_t1 : Fin k0_t1_loop.trips) (v126 : IVec S16 32) (v236 : IVec S16 32) (v259 : IVec S16 32) (k0_hw134 : k0_chk134 k0_t1 v126 v236 v259), ∀ (k0_h5 : k0_cond5 k0_t1 = 1#1), ∀ a x, ((![v126, v236, v259] : Fin 3 → IVec S16 32) a x).toNat < S16x64x8.size a := fun k0_t1 v126 v236 v259 k0_hw134 k0_h5 => k0_hw134.1 k0_h5
theorem k0_idx196_inb : ∀ (k0_t1 : Fin k0_t1_loop.trips) (v126 : IVec S16 32) (v236 : IVec S16 32) (v259 : IVec S16 32) (k0_hw134 : k0_chk134 k0_t1 v126 v236 v259), ∀ (k0_h5 : k0_cond5 k0_t1 = 1#1), ∀ a x, ((![v126, v236, v259] : Fin 3 → IVec S16 32) a x).toNat < S16x64x8.size a := fun k0_t1 v126 v236 v259 k0_hw134 k0_h5 => k0_hw134.2 k0_h5

def k0_chk135 (k0_t1 : Fin k0_t1_loop.trips) (v126 : IVec S16 32) (v236 : IVec S16 32) (v263 : IVec S16 32) : Prop :=
  (∀ (k0_h5 : k0_cond5 k0_t1 = 1#1), ∀ a x, ((![v126, v236, v263] : Fin 3 → IVec S16 32) a x).toNat < S16x64x8.size a) ∧
  (∀ (k0_h5 : k0_cond5 k0_t1 = 1#1), ∀ a x, ((![v126, v236, v263] : Fin 3 → IVec S16 32) a x).toNat < S16x64x8.size a)
theorem k0_idx197_inb : ∀ (k0_t1 : Fin k0_t1_loop.trips) (v126 : IVec S16 32) (v236 : IVec S16 32) (v263 : IVec S16 32) (k0_hw135 : k0_chk135 k0_t1 v126 v236 v263), ∀ (k0_h5 : k0_cond5 k0_t1 = 1#1), ∀ a x, ((![v126, v236, v263] : Fin 3 → IVec S16 32) a x).toNat < S16x64x8.size a := fun k0_t1 v126 v236 v263 k0_hw135 k0_h5 => k0_hw135.1 k0_h5
theorem k0_idx198_inb : ∀ (k0_t1 : Fin k0_t1_loop.trips) (v126 : IVec S16 32) (v236 : IVec S16 32) (v263 : IVec S16 32) (k0_hw135 : k0_chk135 k0_t1 v126 v236 v263), ∀ (k0_h5 : k0_cond5 k0_t1 = 1#1), ∀ a x, ((![v126, v236, v263] : Fin 3 → IVec S16 32) a x).toNat < S16x64x8.size a := fun k0_t1 v126 v236 v263 k0_hw135 k0_h5 => k0_hw135.2 k0_h5

def k0_chk136 (k0_t1 : Fin k0_t1_loop.trips) (v126 : IVec S16 32) (v236 : IVec S16 32) (v267 : IVec S16 32) : Prop :=
  (∀ (k0_h5 : k0_cond5 k0_t1 = 1#1), ∀ a x, ((![v126, v236, v267] : Fin 3 → IVec S16 32) a x).toNat < S16x64x8.size a) ∧
  (∀ (k0_h5 : k0_cond5 k0_t1 = 1#1), ∀ a x, ((![v126, v236, v267] : Fin 3 → IVec S16 32) a x).toNat < S16x64x8.size a)
theorem k0_idx199_inb : ∀ (k0_t1 : Fin k0_t1_loop.trips) (v126 : IVec S16 32) (v236 : IVec S16 32) (v267 : IVec S16 32) (k0_hw136 : k0_chk136 k0_t1 v126 v236 v267), ∀ (k0_h5 : k0_cond5 k0_t1 = 1#1), ∀ a x, ((![v126, v236, v267] : Fin 3 → IVec S16 32) a x).toNat < S16x64x8.size a := fun k0_t1 v126 v236 v267 k0_hw136 k0_h5 => k0_hw136.1 k0_h5
theorem k0_idx200_inb : ∀ (k0_t1 : Fin k0_t1_loop.trips) (v126 : IVec S16 32) (v236 : IVec S16 32) (v267 : IVec S16 32) (k0_hw136 : k0_chk136 k0_t1 v126 v236 v267), ∀ (k0_h5 : k0_cond5 k0_t1 = 1#1), ∀ a x, ((![v126, v236, v267] : Fin 3 → IVec S16 32) a x).toNat < S16x64x8.size a := fun k0_t1 v126 v236 v267 k0_hw136 k0_h5 => k0_hw136.2 k0_h5
def k0_off19 (i : grid0.Coords) (k0_t1 : Fin k0_t1_loop.trips) : Fin 5 → Nat :=
  let c0_i32_19 : BitVec 32 := 0#32
  let c1_i32_20 : BitVec 32 := 1#32
  let arg19 : BitVec 32 := Scf.iv c0_i32_19 c1_i32_20 k0_t1
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c8_i32_3 : BitVec 32 := 8#32
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi v1 c8_i32_3
  let c0_i32_8 : BitVec 32 := 0#32
  let v25 : BitVec 1 := Scalar.cmpi .ne v24 c0_i32_8
  let v26 : BitVec 1 := Scalar.andi v23 v25
  let v12 : BitVec 32 := Scalar.divsi v1 c8_i32_3
  let c1_i32_9 : BitVec 32 := 1#32
  let v27 : BitVec 32 := Scalar.subi v12 c1_i32_9
  let v28 : BitVec 32 := Scalar.select v26 v27 v12
  let c16_i32 : BitVec 32 := 16#32
  let v30 : BitVec 32 := Scalar.muli v28 c16_i32
  let c0_i32_53 : BitVec 32 := 0#32
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_54 : BitVec 32 := 0#32
  ![arg19.toNat, v30.toNat, 0, v11.toNat, 0]
def k0_off20 (i : grid0.Coords) : Fin 5 → Nat :=
  let c31_i32 : BitVec 32 := 31#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c8_i32_3 : BitVec 32 := 8#32
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi v1 c8_i32_3
  let c0_i32_8 : BitVec 32 := 0#32
  let v25 : BitVec 1 := Scalar.cmpi .ne v24 c0_i32_8
  let v26 : BitVec 1 := Scalar.andi v23 v25
  let v12 : BitVec 32 := Scalar.divsi v1 c8_i32_3
  let c1_i32_9 : BitVec 32 := 1#32
  let v27 : BitVec 32 := Scalar.subi v12 c1_i32_9
  let v28 : BitVec 32 := Scalar.select v26 v27 v12
  let c16_i32 : BitVec 32 := 16#32
  let v30 : BitVec 32 := Scalar.muli v28 c16_i32
  let c0_i32_22 : BitVec 32 := 0#32
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_23 : BitVec 32 := 0#32
  ![31, v30.toNat, 0, v11.toNat, 0]
abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8x24x64 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x24x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x64x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 32], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  let c0_i32_1 : BitVec 32 := 0#32
  ![v0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  let c0_i32_1 : BitVec 32 := 0#32
  ![v0.toNat, c0_i32.toNat, c0_i32_0.toNat]

def cc2_transform_3 (i : grid2.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  let c0_i32_1 : BitVec 32 := 0#32
  ![v0.toNat, arg0.toNat, c0_i32.toNat, c0_i32_0.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage2_0 : Fin 2 → Memref sig .tc .vmem S512x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x4096x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x8x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x8x64x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x8x64x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x64x64x64 : Shape := ⟨4, ![64, 64, 64, 64]⟩
abbrev S64x4096x64 : Shape := ⟨3, ![64, 4096, 64]⟩
abbrev S64x24x64 : Shape := ⟨3, ![64, 24, 64]⟩
abbrev S64x8x64 : Shape := ⟨3, ![64, 8, 64]⟩
abbrev S64x1x64 : Shape := ⟨3, ![64, 1, 64]⟩
abbrev S64x20x64 : Shape := ⟨3, ![64, 20, 64]⟩
abbrev S64x20x64x1 : Shape := ⟨4, ![64, 20, 64, 1]⟩
abbrev S64x64x20x64x64 : Shape := ⟨5, ![64, 64, 20, 64, 64]⟩
abbrev S1x64x20x64x1 : Shape := ⟨5, ![1, 64, 20, 64, 1]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S64x64x64x64, .f32⟩
  | .hbm, ⟨1, _⟩ => ⟨S64x4096x64, .f32⟩
  | .hbm, ⟨2, _⟩ => ⟨S64x24x64, .i32⟩
  | .hbm, ⟨3, _⟩ => ⟨S64x24x64, .f32⟩
  | .hbm, ⟨4, _⟩ => ⟨S64x8x64, .f32⟩
  | .hbm, ⟨5, _⟩ => ⟨S64x4096x64, .f32⟩
  | .hbm, ⟨6, _⟩ => ⟨S64x1x64, .f32⟩
  | .hbm, ⟨7, _⟩ => ⟨S64x4096x64, .f32⟩
  | .hbm, ⟨8, _⟩ => ⟨S64x4096x64, .f32⟩
  | .hbm, ⟨9, _⟩ => ⟨S64x20x64, .i32⟩
  | .hbm, ⟨10, _⟩ => ⟨S64x20x64x1, .i32⟩
  | .hbm, ⟨11, _⟩ => ⟨S64x64x20x64x64, .f32⟩
  | .hbm, ⟨12, _⟩ => ⟨S64x20x64, .f32⟩
  | .hbm, ⟨13, _⟩ => ⟨S1x64x20x64x1, .f32⟩
  | .hbm, ⟨14, _⟩ => ⟨S64x64x20x64x64, .f32⟩
  | .hbm, ⟨15, _⟩ => ⟨S64x64x20x64x64, .f32⟩
  | .hbm, ⟨16, _⟩ => ⟨S_, .f32⟩
  | .hbm, ⟨17, _⟩ => ⟨S64x64x64x64, .f32⟩
  | .hbm, ⟨18, _⟩ => ⟨S64x64x64x64, .f32⟩
  | _, _ => ⟨S64x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Proof.Base.lean ====
/-
  The vocabulary of the certificate: the launch configuration of the printed program, the resource algebra (the
  launch's rounds beside the counters of the local copies), the tile's thread, and what it is to hold a buffer
  through a memref at known contents.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Transfers
public import Idealize.ShloMosaic.Lib.WordExact
public import proofs.«01_k».proof.Proof.Gen.KernelIdeal
public import proofs.«01_k».proof.Proof.Gen.KernelIdeal.Skeleton

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
/-- The rounds of the TensorCore regions' staging cells. -/
abbrev UP : Type := URounds (GSem nD τ sig) Unit
abbrev UU : Type := (UH × UP) × Counters

local notation "𝕄" => MT nD τ sig (HIx 1) (Elt F) ℕ UU ℕ

/-- The launch's rounds and the staging cells', in the left factor; the copies' counters are found in the right. -/
abbrev EH : Emb UH (MT nD τ sig (HIx 1) (Elt F) ℕ UU ℕ) := (Emb.inl : Emb UH (UH × UP)).trans embL
abbrev EP : Emb UP (MT nD τ sig (HIx 1) (Elt F) ℕ UU ℕ) := (Emb.inr : Emb UP (UH × UP)).trans embL
/-- The counters of the local copies. -/
abbrev EC : UEmb Counters (MT nD τ sig (HIx 1) (Elt F) ℕ UU ℕ) := countersEmb

/-- The thread of the tile at grid point `i` of device `d`. -/
abbrev thr (d : Dev nD) (i : grid0.Coords) : Thread nD τ := V d ((i 0).castLE hcore0) ((i 1).castLE hsub0)

/-- What the tile's programs are programs of. -/
abbrev TP (F : FTy → Type) (i : grid0.Coords) : Type → Type 1 :=
  Prog (TpuEff nD τ sig (Elt F) Λ₀ (.scVector ((i 0).castLE hcore0) ((i 1).castLE hsub0)))

variable [FloatOps F]

/-- The tile's weakest precondition. -/
abbrev twp (d : Dev nD) (i : grid0.Coords) {α : Type} (p : TP F i α) (Q : α → sProp 𝕄) : sProp 𝕄 :=
  wp frame (wpE (defs₀ (F := F)) 𝒱₀ (thr d i) none) Set.univ p Q

/-- The buffer under `M`, held whole by the tile, reads `g` through `M`. -/
def holds (d : Dev nD) (i : grid0.Coords) {s : Shape} {e : EltTy} {sp : Space} (M : Memref sig .scVector sp s e) (g : s.Idx → Elt F e) : sProp 𝕄 :=
  iprop(∃ f, ⌜M.view.read (Elt F) f = g⌝ ∗ (M.view.loc (thr d i) ↦[M.view.set]{fullShare} f))

end Cert.Proof.Sc

end
-- ==== Proof.Weights.lean ====
/-
  The first TensorCore region: per neighbour list of a batch element, the row of weights over all table rows. The body
  adds, neighbour by neighbour, the weight at the neighbour's row and zero elsewhere; here that is its recursion, the
  body's triple and the region's proof data.
-/
module

public import proofs.«01_k».proof.Proof.Base
public import proofs.«01_k».proof.Proof.Gen.KernelIdeal.Launch
public import proofs.«01_k».proof.Proof.Gen.KernelIdeal.Points
public import Idealize.ShloMosaic.Lib.Pipeline.FrameBody

@[expose] public section

set_option maxRecDepth 16384

noncomputable section

namespace Cert.Proof.Sc

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Pipeline (Dat BodyObligation)

variable {F : FTy → Type} [FloatOps F]

local notation "𝕄" => MT nD τ sig (HIx 1) (Elt F) ℕ UU ℕ

/-! ## What the body computes -/

theorem row_inb {t : ℕ} (h : t < 24) : ∀ a, (![0, t, 0] : Fin 3 → Nat) a + S8x1x64.size a ≤ S8x24x64.size a := by
  intro a
  match a with
  | 0 => show 0 + 8 ≤ 8; omega
  | 1 => show t + 1 ≤ 24; omega
  | 2 => show 0 + 64 ≤ 64; omega

/-- Neighbour `t` of every list of a block. -/
abbrev rowAt (t : ℕ) (h : t < 24) : Rect S8x24x64 := Rect.unit (s := S8x24x64) ![0, t, 0] S8x1x64.size (row_inb h)
abbrev allW : Rect S8x64x4096 := Rect.unit (s := S8x64x4096) ![0, 0, 0] S8x64x4096.size inb_S8x64x4096_S8x64x4096_0_0_0

/-- The weight of one neighbour at its row of the table and zero at the others. -/
def oneHot (x : IVec S8x1x64 32) (y : FVec F S8x1x64 .f32) : FVec F S8x64x4096 .f32 :=
  select (cmpi .eq (iota .tc S8x64x4096 32 [2] iota_S8x64x4096_d2_w32)
      (broadcastTo S8x64x4096 (shapeCast S8x64x1 (shapeCast S8x64 x shapeCasts_S8x1x64_S8x64) shapeCasts_S8x64_S8x64x1) broadcasts_S8x64x1_S8x64x4096))
    (broadcastTo S8x64x4096 (shapeCast S8x64x1 (shapeCast S8x64x1 (shapeCast S8x64 y shapeCasts_S8x1x64_S8x64) shapeCasts_S8x64_S8x64x1) shapeCasts_S8x64x1_S8x64x1)
      broadcasts_S8x64x1_S8x64x4096)
    (broadcast S8x64x4096 (Scalar.ofBits .f32 0x00000000#32))

/-- The first `n` neighbours' weights added up. -/
def weights (x : Vec F S8x24x64 .i32) (y : Vec F S8x24x64 .f32) : (n : ℕ) → n ≤ 24 → FVec F S8x64x4096 .f32
  | 0, _ => broadcast S8x64x4096 (Scalar.ofBits .f32 0x00000000#32)
  | n + 1, h => addf (weights x y n (Nat.le_of_succ_le h)) (oneHot (View.ld x (rowAt n h)) (View.ld y (rowAt n h)))

/-- The block of weights the body stores. -/
def wOut (x : Vec F S8x24x64 .i32) (y : Vec F S8x24x64 .f32) : Vec F S8x64x4096 .f32 :=
  View.canon [⟨allW, weights x y 20 (by decide)⟩]

theorem wOut_cover (p : Vec F S8x64x4096 .f32) (y : S8x64x4096.Idx) :
    ∃ pc ∈ ([⟨allW, p⟩] : List (View.Piece (Elt F) S8x64x4096 .f32)), y ∈ pc.1.set :=
  View.cover_of_tiled [⟨allW, p⟩] S8x64x4096.size (by rfl) y

/-! ## The body's triple -/

set_option maxHeartbeats 1000000 in
theorem weights_body (c : Dev nD) (E : Set ℕ) (i : grid1.Coords) (a1 : Memref sig .tc .vmem S8x24x64 .i32) (h1 : a1.IsWhole)
    (a2 : Memref sig .tc .vmem S8x24x64 .f32) (h2 : a2.IsWhole) (a3 : Memref sig .tc .vmem S8x64x4096 .f32) (h3 : a3.IsWhole)
    (x : Vec F S8x24x64 .i32) (y : Vec F S8x24x64 .f32) (K : PUnit → sProp 𝕄) :
    iprop(owns (c : Thread nD τ) a1 fullShare x ∗ owns (c : Thread nD τ) a2 fullShare y ∗ (∃ d, owns (c : Thread nD τ) a3 fullShare d)
        ∗ (iprop(owns (c : Thread nD τ) a1 fullShare x ∗ owns (c : Thread nD τ) a2 fullShare y ∗ owns (c : Thread nD τ) a3 fullShare (wOut x y)) -∗ K ⟨⟩))
      ⊢ wp frame (wpE (defs₀ (F := F)) 𝒱₀ c none) E (cc1__wbuild_body i a1 h1 a2 h2 a3 h3) K := by
  simp only [cc1__wbuild_body_eq_skeleton]; unfold cc1__wbuild_body_skel
  simp only [k1_part1_eq_skeleton, k1_part2_eq_skeleton, k1_part3_eq_skeleton, k1_part4_eq_skeleton, k1_part5_eq_skeleton, k1_part6_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (wOut_cover _)).trans ?_
  rfl

/-! ## The region's proof data, at the arrays' contents `W` where it is entered -/

variable (W : Valuation τ sig (Elt F))

/-- The weights' window `w` at point `t`, read off its array. -/
def wBlk (w : Fin cfg1.W) (t : Fin cfg1.N) : ((cfg1.win w).xblock (cfg1.grid.coords t)).Idx → Elt F (cfg1.win w).elt :=
  ((cfg1.win w).blk t).view.read (Elt F) (W (Proc.devRef .tc (Pipeline.arrRef spec1 w)))

def wDat (c : Dev nD) : Dat τ (Elt F) (HIx 1) ℕ UU ℕ cfg1 c where
  A w := W (Proc.devRef .tc (Pipeline.arrRef spec1 w))
  after w t := match w with
    | ⟨0, _⟩ => wBlk W 0 t
    | ⟨1, _⟩ => wBlk W 1 t
    | ⟨2, _⟩ => wOut (wBlk W 0 t) (wBlk W 1 t)
  Φ _ := Pipeline.scopedRest spec1 c
  q _ := fullShare
  owed _ := 0

theorem wDat_A (c : Dev nD) (w : Fin cfg1.W) : (wDat W c).A w = W (Proc.devRef .tc (Pipeline.arrRef spec1 w)) := by dsimp only [wDat]
theorem wDat_after0 (c : Dev nD) (t : Fin cfg1.N) : (wDat W c).after 0 t = wBlk W 0 t := by dsimp only [wDat]
theorem wDat_after1 (c : Dev nD) (t : Fin cfg1.N) : (wDat W c).after 1 t = wBlk W 1 t := by dsimp only [wDat]
theorem wDat_after2 (c : Dev nD) (t : Fin cfg1.N) : (wDat W c).after 2 t = wOut (wBlk W 0 t) (wBlk W 1 t) := by dsimp only [wDat]

/-- The inputs' current staging buffers hold their blocks. -/
theorem wDat_before0 (c : Dev nD) (t : Fin cfg1.N) (d) : (wDat W c).before 0 t d = wBlk W 0 t :=
  ((wDat W c).before_in_eq_fetched 0 rfl (fun _ => rfl) (fun _ _ _ => rfl) (fun t => by rw [wDat_after0]; unfold Dat.blockOf wBlk; rw [wDat_A]; try rfl) t d).trans
    (by unfold Dat.fetched Dat.blockOf wBlk; rw [wDat_A]; try rfl)
theorem wDat_before1 (c : Dev nD) (t : Fin cfg1.N) (d) : (wDat W c).before 1 t d = wBlk W 1 t :=
  ((wDat W c).before_in_eq_fetched 1 rfl (fun _ => rfl) (fun _ _ _ => rfl) (fun t => by rw [wDat_after1]; unfold Dat.blockOf wBlk; rw [wDat_A]; try rfl) t d).trans
    (by unfold Dat.fetched Dat.blockOf wBlk; rw [wDat_A]; try rfl)

/-- The body at any point of the grid, within the region's invariant. -/
theorem weights_point (c : Dev nD) (t : Fin cfg1.N) :
    iprop((wDat W c).Φ t.castSucc ∗ (wDat W c).owesAt none t.castSucc
        ∗ (∃ d, owns (c : Thread nD τ) (st1_0 t) fullShare ((wDat W c).before 0 t d))
        ∗ (∃ d, owns (c : Thread nD τ) (st1_1 t) fullShare ((wDat W c).before 1 t d))
        ∗ (∃ d, owns (c : Thread nD τ) (st1_2 t) fullShare ((wDat W c).before 2 t d)))
      ⊢ wp frame (wpE (defs₀ (F := F)) 𝒱₀ c none) Set.univ (bodyAt1 t) fun _ =>
        iprop((wDat W c).Φ t.succ ∗ (wDat W c).owesAt none t.succ
          ∗ owns (c : Thread nD τ) (st1_0 t) fullShare ((wDat W c).after 0 t)
          ∗ owns (c : Thread nD τ) (st1_1 t) fullShare ((wDat W c).after 1 t)
          ∗ owns (c : Thread nD τ) (st1_2 t) fullShare ((wDat W c).after 2 t)) := by
  unfold bodyAt1
  simp only [wDat_before0, wDat_before1]
  rw [show (wDat W c).Φ t.succ = (wDat W c).Φ t.castSucc from rfl,
    show (wDat W c).owesAt none t.succ = (wDat W c).owesAt none t.castSucc from rfl, wDat_after0, wDat_after1, wDat_after2]
  iintro ⟨HΦ, Ho, ⟨%d0, H0⟩, ⟨%d1, H1⟩, ⟨%d2, H2⟩⟩
  iapply (weights_body c Set.univ (grid1.coords t) _ _ _ _ _ _ (wBlk W 0 t) (wBlk W 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem weights_row (t : Fin cfg1.N) : defs₀ (F := F) .tc cfg1.body (cfg1.bodyArgs t (cfg1.slots t)) = bodyAt1 t := by
  rfl

theorem weights_obligation (c : Dev nD) : BodyObligation (wDat W c) (defs₀ (F := F)) 𝒱₀ none Set.univ := fun t => by
  rw [bigSep_W1, bigSep_W1, weights_row]
  exact triple_restated (weights_point W c t) rfl .rfl fun _ => .rfl

end Cert.Proof.Sc

end
-- ==== Proof.Gathers.lean ====
/-
  One step of the tile's program over a buffer held at known contents: a check that passes, sixteen words loaded, an
  indexed load, an indexed store, and what an indexed store leaves when every lane writes the value meant for its
  element.
-/
module

public import proofs.«01_k».proof.Proof.Base

@[expose] public section

noncomputable section

namespace Cert.Proof.Sc

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore.Cfg (HIx)

variable {F : FTy → Type}
local notation "𝕄" => MT nD τ sig (HIx 1) (Elt F) ℕ UU ℕ
variable [FloatOps F]

/-! ## What an indexed store leaves -/

omit [FloatOps F] in
theorem storeFold_agree {s : Shape} {e : EltTy} {d : Fin 1 → Nat} {idxs : Fin s.rank → IVec ⟨1, d⟩ 32} {v : Vec F ⟨1, d⟩ e}
    {h : ∀ a x, (idxs a x).toNat < s.size a} {G : Vec F s e} (hv : ∀ x, v x = G (idxAt idxs h x)) (y : s.Idx) :
    ∀ (l : List (Fin (d 0))) (f : Vec F s e), (f y = G y ∨ ∃ k ∈ l, idxAt idxs h (Shape.ofLane k) = y) →
      (l.foldl (fun g k => fun j => if (∀ a, (j a).val = (idxAt idxs h (Shape.ofLane k) a).val) then v (Shape.ofLane k) else g j) f) y = G y
  | [], f, hy => by
    rcases hy with hy | ⟨k, hk, -⟩
    · exact hy
    · exact absurd hk List.not_mem_nil
  | k :: l, f, hy => by
    rw [List.foldl_cons]
    apply storeFold_agree hv y l
    by_cases hk : idxAt idxs h (Shape.ofLane k) = y
    · left
      rw [if_pos (fun a => by rw [hk]), hv, hk]
    · rcases hy with hy | ⟨k', hk', e'⟩
      · left
        rw [if_neg]; · exact hy
        intro ha
        exact hk (funext fun a => Fin.ext (ha a).symm)
      · rcases List.mem_cons.mp hk' with rfl | hk'
        · exact absurd e' hk
        · exact .inr ⟨k', hk', e'⟩

theorem storeIdx_agree {s : Shape} {e : EltTy} {d : Fin 1 → Nat} {idxs : Fin s.rank → IVec ⟨1, d⟩ 32} {v : Vec F ⟨1, d⟩ e}
    {h : ∀ a x, (idxs a x).toNat < s.size a} {G f : Vec F s e} (hv : ∀ x, v x = G (idxAt idxs h x)) (y : s.Idx)
    (hy : f y = G y ∨ ∃ k, idxAt idxs h (Shape.ofLane k) = y) :
    storeIdx f idxs v (fun _ => 1#1) false h y = G y := by
  have := storeFold_agree (h := h) hv y (List.finRange (d 0)) f (hy.imp_right fun ⟨k, e⟩ => ⟨k, List.mem_finRange k, e⟩)
  rw [← this]
  unfold storeIdx
  simp only [BitVec.ofNat_eq_ofNat, ↓reduceIte, Bool.false_eq_true]

/-! ## The steps -/

variable {d : Dev nD} {i : grid0.Coords}

theorem read_access {s : Shape} {e : EltTy} {sp : Space} (M : Memref sig .scVector sp s e) (f : (M.view.ty).Contents (Elt F)) :
    (M.access (.whole s)).read (Elt F) f = M.view.read (Elt F) f := by
  funext x
  rw [View.read_apply, View.read_apply]
  show cast _ (f (M.view.emb ((Rect.whole s).emb x))) = _
  rw [Rect.emb_whole_apply]

/-- A check that passes. -/
theorem wp_check {P : Prop} {dec : Decidable P} (h : P) {Q : PLift P → sProp 𝕄} :
    Q ⟨h⟩ ⊢ twp d i (Prog.lift (.assume P dec)) Q := by
  iintro H
  iapply (wp_assume 𝒱₀ (thr d i) none Set.univ (k := fun h => .ret h) h)
  rw [wp_ret]
  imodintro
  iexact H

/-- Words loaded at a rectangle. -/
theorem wp_loadAt {s : Shape} {e : EltTy} {M : Memref sig .scVector .vmem s e} {g : s.Idx → Elt F e} {r : LoadRect s} {hl : M.view.LoadsAt r}
    {Q : (r.shape.Idx → Elt F e) → sProp 𝕄} :
    iprop(holds d i M g ∗ (holds d i M g -∗ Q (fun x => g (r.idx x)))) ⊢ twp d i (Prog.lift (.load (cs := .vmem) M r hl)) Q := by
  unfold holds
  iintro ⟨⟨%f, %hf, H⟩, HQ⟩
  iapply (wp_load 𝒱₀ (thr d i) none Set.univ (m := M) (r := r) (hl := hl) (k := fun x => .ret x) (S := M.view.set) (q := fullShare) (f := f) (View.setOn_subset_set _ _)) $$ [H]
  · iexact H
  iintro H
  rw [wp_ret]
  have e1 : M.view.readAt (Elt F) r f = fun x => g (r.idx x) := by
    funext x; rw [View.readAt_apply, hf]
  rw [e1]
  imodintro
  iapply HQ
  iexists f; isplitr
  · ipureintro; exact hf
  · iexact H

/-- An indexed load. -/
theorem wp_gather {s t : Shape} {e : EltTy} {M : Memref sig .scVector .vmem s e} {g : s.Idx → Elt F e} {idxs : Fin s.rank → IVec t 32}
    {h : ∀ a x, (idxs a x).toNat < s.size a} {hl : M.view.Loads} {Q : Vec F t e → sProp 𝕄} :
    iprop(holds d i M g ∗ (holds d i M g -∗ Q (loadIdx g idxs h))) ⊢ twp d i (SparseCore.vectorLoadIdx M idxs h hl) Q := by
  change _ ⊢ twp d i ((SparseCore.vectorLoadIdx M idxs h hl : TP F i _) >>= fun a => .ret a) Q
  unfold holds
  iintro ⟨⟨%f, %hf, H⟩, HQ⟩
  iapply (SparseCore.wp_vectorLoadIdx 𝒱₀ (thr d i) none Set.univ (base := M) (S := M.view.set) (q := fullShare) (f := f)
    (by rw [View.set_slice_rectWhole])) $$ [H]
  · iexact H
  iintro H
  rw [read_access, hf, wp_ret]
  imodintro
  iapply HQ
  iexists f; isplitr
  · ipureintro; exact hf
  · iexact H

/-- An indexed store. -/
theorem wp_scatter {s : Shape} {n : Fin 1 → Nat} {e : EltTy} {M : Memref sig .scVector .vmem s e} {g : s.Idx → Elt F e} {idxs : Fin s.rank → IVec ⟨1, n⟩ 32}
    {v : Vec F ⟨1, n⟩ e} {mask : IVec ⟨1, n⟩ 1} {add : Bool}
    {h : ∀ a x, (idxs a x).toNat < s.size a} {hl : (M.access (.whole s)).Stores Finset.univ} {Q : PUnit → sProp 𝕄} :
    iprop(holds d i M g ∗ (holds d i M (storeIdx g idxs v mask add h) -∗ Q ⟨⟩)) ⊢ twp d i (SparseCore.vectorStoreIdx M idxs v mask add h hl) Q := by
  change _ ⊢ twp d i ((SparseCore.vectorStoreIdx M idxs v mask add h hl : TP F i _) >>= fun a => .ret a) Q
  unfold holds
  iintro ⟨⟨%f, %hf, H⟩, HQ⟩
  iapply (SparseCore.wp_vectorStoreIdx 𝒱₀ (thr d i) none Set.univ (base := M) (f := f)) $$ [H]
  · rw [View.set_slice_rectWhole]; iexact H
  iintro H
  rw [wp_ret]
  imodintro
  iapply HQ
  iexists ((M.access (.whole s)).write (Elt F) f (storeIdx g idxs v mask add h) Finset.univ); isplitr
  · ipureintro
    rw [← read_access, View.read_write_univ]
  · rw [read_access, hf, View.set_slice_rectWhole]; iexact H

end Cert.Proof.Sc

end
-- ==== Proof.Trip.lean ====
/-
  The inner loop of one output block: over twenty neighbours, sixteen indices and sixteen weights are loaded, eight
  columns of the memory chunk are gathered at the indices, and each accumulator takes the weight times the exponential
  of what was gathered. Afterwards each column's accumulator, scaled, is added to the seed and scattered.
-/
module

public import proofs.«01_k».proof.Proof.Gathers
public import Idealize.ShloMosaic.Lib.ValueLayout

@[expose] public section

noncomputable section

namespace Cert.Proof.Sc

open Cert.KernelIdeal Cert.KernelIdeal.Gen

open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore.Cfg (HIx)

variable {F : FTy → Type}
local notation "𝕄" => MT nD τ sig (HIx 1) (Elt F) ℕ UU ℕ
variable [FloatOps F]

/-! ## The value -/

/-- One neighbour's term: the weight times the exponential of the gathered element. -/
def term (g : S4096x8.Idx → F .f32) (I : S16x20x64.Idx → BitVec 32) (V : S16x20x64.Idx → F .f32) (p : Fin 16) (c : Fin 64)
    (c2 : Fin 8) (t : Fin 20) : F .f32 :=
  FloatOps.mulf (V (ix3 p t c)) (FloatOps.exp (g (ix2 (Fin.ofNat 4096 (I (ix3 p t c)).toNat) c2)))

/-- The sum of the first `n` terms, added up in order from zero. -/
def acc (g : S4096x8.Idx → F .f32) (I : S16x20x64.Idx → BitVec 32) (V : S16x20x64.Idx → F .f32) (p : Fin 16) (c : Fin 64)
    (c2 : Fin 8) : ℕ → F .f32
  | 0 => Scalar.ofBits .f32 0x00000000#32
  | n + 1 => FloatOps.addf (acc g I V p c c2 n) (term g I V p c c2 (Fin.ofNat 20 n))

/-- The column that lane `x` of block `cb` stands for. -/
def col (cb : Fin 4) (x : S16.Idx) : Fin 64 := ⟨16 * cb.val + (x 0).val, by have := cb.isLt; have h : (x 0).val < 16 := (x 0).isLt; omega⟩

/-- Sixteen columns' sums as a vector. -/
def accv (g : S4096x8.Idx → F .f32) (I : S16x20x64.Idx → BitVec 32) (V : S16x20x64.Idx → F .f32) (p : Fin 16) (cb : Fin 4)
    (n : ℕ) (c2 : Fin 8) : FVec F S16 .f32 := fun x => acc g I V p (col cb x) c2 n

/-- The eight accumulators a trip carries. -/
abbrev Acc8 (F : FTy → Type) : Type :=
  FVec F S16 .f32 × FVec F S16 .f32 × FVec F S16 .f32 × FVec F S16 .f32 × FVec F S16 .f32 × FVec F S16 .f32 × FVec F S16 .f32 × FVec F S16 .f32

/-- Eight accumulators, by column. -/
def tup8 (f : Fin 8 → FVec F S16 .f32) : Acc8 F := (f 0, f 1, f 2, f 3, f 4, f 5, f 6, f 7)

/-! ## The program -/

/-- What the two kinds of check in the body need: when they are checked and how they are decided. -/
structure Checks where
  cnd : Prop
  hc : cnd
  dec2 : ∀ a b : IVec S16 32, Decidable (cnd → ∀ ax x, ((![a, b] : Fin 2 → IVec S16 32) ax x).toNat < S4096x8.size ax)
  dec3 : ∀ a b c : IVec S16 32, Decidable ((cnd → ∀ ax x, ((![a, b, c] : Fin 3 → IVec S16 32) ax x).toNat < S16x64x8.size ax)
    ∧ (cnd → ∀ ax x, ((![a, b, c] : Fin 3 → IVec S16 32) ax x).toNat < S16x64x8.size ax))

variable (K : Checks) (i : grid0.Coords)

/-- A checked gather of one column of the chunk. -/
def gatherAt (ch : Memref sig .scVector .vmem S4096x8 .f32) (a b : IVec S16 32) : TP F i (Vec F S16 .f32) := do
  have hw := (← Prog.lift (.assume (K.cnd → ∀ ax x, ((![a, b] : Fin 2 → IVec S16 32) ax x).toNat < S4096x8.size ax) (K.dec2 a b))).down
  SparseCore.vectorLoadIdx ch ![a, b] (hw K.hc) (View.loads_vmem h_S4096x8)

/-- One neighbour's eight gathers, at the sixteen indices and weights. -/
def gathersProg (ch : Memref sig .scVector .vmem S4096x8 .f32) (iv : IVec S16 32) (vv : FVec F S16 .f32) (q : Acc8 F) : TP F i (Acc8 F) := do
  let g0 ← gatherAt K i ch iv (broadcast S16 0#32)
  let g1 ← gatherAt K i ch iv (broadcast S16 1#32)
  let g2 ← gatherAt K i ch iv (broadcast S16 2#32)
  let g3 ← gatherAt K i ch iv (broadcast S16 3#32)
  let g4 ← gatherAt K i ch iv (broadcast S16 4#32)
  let g5 ← gatherAt K i ch iv (broadcast S16 5#32)
  let g6 ← gatherAt K i ch iv (broadcast S16 6#32)
  let g7 ← gatherAt K i ch iv (broadcast S16 7#32)
  pure (addf q.1 (mulf vv (exp g0)), addf q.2.1 (mulf vv (exp g1)), addf q.2.2.1 (mulf vv (exp g2)), addf q.2.2.2.1 (mulf vv (exp g3)),
    addf q.2.2.2.2.1 (mulf vv (exp g4)), addf q.2.2.2.2.2.1 (mulf vv (exp g5)), addf q.2.2.2.2.2.2.1 (mulf vv (exp g6)),
    addf q.2.2.2.2.2.2.2 (mulf vv (exp g7)))

/-- One neighbour. -/
def tripProg (ib : Memref sig .scVector .vmem S16x20x64 .i32) (vb : Memref sig .scVector .vmem S16x20x64 .f32)
    (ch : Memref sig .scVector .vmem S4096x8 .f32) (off : Fin 3 → ℕ) (hoff : ∀ a, off a + S1x1x16.size a ≤ S16x20x64.size a)
    (q : Acc8 F) : TP F i (Acc8 F) := do
  let iw : Vec F S1x1x16 .i32 ← Prog.lift (.load ib (Rect.unit (s := S16x20x64) off S1x1x16.size hoff).toLoadRect (View.loadsAt_vmem h_S1x1x16))
  let vw : Vec F S1x1x16 .f32 ← Prog.lift (.load vb (Rect.unit (s := S16x20x64) off S1x1x16.size hoff).toLoadRect (View.loadsAt_vmem h_S1x1x16))
  gathersProg K i ch (shapeCast S16 iw shapeCasts_S1x1x16_S16) (shapeCast S16 vw shapeCasts_S1x1x16_S16) q

/-- One column of a finished block: the scaled sum added to the seed and scattered. -/
def cellProg (sm om : Memref sig .scVector .vmem S16x64x8 .f32) (a b c : IVec S16 32) (rv av : FVec F S16 .f32) : TP F i PUnit := do
  have hw := (← Prog.lift (.assume ((K.cnd → ∀ ax x, ((![a, b, c] : Fin 3 → IVec S16 32) ax x).toNat < S16x64x8.size ax)
    ∧ (K.cnd → ∀ ax x, ((![a, b, c] : Fin 3 → IVec S16 32) ax x).toNat < S16x64x8.size ax)) (K.dec3 a b c))).down
  let sv : Vec F S16 .f32 ← SparseCore.vectorLoadIdx sm ![a, b, c] (hw.1 K.hc) (View.loads_vmem h_S16x64x8)
  SparseCore.vectorStoreIdx om ![a, b, c] (addf sv (mulf rv av)) (fun _ => 1#1) false (hw.2 K.hc) (View.stores_vmem_bits_univ h_S16x64x8 rfl)

/-- One block of sixteen columns: the loop over the neighbours, then the eight columns of the chunk. -/
def blockProg (ib : Memref sig .scVector .vmem S16x20x64 .i32) (vb : Memref sig .scVector .vmem S16x20x64 .f32)
    (ch : Memref sig .scVector .vmem S4096x8 .f32) (sm om : Memref sig .scVector .vmem S16x64x8 .f32)
    (l : Scf.Loop 32) (lok : l.OK) (off : Fin l.trips → Fin 3 → ℕ) (hoff : ∀ k a, off k a + S1x1x16.size a ≤ S16x20x64.size a)
    (ii rows : IVec S16 32) (rv : Fin 8 → FVec F S16 .f32) (z : FVec F S16 .f32) : TP F i PUnit := do
  let q ← Scf.Loop.for l lok (z, z, z, z, z, z, z, z) fun k q => tripProg K i ib vb ch (off k) (hoff k) q
  cellProg K i sm om ii rows (broadcast S16 0#32) (rv 0) q.1
  cellProg K i sm om ii rows (broadcast S16 1#32) (rv 1) q.2.1
  cellProg K i sm om ii rows (broadcast S16 2#32) (rv 2) q.2.2.1
  cellProg K i sm om ii rows (broadcast S16 3#32) (rv 3) q.2.2.2.1
  cellProg K i sm om ii rows (broadcast S16 4#32) (rv 4) q.2.2.2.2.1
  cellProg K i sm om ii rows (broadcast S16 5#32) (rv 5) q.2.2.2.2.2.1
  cellProg K i sm om ii rows (broadcast S16 6#32) (rv 6) q.2.2.2.2.2.2.1
  cellProg K i sm om ii rows (broadcast S16 7#32) (rv 7) q.2.2.2.2.2.2.2

/-! ## One neighbour's rule -/

variable {K i}
variable {d : Dev nD}

theorem twp_bind {α β : Type} {m : TP F i α} {k : α → TP F i β} {Q : β → sProp 𝕄} :
    twp d i m (fun a => twp d i (k a) Q) ⊢ twp d i (m >>= k) Q := by
  unfold twp; rw [wp_bind]

theorem twp_pure {α : Type} {a : α} {Q : α → sProp 𝕄} : Q a ⊢ twp d i (pure a) Q := by
  unfold twp; rw [wp_pure]
  iintro H
  imodintro
  iexact H

theorem idxAt_two {a b : IVec S16 32} {h : ∀ ax x, ((![a, b] : Fin 2 → IVec S16 32) ax x).toNat < S4096x8.size ax} (x : S16.Idx)
    (n : Fin 4096) (m : Fin 8) (ha : (a x).toNat = n.val) (hb : (b x).toNat = m.val) : idxAt (s := S4096x8) ![a, b] h x = ix2 n m := by
  funext ax; apply Fin.ext
  match ax with
  | ⟨0, _⟩ => exact ha
  | ⟨1, _⟩ => exact hb

theorem idxAt_three {a b c : IVec S16 32} {h : ∀ ax x, ((![a, b, c] : Fin 3 → IVec S16 32) ax x).toNat < S16x64x8.size ax} (x : S16.Idx)
    (n : Fin 16) (m : Fin 64) (k : Fin 8) (ha : (a x).toNat = n.val) (hb : (b x).toNat = m.val) (hc : (c x).toNat = k.val) :
    idxAt (s := S16x64x8) ![a, b, c] h x = ix3 n m k := by
  funext ax; apply Fin.ext
  match ax with
  | ⟨0, _⟩ => exact ha
  | ⟨1, _⟩ => exact hb
  | ⟨2, _⟩ => exact hc

/-- A gather whose indices are in range passes its check. -/
theorem wp_gatherAt {ch : Memref sig .scVector .vmem S4096x8 .f32} {g : S4096x8.Idx → F .f32} {a b : IVec S16 32}
    (ha : ∀ x, (a x).toNat < 4096) (c2 : Fin 8) (hb : ∀ x, (b x).toNat = c2.val) {Q : Vec F S16 .f32 → sProp 𝕄} :
    iprop(holds (F := F) (e := .f32) d i ch g ∗ (holds (F := F) (e := .f32) d i ch g -∗ Q (fun x => g (ix2 (Fin.ofNat 4096 (a x).toNat) c2))))
      ⊢ twp d i (gatherAt K i ch a b) Q := by
  have hw : K.cnd → ∀ ax x, ((![a, b] : Fin 2 → IVec S16 32) ax x).toNat < S4096x8.size ax := fun _ ax x => by
    match ax with
    | ⟨0, _⟩ => exact ha x
    | ⟨1, _⟩ => exact (hb x).trans_lt c2.isLt
  have hv : loadIdx (F := F) (e := .f32) g ![a, b] (hw K.hc) = fun x => g (ix2 (Fin.ofNat 4096 (a x).toNat) c2) := funext fun x => by
    unfold loadIdx
    rw [idxAt_two x (Fin.ofNat 4096 (a x).toNat) c2 (by simp [Fin.ofNat, Nat.mod_eq_of_lt (ha x)]) (hb x)]
  unfold gatherAt
  refine .trans ?_ twp_bind
  refine .trans ?_ (wp_check hw)
  rw [← hv]
  exact wp_gather

/-- The sixteen elements that a block's load reads, lane by lane. -/
theorem load_lane {α : Type} (f : S16x20x64.Idx → α) {off : Fin 3 → ℕ} (hoff : ∀ a, off a + S1x1x16.size a ≤ S16x20x64.size a)
    (p : Fin 16) (t : Fin 20) (cb : Fin 4) (h0 : off 0 = p.val) (h1 : off 1 = t.val) (h2 : off 2 = 16 * cb.val) (x : S16.Idx) :
    shapeCast S16 (fun j : S1x1x16.Idx => f ((Rect.unit (s := S16x20x64) off S1x1x16.size hoff).toLoadRect.idx j)) shapeCasts_S1x1x16_S16 x
      = f (ix3 p t (col cb x)) := by
  unfold shapeCast
  have hx : Shape.reshapeEquiv shapeCasts_S1x1x16_S16 x = (ix3 (0 : Fin 1) (0 : Fin 1) (x 0) : S1x1x16.Idx) :=
    Shape.reshapeEquiv_eq_of_rowMajor _ (by
      rw [Shape.rowMajor_val_three, Shape.rowMajor_val_one]
      show ((0 * 1 + 0) * 16 + (x 0).val) = (x 0).val
      omega)
  rw [hx]
  refine congrArg f (funext fun ax => Fin.ext ?_)
  match ax with
  | ⟨0, _⟩ => change off 0 + 1 * 0 = p.val; omega
  | ⟨1, _⟩ => change off 1 + 1 * 0 = t.val; omega
  | ⟨2, _⟩ => change off 2 + 1 * (x 0).val = 16 * cb.val + (x 0).val; omega

/-- A gather of the chunk at the head of a program, beside anything. -/
theorem gather_step {α : Type} {ch : Memref sig .scVector .vmem S4096x8 .f32} {g : S4096x8.Idx → F .f32} {a b : IVec S16 32}
    {k : Vec F S16 .f32 → TP F i α} {R : sProp 𝕄} {Q : α → sProp 𝕄} (ha : ∀ x, (a x).toNat < 4096) (c2 : Fin 8) (hb : ∀ x, (b x).toNat = c2.val)
    (h : iprop(holds (F := F) (e := .f32) d i ch g ∗ R) ⊢ twp d i (k fun x => g (ix2 (Fin.ofNat 4096 (a x).toNat) c2)) Q) :
    iprop(holds (F := F) (e := .f32) d i ch g ∗ R) ⊢ twp d i (gatherAt K i ch a b >>= k) Q := by
  refine .trans ?_ twp_bind
  refine .trans ?_ (wp_gatherAt (F := F) (d := d) (i := i) (ch := ch) (g := g) ha c2 hb)
  iintro ⟨Hg, HR⟩
  isplitl [Hg]; · iexact Hg
  iintro Hg
  iapply h
  isplitl [Hg]; · iexact Hg
  iexact HR

theorem wp_gathersProg {ch : Memref sig .scVector .vmem S4096x8 .f32} {g : S4096x8.Idx → F .f32} {I : S16x20x64.Idx → BitVec 32}
    {V : S16x20x64.Idx → F .f32} (hI : ∀ x, (I x).toNat < 4096) {iv : IVec S16 32} {vv : FVec F S16 .f32} (p : Fin 16) (n : ℕ) (cb : Fin 4)
    (hiv : ∀ x, iv x = I (ix3 p (Fin.ofNat 20 n) (col cb x))) (hvv : ∀ x, vv x = V (ix3 p (Fin.ofNat 20 n) (col cb x)))
    {R : sProp 𝕄} {Q : Acc8 F → sProp 𝕄}
    (h : iprop(holds (F := F) (e := .f32) d i ch g ∗ R) ⊢ Q (tup8 (accv g I V p cb (n + 1)))) :
    iprop(holds (F := F) (e := .f32) d i ch g ∗ R) ⊢ twp d i (gathersProg K i ch iv vv (tup8 (accv g I V p cb n))) Q := by
  obtain rfl : iv = _ := funext hiv
  obtain rfl : vv = _ := funext hvv
  unfold gathersProg
  refine gather_step (fun x => hI _) 0 (fun _ => rfl) ?_
  refine gather_step (fun x => hI _) 1 (fun _ => rfl) ?_
  refine gather_step (fun x => hI _) 2 (fun _ => rfl) ?_
  refine gather_step (fun x => hI _) 3 (fun _ => rfl) ?_
  refine gather_step (fun x => hI _) 4 (fun _ => rfl) ?_
  refine gather_step (fun x => hI _) 5 (fun _ => rfl) ?_
  refine gather_step (fun x => hI _) 6 (fun _ => rfl) ?_
  refine gather_step (fun x => hI _) 7 (fun _ => rfl) ?_
  refine h.trans ?_
  exact twp_pure

theorem wp_tripProg {ib : Memref sig .scVector .vmem S16x20x64 .i32} {vb : Memref sig .scVector .vmem S16x20x64 .f32}
    {ch : Memref sig .scVector .vmem S4096x8 .f32} {off : Fin 3 → ℕ} {hoff : ∀ a, off a + S1x1x16.size a ≤ S16x20x64.size a}
    {g : S4096x8.Idx → F .f32} {I : S16x20x64.Idx → BitVec 32} {V : S16x20x64.Idx → F .f32} (hI : ∀ x, (I x).toNat < 4096)
    (p : Fin 16) (n : ℕ) (hn : n < 20) (cb : Fin 4) (h0 : off 0 = p.val) (h1 : off 1 = n) (h2 : off 2 = 16 * cb.val) {Q : Acc8 F → sProp 𝕄} :
    iprop(holds (F := F) (e := .i32) d i ib I ∗ holds (F := F) (e := .f32) d i vb V ∗ holds (F := F) (e := .f32) d i ch g ∗
        (holds (F := F) (e := .i32) d i ib I ∗ holds (F := F) (e := .f32) d i vb V ∗ holds (F := F) (e := .f32) d i ch g -∗
          Q (tup8 (accv g I V p cb (n + 1)))))
      ⊢ twp d i (tripProg K i ib vb ch off hoff (tup8 (accv g I V p cb n))) Q := by
  have ht : off 1 = (Fin.ofNat 20 n).val := by simp [Fin.ofNat, Nat.mod_eq_of_lt hn, h1]
  have hIl := load_lane I hoff p (Fin.ofNat 20 n) cb h0 ht h2
  have hVl := load_lane V hoff p (Fin.ofNat 20 n) cb h0 ht h2
  unfold tripProg
  iintro H
  icases H with ⟨HI, HV, Hg, HQ⟩
  iapply twp_bind
  iapply (wp_loadAt (F := F) (d := d) (i := i) (e := .i32) (M := ib) (g := I))
  isplitl [HI]; · iexact HI
  iintro HI
  iapply twp_bind
  iapply (wp_loadAt (F := F) (d := d) (i := i) (e := .f32) (M := vb) (g := V))
  isplitl [HV]; · iexact HV
  iintro HV
  iapply (wp_gathersProg (F := F) (d := d) (i := i) (ch := ch) (g := g) hI p n cb hIl hVl
    (R := iprop(holds (F := F) (e := .i32) d i ib I ∗ holds (F := F) (e := .f32) d i vb V ∗
      (holds (F := F) (e := .i32) d i ib I ∗ holds (F := F) (e := .f32) d i vb V ∗ holds (F := F) (e := .f32) d i ch g -∗
          Q (tup8 (accv g I V p cb (n + 1)))))) (by
      iintro ⟨Hg, HI, HV, HQ⟩
      iapply HQ
      isplitl [HI]; · iexact HI
      isplitl [HV]; · iexact HV
      iexact Hg))
  isplitl [Hg]; · iexact Hg
  isplitl [HI]; · iexact HI
  isplitl [HV]; · iexact HV
  iexact HQ

end Cert.Proof.Sc
-- ==== Proof.Copies.lean ====
/-
  The local copies of a tile: a copy from an array of the device into one of the tile's buffers, a copy from a buffer
  into part of the result, and their waits, each at the head of a program and beside anything.
-/
module

public import proofs.«01_k».proof.Proof.Trip

@[expose] public section

noncomputable section

namespace Cert.Proof.Sc

open Cert.KernelIdeal Cert.KernelIdeal.Gen

open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore.Cfg (HIx)

variable {F : FTy → Type}
local notation "𝕄" => MT nD τ sig (HIx 1) (Elt F) ℕ UU ℕ
variable [FloatOps F]

open Idealize.ShloMosaic.Transfers

variable {d : Dev nD} {i : grid0.Coords} {s : Shape} {e : EltTy}

/-- What the tile owes, with the evidence that it may wait at its own copies' semaphores. -/
def owing (d : Dev nD) (i : grid0.Coords) (O : CellTallies nD τ sig (HIx 1)) (W₀ : Waits sig (HIx 1)) : sProp 𝕄 :=
  iprop(MayWaits (thr d i) none O ∗ ∃ W, ⌜∀ p ∈ W, p ∈ W₀ ∨ p.2 = none⌝ ∗ owes (thr d i) O W)

/-- The buffer under `M` held at any contents. -/
def holdsAny (d : Dev nD) (i : grid0.Coords) (M : Memref sig .scVector .vmem s e) : sProp 𝕄 := iprop(∃ g, holds (F := F) d i M g)

/-- A buffer with nothing in flight to it, its semaphore at rest, and the share of the array it is filled from. -/
def idle (d : Dev nD) (i : grid0.Coords) (M : Memref sig .scVector .vmem s e) (sem : DmaSem sig) (ℓ : Loc nD τ sig) (q : PosShare TreeShare)
    (f : Buf (Elt F) ℓ) : sProp 𝕄 :=
  iprop(holdsAny (F := F) d i M ∗ semVal (thr d i, SemLoc.dma sem) 0 ∗ (ℓ ↦{q} f))

/-- The same buffer with a copy in flight that will leave it at `g`. -/
def filling (d : Dev nD) (i : grid0.Coords) (M : Memref sig .scVector .vmem s e) (sem : DmaSem sig) (ℓ : Loc nD τ sig) (q : PosShare TreeShare)
    (f : Buf (Elt F) ℓ) (g : s.Idx → Elt F e) : sProp 𝕄 :=
  iprop(∃ X : Finset (Idx ℓ), Flight EC (thr d i) (SemLoc.dma sem) none (M.view.amount (SemLoc.dma sem)) iprop(holds (F := F) d i M g ∗ (ℓ ↦[X]{q} f))
    ∗ (ℓ ↦[Finset.univ \ X]{q} f))

/-- The same buffer filled. -/
def full (d : Dev nD) (i : grid0.Coords) (M : Memref sig .scVector .vmem s e) (sem : DmaSem sig) (ℓ : Loc nD τ sig) (q : PosShare TreeShare)
    (f : Buf (Elt F) ℓ) (g : s.Idx → Elt F e) : sProp 𝕄 :=
  iprop(holds (F := F) d i M g ∗ semVal (thr d i, SemLoc.dma sem) 0 ∗ (ℓ ↦{q} f))

theorem full_idle {M : Memref sig .scVector .vmem s e} {sem : DmaSem sig} {ℓ : Loc nD τ sig} {q : PosShare TreeShare} {f : Buf (Elt F) ℓ}
    {g : s.Idx → Elt F e} : full d i M sem ℓ q f g ⊢ idle d i M sem ℓ q f := by
  unfold full idle holdsAny
  iintro ⟨H, Hs, Hf⟩
  isplitl [H]
  · iexists g; iexact H
  isplitl [Hs]; · iexact Hs
  iexact Hf

/-- A copy into a buffer is issued. -/
theorem fill_step {α : Type} {M : Memref sig .scVector .vmem s e} {S : Memref sig .scVector .hbm s e} {sem : DmaSem sig} {q : PosShare TreeShare}
    {f : Buf (Elt F) (S.view.loc (thr d i))} {h1 : S.view.WordExact} {h2 : M.view.WordExact} {h3 : DmaTarget.Typed (nD := nD) (τ := τ) (p := (thr d i).2) Space.hbm (SemLoc.dma sem) (.here M)}
    {k : PUnit → TP F i α} {R : sProp 𝕄} {Q : α → sProp 𝕄} (hs : 0 < s.numel) {g : s.Idx → Elt F e} (hg : S.view.read (Elt F) f = g)
    (h : iprop(filling d i M sem (S.view.loc (thr d i)) q f g ∗ R) ⊢ twp d i (k ⟨⟩) Q) :
    iprop(idle d i M sem (S.view.loc (thr d i)) q f ∗ R) ⊢ twp d i (Prog.lift (.enqueueDma S (.here M) (SemLoc.dma sem) h1 h2 h3) >>= k) Q := by
  unfold idle holdsAny holds
  iintro ⟨⟨⟨%g0, %fd, -, Hd⟩, Hv, Hf⟩, HR⟩
  ihave Hf := (pointsTo_split_subset (q := q) (f := f) (S := Finset.univ) (Finset.subset_univ S.view.set)).1 $$ Hf
  icases Hf with ⟨Hf, Hfr⟩
  iapply (wp_dmaLocal EC 𝒱₀ (thr d i) none (src := S) (dst := M) (sm := SemLoc.dma sem) (q := q) (fs := f) (Sd := M.view.set) (fd := fd) none
    (M.view.amount (SemLoc.dma sem)) rfl (View.amount_pos _ _ hs) (Finset.Subset.refl _)) $$ [Hf Hd Hv]
  · isplitl [Hf]; · iexact Hf
    isplitl [Hd]; · iexact Hd
    iexact Hv
  iintro Hfl
  iapply h
  isplitr [HR]
  · unfold filling
    iexists S.view.set
    isplitl [Hfl]
    · iapply (Flight_mono EC (thr d i) (sm := SemLoc.dma sem) (ι := none) (N := M.view.amount (SemLoc.dma sem)) ?_) $$ Hfl
      iintro ⟨H1, H2⟩
      isplitl [H1]
      · unfold holds
        iexists _
        isplitl []
        rotate_left
        · iexact H1
        · ipureintro
          rw [View.read_write_univ, ← hg]
      · iexact H2
    · iexact Hfr
  · iexact HR

/-- The wait for a copy into a buffer. -/
theorem filled_step {α : Type} {s' : Shape} {e' : EltTy} {sp' : Space} {M : Memref sig .scVector .vmem s e} {Sw : Memref sig .scVector sp' s' e'}
    {sem : DmaSem sig} {ℓ : Loc nD τ sig} {q : PosShare TreeShare}
    {f : Buf (Elt F) ℓ} {h1 : Sw.view.WordExact} {h2 : M.view.WordExact} {O : CellTallies nD τ sig (HIx 1)} {W₀ : Waits sig (HIx 1)}
    {k : PUnit → TP F i α} {R : sProp 𝕄} {Q : α → sProp 𝕄} {g : s.Idx → Elt F e}
    (h : iprop(full d i M sem ℓ q f g ∗ owing d i O W₀ ∗ R) ⊢ twp d i (k ⟨⟩) Q) :
    iprop(filling d i M sem ℓ q f g ∗ owing d i O W₀ ∗ R) ⊢ twp d i (Prog.lift (.waitDma2 sem Sw M h1 h2) >>= k) Q := by
  unfold filling owing
  iintro ⟨⟨%X, Hfl, Hfr⟩, ⟨#Hmw, %W, %hW, HO⟩, HR⟩
  iapply (wp_waitLocalO EC 𝒱₀ (thr d i) none (none : HIx 1) (N := M.view.amount (SemLoc.dma sem)) rfl) $$ [Hfl HO]
  · isplitl [Hfl]; · iexact Hfl
    isplitl [HO]; · iexact HO
    iapply (MayWaits.elim (SemLoc.dma sem)) $$ Hmw
  iintro ⟨⟨Hd, Hf⟩, Hv, HO⟩
  iapply h
  isplitl [Hd Hf Hfr Hv]
  · unfold full
    isplitl [Hd]; · iexact Hd
    isplitl [Hv]; · iexact Hv
    iapply (pointsTo_split_subset (q := q) (f := f) (S := Finset.univ) (Finset.subset_univ X)).2
    isplitl [Hf]; · iexact Hf
    iexact Hfr
  isplitl [HO]
  · unfold owing
    isplitl []; · iexact Hmw
    iexists _
    isplitl []
    rotate_left
    · iexact HO
    · ipureintro
      intro p hp
      rcases Finset.mem_insert.mp hp with rfl | hp
      · exact .inr rfl
      · exact hW p hp
  iexact HR

/-- A copy from the buffer `M` in flight that will deliver `P`. -/
def draining (d : Dev nD) (i : grid0.Coords) (M : Memref sig .scVector .vmem s e) (sem : DmaSem sig) (P : sProp 𝕄) : sProp 𝕄 :=
  Flight EC (thr d i) (SemLoc.dma sem) none (M.view.amount (SemLoc.dma sem)) iprop(holdsAny (F := F) d i M ∗ P)

/-- A copy out of a buffer is issued. -/
theorem drain_step {α : Type} {M : Memref sig .scVector .vmem s e} {S : Memref sig .scVector .hbm s e} {sem : DmaSem sig}
    {f0 f1 : Buf (Elt F) (S.view.loc (thr d i))} {h1 : M.view.WordExact} {h2 : S.view.WordExact} {h3 : DmaTarget.Typed (nD := nD) (τ := τ) (p := (thr d i).2) Space.vmem (SemLoc.dma sem) (.here S)}
    {k : PUnit → TP F i α} {R : sProp 𝕄} {Q : α → sProp 𝕄} (hs : 0 < s.numel) (hN : S.view.amount (SemLoc.dma sem) = M.view.amount (SemLoc.dma sem))
    {g : s.Idx → Elt F e} (hg : ∀ y, f1 (S.view.emb y) = cast (congrArg (Elt F) S.view.elt_eq).symm (g y))
    (h : iprop(draining d i M sem (S.view.loc (thr d i) ↦[S.view.set]{fullShare} f1) ∗ R) ⊢ twp d i (k ⟨⟩) Q) :
    iprop(holds (F := F) d i M g ∗ semVal (thr d i, SemLoc.dma sem) 0 ∗ (S.view.loc (thr d i) ↦[S.view.set]{fullShare} f0) ∗ R)
      ⊢ twp d i (Prog.lift (.enqueueDma M (.here S) (SemLoc.dma sem) h1 h2 h3) >>= k) Q := by
  unfold holds
  iintro ⟨⟨%fs, %hfs, Hs⟩, Hv, Hd, HR⟩
  iapply (wp_dmaLocal EC 𝒱₀ (thr d i) none (src := M) (dst := S) (sm := SemLoc.dma sem) (q := fullShare) (fs := fs) (Sd := S.view.set) (fd := f0) none
    (M.view.amount (SemLoc.dma sem)) hN (View.amount_pos _ _ hs) (Finset.Subset.refl _)) $$ [Hs Hd Hv]
  · isplitl [Hs]; · iexact Hs
    isplitl [Hd]; · iexact Hd
    iexact Hv
  iintro Hfl
  iapply h
  isplitr [HR]
  · unfold draining
    iapply (Flight_mono EC (thr d i) (sm := SemLoc.dma sem) (ι := none) (N := M.view.amount (SemLoc.dma sem)) ?_) $$ Hfl
    iintro ⟨H1, H2⟩
    isplitl [H2]
    · unfold holdsAny holds
      iexists g, fs
      isplitl []; · ipureintro; exact hfs
      iexact H2
    · rw [pointsTo_congr (q := fullShare) (I := S.view.set) (f := S.view.write (Elt F) f0 (ReadAs.apply .same (M.view.read (Elt F) fs)) Finset.univ) (g := f1)
        (fun y hy => ?_)]
      · exact Entails.rfl
      · obtain ⟨x, -, rfl⟩ := Finset.mem_map.mp hy
        rw [View.write_emb_of_mem _ _ (Finset.mem_univ _), hg, ← hfs]
  · iexact HR

/-- The wait for a copy out of a buffer. -/
theorem drained_step {α : Type} {s' : Shape} {e' : EltTy} {sp' sp'' : Space} {M : Memref sig .scVector .vmem s e} {Sw : Memref sig .scVector sp' s' e'}
    {Dw : Memref sig .scVector sp'' s e}
    {sem : DmaSem sig} {P : sProp 𝕄} {h1 : Sw.view.WordExact} {h2 : Dw.view.WordExact} {O : CellTallies nD τ sig (HIx 1)} {W₀ : Waits sig (HIx 1)}
    {k : PUnit → TP F i α} {R : sProp 𝕄} {Q : α → sProp 𝕄} (hN : Dw.view.dmaCredit = M.view.amount (SemLoc.dma sem))
    (h : iprop(holdsAny (F := F) d i M ∗ semVal (thr d i, SemLoc.dma sem) 0 ∗ P ∗ owing d i O W₀ ∗ R) ⊢ twp d i (k ⟨⟩) Q) :
    iprop(draining d i M sem P ∗ owing d i O W₀ ∗ R) ⊢ twp d i (Prog.lift (.waitDma2 sem Sw Dw h1 h2) >>= k) Q := by
  unfold draining owing
  iintro ⟨Hfl, ⟨#Hmw, %W, %hW, HO⟩, HR⟩
  iapply (wp_waitLocalO EC 𝒱₀ (thr d i) none (none : HIx 1) (N := M.view.amount (SemLoc.dma sem)) hN) $$ [Hfl HO]
  · isplitl [Hfl]; · iexact Hfl
    isplitl [HO]; · iexact HO
    iapply (MayWaits.elim (SemLoc.dma sem)) $$ Hmw
  iintro ⟨⟨Hd, HP⟩, Hv, HO⟩
  iapply h
  isplitl [Hd]; · iexact Hd
  isplitl [Hv]; · iexact Hv
  isplitl [HP]; · iexact HP
  isplitl [HO]
  · unfold owing
    isplitl []; · iexact Hmw
    iexists _
    isplitl []
    rotate_left
    · iexact HO
    · ipureintro
      intro p hp
      rcases Finset.mem_insert.mp hp with rfl | hp
      · exact .inr rfl
      · exact hW p hp
  iexact HR

end Cert.Proof.Sc
-- ==== Proof.Geom.lean ====
/-
  Where the tile at a grid point works: its group of sixteen rows and its group of eight lanes, the offsets of the
  program's slices in those terms, and when each of the program's conditions holds.
-/
module

public import proofs.«01_k».proof.Proof.Base
public import Idealize.ShloMosaic.Lib.ValueLayout

@[expose] public section

noncomputable section

namespace Cert.Proof.Sc

open Cert.KernelIdeal Cert.KernelIdeal.Gen

open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore.Cfg (HIx)

variable {F : FTy → Type}
local notation "𝕄" => MT nD τ sig (HIx 1) (Elt F) ℕ UU ℕ
variable [FloatOps F]

/-- The grid point of core `c` and subcore `s`. -/
def coordsV (c : Fin 2) (s : Fin 16) : grid0.Coords := fun | 0 => c | 1 => s | ⟨_ + 2, h⟩ => absurd h (Nat.not_lt.2 (Nat.le_add_left _ _))

theorem coordsV_eq (i : grid0.Coords) : coordsV (i 0) (i 1) = i := funext fun a => match a with | 0 => rfl | 1 => rfl

/-- The number of the tile at a grid point. -/
def wid (i : grid0.Coords) : ℕ := (i 1).val * 2 + (i 0).val

theorem wid_lt (i : grid0.Coords) : wid i < 32 := by
  have h0 : (i 0).val < 2 := (i 0).isLt
  have h1 : (i 1).val < 16 := (i 1).isLt
  unfold wid; omega

/-- The group of eight lanes of a tile. -/
def lg (i : grid0.Coords) : Fin 8 := ⟨wid i % 8, Nat.mod_lt _ (by decide)⟩

/-- The group of sixteen rows of a tile. -/
def rg (i : grid0.Coords) : Fin 4 := ⟨wid i / 8, by have := wid_lt i; omega⟩

/-- A statement about every grid point and every trip of the outer loop, from the finitely many cases. -/
theorem forall_coords {P : grid0.Coords → Prop} (h : ∀ c s, P (coordsV c s)) (i : grid0.Coords) : P i := coordsV_eq i ▸ h (i 0) (i 1)

set_option maxRecDepth 100000 in
theorem off1_eq : ∀ i, k0_off1 i = ![16 * (rg i).val, 0, 0] :=
  forall_coords (by decide +kernel)

set_option maxRecDepth 100000 in
theorem off2_eq : ∀ i, k0_off2 i = ![0, 0, (lg i).val, 0] :=
  forall_coords (by decide +kernel)

set_option maxRecDepth 100000 in
theorem off20_eq : ∀ i, k0_off20 i = ![31, 16 * (rg i).val, 0, (lg i).val, 0] :=
  forall_coords (by decide +kernel)

set_option maxRecDepth 100000 in
theorem off3_eq : ∀ i, ∀ t : Fin k0_t1_loop.trips, k0_cond1 t = 1#1 → k0_off3 i t = ![t.val + 1, 0, (lg i).val, 0] :=
  forall_coords (by decide +kernel)

set_option maxRecDepth 100000 in
theorem off4_eq : ∀ i, ∀ t : Fin k0_t1_loop.trips, k0_cond2 t = 1#1 → k0_off4 i t = ![t.val + 1, 0, (lg i).val, 0] :=
  forall_coords (by decide +kernel)

set_option maxRecDepth 100000 in
theorem off6_eq : ∀ i, ∀ t : Fin k0_t1_loop.trips, k0_off6 i t = ![t.val, 16 * (rg i).val, 0, (lg i).val, 0] :=
  forall_coords (by decide +kernel)

set_option maxRecDepth 100000 in
theorem off19_eq : ∀ i, ∀ t : Fin k0_t1_loop.trips, k0_off19 i t = ![t.val, 16 * (rg i).val, 0, (lg i).val, 0] :=
  forall_coords (by decide +kernel)

theorem cond1_iff : ∀ t : Fin k0_t1_loop.trips, k0_cond1 t = 1#1 ↔ t.val % 2 = 0 ∧ t.val + 1 < 32 := by decide +kernel
theorem cond2_iff : ∀ t : Fin k0_t1_loop.trips, k0_cond2 t = 1#1 ↔ t.val % 2 = 1 ∧ t.val + 1 < 32 := by decide +kernel
theorem cond3_iff : ∀ t : Fin k0_t1_loop.trips, k0_cond3 t = 1#1 ↔ 0 < t.val := by decide +kernel
theorem cond4_iff : ∀ t : Fin k0_t1_loop.trips, k0_cond4 t = 1#1 ↔ t.val % 2 = 0 := by decide +kernel
theorem cond5_iff : ∀ t : Fin k0_t1_loop.trips, k0_cond5 t = 1#1 ↔ t.val % 2 = 1 := by decide +kernel

end Cert.Proof.Sc
-- ==== Proof.Block.lean ====
/-
  One block of sixteen columns of a row, and one row of four blocks: the accumulators run over the twenty neighbours,
  and the scatters fill in the output buffer column by column. What has been filled in is told by a predicate on the
  buffer's elements, which each scatter extends by the elements it writes.
-/
module

public import proofs.«01_k».proof.Proof.Trip

@[expose] public section

noncomputable section

namespace Cert.Proof.Sc

open Cert.KernelIdeal Cert.KernelIdeal.Gen

open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore.Cfg (HIx)

variable {F : FTy → Type}
local notation "𝕄" => MT nD τ sig (HIx 1) (Elt F) ℕ UU ℕ
variable [FloatOps F]

/-- The buffer under `M` reads as `G` does at every element that `D` names. -/
def holdsOn (d : Dev nD) (i : grid0.Coords) (M : Memref sig .scVector .vmem S16x64x8 .f32) (G : S16x64x8.Idx → F .f32)
    (D : S16x64x8.Idx → Prop) : sProp 𝕄 :=
  iprop(∃ O, ⌜∀ y, D y → O y = G y⌝ ∗ holds (F := F) (e := .f32) d i M O)

/-- The elements filled in when row `p` has its first `cb` blocks, and `n` columns of the next one. -/
def filled (p cb n : ℕ) (y : S16x64x8.Idx) : Prop :=
  (y 0).val < p ∨ (y 0).val = p ∧ ((y 1).val / 16 < cb ∨ (y 1).val / 16 = cb ∧ (y 2).val < n)

variable {K : Checks} {i : grid0.Coords} {d : Dev nD}

theorem filled_col {p : Fin 16} {cb : Fin 4} {c2 : Fin 8} (y : S16x64x8.Idx) (h : filled p cb (c2.val + 1) y) :
    filled p cb c2 y ∨ ∃ x : Fin 16, ix3 p (col cb (Shape.ofLane (d := ![16]) x)) c2 = y := by
  rcases h with h | ⟨h0, h | ⟨h1, h2⟩⟩
  · exact .inl (.inl h)
  · exact .inl (.inr ⟨h0, .inl h⟩)
  · by_cases h3 : (y 2).val < c2.val
    · exact .inl (.inr ⟨h0, .inr ⟨h1, h3⟩⟩)
    · refine .inr ⟨⟨(y 1).val % 16, Nat.mod_lt _ (by decide)⟩, ?_⟩
      funext ax; apply Fin.ext
      match ax with
      | ⟨0, _⟩ => exact h0.symm
      | ⟨1, _⟩ =>
        change 16 * cb.val + (y 1).val % 16 = (y 1).val
        omega
      | ⟨2, _⟩ => change c2.val = (y 2).val; omega

theorem filled_next {p cb : ℕ} (y : S16x64x8.Idx) (h : filled p (cb + 1) 0 y) : filled p cb 8 y := by
  have h2 : (y 2).val < 8 := (y 2).isLt
  rcases h with h | ⟨h0, h | ⟨_, h⟩⟩
  · exact .inl h
  · refine .inr ⟨h0, ?_⟩; omega
  · omega

theorem filled_row {p : ℕ} (y : S16x64x8.Idx) (h : filled (p + 1) 0 0 y) : filled p 4 0 y := by
  have h1 : (y 1).val < 64 := (y 1).isLt
  unfold filled at *
  omega

theorem holdsOn_mono {M : Memref sig .scVector .vmem S16x64x8 .f32} {G : S16x64x8.Idx → F .f32} {D D' : S16x64x8.Idx → Prop}
    (h : ∀ y, D' y → D y) : holdsOn (F := F) d i M G D ⊢ holdsOn d i M G D' := by
  unfold holdsOn
  iintro ⟨%O, %hO, H⟩
  iexists O
  isplitl []; · ipureintro; exact fun y hy => hO y (h y hy)
  iexact H

/-- One column of a block at the head of a program, beside anything. -/
theorem cell_step {α : Type} {sm om : Memref sig .scVector .vmem S16x64x8 .f32} {s G : S16x64x8.Idx → F .f32} {a b c : IVec S16 32}
    {rv av : FVec F S16 .f32} {k : PUnit → TP F i α} {R : sProp 𝕄} {Q : α → sProp 𝕄} (p : Fin 16) (cb : Fin 4) (c2 : Fin 8) {n n' : ℕ}
    (hn : n = c2.val) (hn' : n' = c2.val + 1)
    (ha : ∀ x, (a x).toNat = p.val) (hb : ∀ x, (b x).toNat = (col cb x).val) (hc : ∀ x, (c x).toNat = c2.val)
    (hG : ∀ x, FloatOps.addf (s (ix3 p (col cb x) c2)) (FloatOps.mulf (rv x) (av x)) = G (ix3 p (col cb x) c2))
    (h : iprop(holds (F := F) (e := .f32) d i sm s ∗ holdsOn d i om G (filled p cb n') ∗ R) ⊢ twp d i (k ⟨⟩) Q) :
    iprop(holds (F := F) (e := .f32) d i sm s ∗ holdsOn d i om G (filled p cb n) ∗ R) ⊢ twp d i (cellProg K i sm om a b c rv av >>= k) Q := by
  subst hn hn'
  have hb3 : ∀ ax x, ((![a, b, c] : Fin 3 → IVec S16 32) ax x).toNat < S16x64x8.size ax := fun ax x => by
    match ax with
    | ⟨0, _⟩ => exact (ha x).trans_lt p.isLt
    | ⟨1, _⟩ => exact (hb x).trans_lt (col cb x).isLt
    | ⟨2, _⟩ => exact (hc x).trans_lt c2.isLt
  have hw : (K.cnd → ∀ ax x, ((![a, b, c] : Fin 3 → IVec S16 32) ax x).toNat < S16x64x8.size ax)
    ∧ (K.cnd → ∀ ax x, ((![a, b, c] : Fin 3 → IVec S16 32) ax x).toNat < S16x64x8.size ax) := ⟨fun _ => hb3, fun _ => hb3⟩
  have hx : ∀ x, idxAt (s := S16x64x8) ![a, b, c] hb3 x = ix3 p (col cb x) c2 := fun x => idxAt_three x p (col cb x) c2 (ha x) (hb x) (hc x)
  unfold cellProg
  rw [show holdsOn (F := F) d i om G (filled p cb c2) = iprop(∃ O, ⌜∀ y, filled p cb c2 y → O y = G y⌝ ∗ holds (F := F) (e := .f32) d i om O) from rfl]
  iintro ⟨Hs, ⟨%O, %hO, Ho⟩, HR⟩
  iapply twp_bind
  iapply twp_bind
  iapply (wp_check hw)
  iapply twp_bind
  iapply (wp_gather (F := F) (d := d) (i := i) (e := .f32) (M := sm) (g := s))
  isplitl [Hs]; · iexact Hs
  iintro Hs
  iapply (wp_scatter (F := F) (d := d) (i := i) (e := .f32) (M := om) (g := O))
  isplitl [Ho]; · iexact Ho
  iintro Ho
  iapply h
  isplitl [Hs]; · iexact Hs
  isplitr [HR]
  · unfold holdsOn
    iexists storeIdx (F := F) (s := S16x64x8) (e := .f32) O ![a, b, c] (addf (loadIdx (F := F) (s := S16x64x8) (e := .f32) s ![a, b, c] hb3) (mulf rv av)) (fun _ => 1#1) false hb3
    isplitl []
    · ipureintro
      intro y hy
      refine storeIdx_agree (F := F) (e := .f32) (G := G) (h := hb3) (fun x => ?_) y ?_
      · rw [hx, ← hG]
        change FloatOps.addf (s (idxAt (s := S16x64x8) ![a, b, c] hb3 x)) _ = _
        rw [hx]; rfl
      · rcases filled_col y hy with h1 | ⟨x, hx'⟩
        · exact .inl (hO y h1)
        · exact .inr ⟨x, (hx _).trans hx'⟩
    · iexact Ho
  · iexact HR

/-- What a row's program works over: the indices, the weights, the chunk and the seeds, each at its contents. -/
def inputs (d : Dev nD) (i : grid0.Coords) (ib : Memref sig .scVector .vmem S16x20x64 .i32) (vb : Memref sig .scVector .vmem S16x20x64 .f32)
    (ch : Memref sig .scVector .vmem S4096x8 .f32) (sm : Memref sig .scVector .vmem S16x64x8 .f32)
    (I : S16x20x64.Idx → BitVec 32) (V : S16x20x64.Idx → F .f32) (g : S4096x8.Idx → F .f32) (s : S16x64x8.Idx → F .f32) : sProp 𝕄 :=
  iprop(holds (F := F) (e := .i32) d i ib I ∗ holds (F := F) (e := .f32) d i vb V ∗ holds (F := F) (e := .f32) d i ch g ∗
    holds (F := F) (e := .f32) d i sm s)

/-- A block of sixteen columns at the head of a program, beside anything. -/
theorem block_step {α : Type} {ib : Memref sig .scVector .vmem S16x20x64 .i32} {vb : Memref sig .scVector .vmem S16x20x64 .f32}
    {ch : Memref sig .scVector .vmem S4096x8 .f32} {sm om : Memref sig .scVector .vmem S16x64x8 .f32}
    {l : Scf.Loop 32} {lok : l.OK} {off : Fin l.trips → Fin 3 → ℕ} {hoff : ∀ k a, off k a + S1x1x16.size a ≤ S16x20x64.size a}
    {ii rows : IVec S16 32} {rv : Fin 8 → FVec F S16 .f32} {z : FVec F S16 .f32}
    {g : S4096x8.Idx → F .f32} {I : S16x20x64.Idx → BitVec 32} {V : S16x20x64.Idx → F .f32} {s G : S16x64x8.Idx → F .f32}
    {k : PUnit → TP F i α} {R : sProp 𝕄} {Q : α → sProp 𝕄}
    (hI : ∀ x, (I x).toNat < 4096) (p : Fin 16) (cb : Fin 4) {n n' : ℕ} (hn : n = cb.val) (hn' : n' = cb.val + 1) (hl : l.trips = 20)
    (ho : ∀ k, off k = ![p.val, k.val, 16 * cb.val])
    (hz : ∀ x, z x = Scalar.ofBits .f32 0x00000000#32)
    (ha : ∀ x, (ii x).toNat = p.val) (hb : ∀ x, (rows x).toNat = (col cb x).val)
    (hG : ∀ c2 x, FloatOps.addf (s (ix3 p (col cb x) c2)) (FloatOps.mulf (rv c2 x) (acc g I V p (col cb x) c2 20)) = G (ix3 p (col cb x) c2))
    (h : iprop(inputs d i ib vb ch sm I V g s ∗ holdsOn d i om G (filled p n' 0) ∗ R) ⊢ twp d i (k ⟨⟩) Q) :
    iprop(inputs d i ib vb ch sm I V g s ∗ holdsOn d i om G (filled p n 0) ∗ R) ⊢ twp d i (blockProg K i ib vb ch sm om l lok off hoff ii rows rv z >>= k) Q := by
  subst hn hn'
  simp only [blockProg, bind_assoc]
  refine .trans ?_ twp_bind
  unfold Scf.Loop.for inputs
  iintro ⟨⟨HI, HV, Hg, Hs⟩, Ho, HR⟩
  iapply (Scf.wp_for frame (wpE (defs₀ (F := F)) 𝒱₀ (thr d i) none) Set.univ l.lb l.ub l.st lok (z, z, z, z, z, z, z, z)
    (fun k q => tripProg K i ib vb ch (off k) (hoff k) q)
    (fun n q => iprop(⌜q = tup8 (accv g I V p cb n)⌝ ∗ holds (F := F) (e := .i32) d i ib I ∗ holds (F := F) (e := .f32) d i vb V ∗
      holds (F := F) (e := .f32) d i ch g)) (by
      intro n q
      iintro ⟨%hq, HI, HV, Hg⟩
      subst hq
      iapply (wp_tripProg (F := F) (d := d) (i := i) (ib := ib) (vb := vb) (ch := ch) (g := g) (I := I) (V := V) hI p n.val (hl ▸ n.isLt) cb
        (congrFun (ho n) 0) (congrFun (ho n) 1) (congrFun (ho n) 2))
      isplitl [HI]; · iexact HI
      isplitl [HV]; · iexact HV
      isplitl [Hg]; · iexact Hg
      iintro ⟨HI, HV, Hg⟩
      isplitl []; · ipureintro; rfl
      isplitl [HI]; · iexact HI
      isplitl [HV]; · iexact HV
      iexact Hg))
  isplitl [HI HV Hg]
  · isplitl []
    · ipureintro
      obtain rfl : z = _ := funext hz
      rfl
    isplitl [HI]; · iexact HI
    isplitl [HV]; · iexact HV
    iexact Hg
  iintro %q ⟨%hq, HI, HV, Hg⟩
  have hl' : Scf.trips l.lb l.ub l.st = 20 := hl
  rw [hl'] at hq
  subst hq
  have hG' : ∀ c2 x, FloatOps.addf (s (ix3 p (col cb x) c2)) (FloatOps.mulf (rv c2 x) (accv g I V p cb 20 c2 x)) = G (ix3 p (col cb x) c2) := hG
  have key : iprop(holds (F := F) (e := .f32) d i sm s ∗ holdsOn d i om G (filled p cb 0) ∗ (holds (F := F) (e := .i32) d i ib I ∗
      holds (F := F) (e := .f32) d i vb V ∗ holds (F := F) (e := .f32) d i ch g ∗ R)) ⊢ twp d i (do
        cellProg K i sm om ii rows (broadcast S16 0#32) (rv 0) (accv g I V p cb 20 0)
        cellProg K i sm om ii rows (broadcast S16 1#32) (rv 1) (accv g I V p cb 20 1)
        cellProg K i sm om ii rows (broadcast S16 2#32) (rv 2) (accv g I V p cb 20 2)
        cellProg K i sm om ii rows (broadcast S16 3#32) (rv 3) (accv g I V p cb 20 3)
        cellProg K i sm om ii rows (broadcast S16 4#32) (rv 4) (accv g I V p cb 20 4)
        cellProg K i sm om ii rows (broadcast S16 5#32) (rv 5) (accv g I V p cb 20 5)
        cellProg K i sm om ii rows (broadcast S16 6#32) (rv 6) (accv g I V p cb 20 6)
        cellProg K i sm om ii rows (broadcast S16 7#32) (rv 7) (accv g I V p cb 20 7)
        k ⟨⟩) Q := by
    refine cell_step p cb 0 rfl rfl ha hb (fun _ => rfl) (hG' 0) ?_
    refine cell_step p cb 1 rfl rfl ha hb (fun _ => rfl) (hG' 1) ?_
    refine cell_step p cb 2 rfl rfl ha hb (fun _ => rfl) (hG' 2) ?_
    refine cell_step p cb 3 rfl rfl ha hb (fun _ => rfl) (hG' 3) ?_
    refine cell_step p cb 4 rfl rfl ha hb (fun _ => rfl) (hG' 4) ?_
    refine cell_step p cb 5 rfl rfl ha hb (fun _ => rfl) (hG' 5) ?_
    refine cell_step p cb 6 rfl rfl ha hb (fun _ => rfl) (hG' 6) ?_
    refine cell_step p cb 7 rfl rfl ha hb (fun _ => rfl) (hG' 7) ?_
    refine .trans ?_ h
    unfold inputs
    iintro ⟨Hs, Ho, HI, HV, Hg, HR⟩
    isplitl [HI HV Hg Hs]
    · isplitl [HI]; · iexact HI
      isplitl [HV]; · iexact HV
      isplitl [Hg]; · iexact Hg
      iexact Hs
    isplitl [Ho]
    · iapply (holdsOn_mono (F := F) (fun y hy => filled_next (p := p) (cb := cb) y hy))
      iexact Ho
    iexact HR
  iapply key
  isplitl [Hs]; · iexact Hs
  isplitl [Ho]; · iexact Ho
  isplitl [HI]; · iexact HI
  isplitl [HV]; · iexact HV
  isplitl [Hg]; · iexact Hg
  iexact HR

/-- A loop over the neighbours as the program prints it: its bounds and where each trip reads. -/
structure Nbr where
  l : Scf.Loop 32
  ok : l.OK
  off : Fin l.trips → Fin 3 → ℕ
  inb : ∀ k a, off k a + S1x1x16.size a ≤ S16x20x64.size a

variable (K i)

/-- One row of the output block: its four blocks of sixteen columns. -/
def rowProg (ib : Memref sig .scVector .vmem S16x20x64 .i32) (vb : Memref sig .scVector .vmem S16x20x64 .f32)
    (ch : Memref sig .scVector .vmem S4096x8 .f32) (sm om : Memref sig .scVector .vmem S16x64x8 .f32)
    (L : Fin 4 → Nbr) (ii lanes : IVec S16 32) (rv : Fin 8 → FVec F S16 .f32) (z : FVec F S16 .f32) : TP F i PUnit := do
  blockProg K i ib vb ch sm om (L 0).l (L 0).ok (L 0).off (L 0).inb ii (addi lanes (broadcast S16 0#32)) rv z
  blockProg K i ib vb ch sm om (L 1).l (L 1).ok (L 1).off (L 1).inb ii (addi lanes (broadcast S16 16#32)) rv z
  blockProg K i ib vb ch sm om (L 2).l (L 2).ok (L 2).off (L 2).inb ii (addi lanes (broadcast S16 32#32)) rv z
  blockProg K i ib vb ch sm om (L 3).l (L 3).ok (L 3).off (L 3).inb ii (addi lanes (broadcast S16 48#32)) rv z
  pure ⟨⟩

variable {K i}

/-- One row at the head of a program, beside anything. -/
theorem wp_rowProg {ib : Memref sig .scVector .vmem S16x20x64 .i32} {vb : Memref sig .scVector .vmem S16x20x64 .f32}
    {ch : Memref sig .scVector .vmem S4096x8 .f32} {sm om : Memref sig .scVector .vmem S16x64x8 .f32}
    {L : Fin 4 → Nbr} {ii lanes : IVec S16 32} {rv : Fin 8 → FVec F S16 .f32} {z : FVec F S16 .f32}
    {g : S4096x8.Idx → F .f32} {I : S16x20x64.Idx → BitVec 32} {V : S16x20x64.Idx → F .f32} {s G : S16x64x8.Idx → F .f32}
    (hI : ∀ x, (I x).toNat < 4096) (p : Fin 16) (hl : ∀ cb, (L cb).l.trips = 20)
    (ho : ∀ cb k, (L cb).off k = ![p.val, k.val, 16 * cb.val])
    (hz : ∀ x, z x = Scalar.ofBits .f32 0x00000000#32)
    (ha : ∀ x, (ii x).toNat = p.val) (hlanes : ∀ x, (lanes x).toNat = (x 0).val)
    (hG : ∀ c c2 x, FloatOps.addf (s (ix3 p c c2)) (FloatOps.mulf (rv c2 x) (acc g I V p c c2 20)) = G (ix3 p c c2)) :
    iprop(inputs d i ib vb ch sm I V g s ∗ holdsOn d i om G (filled p 0 0))
      ⊢ twp d i (rowProg K i ib vb ch sm om L ii lanes rv z)
        fun _ => iprop(inputs d i ib vb ch sm I V g s ∗ holdsOn d i om G (filled (p.val + 1) 0 0)) := by
  have hrow : ∀ (cb : Fin 4) (w : BitVec 32), w.toNat = 16 * cb.val → ∀ x : S16.Idx, (addi lanes (broadcast S16 w) x).toNat = (col cb x).val := fun cb w hw x => by
    have h1 : (x 0).val < 16 := (x 0).isLt
    have h2 := cb.isLt
    change (lanes x + w).toNat = 16 * cb.val + (x 0).val
    rw [BitVec.toNat_add, hlanes, hw]; omega
  have hbase : iprop(inputs d i ib vb ch sm I V g s ∗ holdsOn d i om G (filled p 0 0) ∗ emp) ⊢ twp d i (rowProg K i ib vb ch sm om L ii lanes rv z)
        fun _ => iprop(inputs d i ib vb ch sm I V g s ∗ holdsOn d i om G (filled (p.val + 1) 0 0)) := by
    unfold rowProg
    refine block_step hI p 0 rfl rfl (hl 0) (ho 0) hz ha (hrow 0 _ rfl) (fun c2 x => hG _ c2 x) ?_
    refine block_step hI p 1 rfl rfl (hl 1) (ho 1) hz ha (hrow 1 _ rfl) (fun c2 x => hG _ c2 x) ?_
    refine block_step hI p 2 rfl rfl (hl 2) (ho 2) hz ha (hrow 2 _ rfl) (fun c2 x => hG _ c2 x) ?_
    refine block_step hI p 3 rfl rfl (hl 3) (ho 3) hz ha (hrow 3 _ rfl) (fun c2 x => hG _ c2 x) ?_
    refine .trans ?_ twp_pure
    iintro ⟨H, Ho, -⟩
    isplitl [H]; · iexact H
    iapply (holdsOn_mono (F := F) (fun y hy => filled_row (p := p) y hy))
    iexact Ho
  iintro ⟨H, Ho⟩
  iapply hbase
  isplitl [H]; · iexact H
  isplitl [Ho]; · iexact Ho
  iempintro

end Cert.Proof.Sc
-- ==== Proof.Rows.lean ====
/-
  The loop over the rows of an output block, as the program prints it for each of the two chunk buffers, is `rowProg`
  at that buffer.
-/
module

public import proofs.«01_k».proof.Proof.Block

@[expose] public section

noncomputable section

namespace Cert.Proof.Sc

open Cert.KernelIdeal Cert.KernelIdeal.Gen

open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore.Cfg (HIx)

variable {F : FTy → Type}
local notation "𝕄" => MT nD τ sig (HIx 1) (Elt F) ℕ UU ℕ
variable [FloatOps F]

/-- The memory matrix, eight lanes to a row. -/
abbrev memM : Memref sig .scVector .hbm S64x4096x8x8 .f32 := Memref.whole main_v0_scv
/-- The neighbours' indices. -/
abbrev indM : Memref sig .scVector .hbm S64x24x64 .i32 := Memref.whole main_arg2_scv
/-- The neighbours' weights. -/
abbrev vM : Memref sig .scVector .hbm S64x24x64 .f32 := Memref.whole main_arg3_scv
/-- The scales. -/
abbrev rM : Memref sig .scVector .hbm S64x8x64 .f32 := Memref.whole main_arg4_scv
/-- The seeds, eight lanes to a row. -/
abbrev srcM : Memref sig .scVector .hbm S64x64x64x8x8 .f32 := Memref.whole main_v1_scv
/-- The result, eight lanes to a row. -/
abbrev outM : Memref sig .scVector .hbm S32x64x64x8x8 .f32 := Memref.whole main_v2_scv
/-- The first chunk buffer. -/
abbrev ch0 : Memref sig .scVector .vmem S4096x8 .f32 := Memref.whole cc0_scratch0
/-- The second chunk buffer. -/
abbrev ch1 : Memref sig .scVector .vmem S4096x8 .f32 := Memref.whole cc0_scratch1
/-- The tile's indices. -/
abbrev indB : Memref sig .scVector .vmem S16x20x64 .i32 := Memref.whole cc0_scratch2
/-- The tile's weights. -/
abbrev vB : Memref sig .scVector .vmem S16x20x64 .f32 := Memref.whole cc0_scratch3
/-- The tile's scales. -/
abbrev rB : Memref sig .scVector .vmem S64x64 .f32 := Memref.whole cc0_scratch4
/-- The tile's seeds. -/
abbrev sB : Memref sig .scVector .vmem S16x64x8 .f32 := Memref.whole cc0_scratch5
/-- The tile's block of results. -/
abbrev oB : Memref sig .scVector .vmem S16x64x8 .f32 := Memref.whole cc0_scratch6

/-- The checks of the rows over the chunk buffer `ch0`. -/
def checks0 (t : Fin k0_t1_loop.trips) (h : k0_cond4 t = 1#1) : Checks where
  cnd := k0_cond4 t = 1#1
  hc := h
  dec2 := k0_chk9.dec t
  dec3 := k0_chk17.dec t

/-- The four loops over the neighbours of row `p` over the chunk buffer `ch0`. -/
def nbr0 (t : Fin k0_t1_loop.trips) (h : k0_cond4 t = 1#1) (p : Fin k0_t2_loop.trips) : Fin 4 → Nbr
  | 0 => ⟨k0_t3_loop, k0_t3_ok t h, k0_off9 p, fun n => k0_off9_inb t p n h⟩
  | 1 => ⟨k0_t4_loop, k0_t4_ok t h, k0_off10 p, fun n => k0_off10_inb t p n h⟩
  | 2 => ⟨k0_t5_loop, k0_t5_ok t h, k0_off11 p, fun n => k0_off11_inb t p n h⟩
  | 3 => ⟨k0_t6_loop, k0_t6_ok t h, k0_off12 p, fun n => k0_off12_inb t p n h⟩

theorem rows0_eq (i : grid0.Coords) (v29 : BitVec 32) (v31 : IVec S16 32) (v32 : FVec F S16 .f32) (v33 : IVec S16 32)
    (t : Fin k0_t1_loop.trips) (v52 : BitVec 32) (v73 v76 : IVec S16 32) (v77 v81 v85 v89 v93 v97 v101 v105 : Vec F S16 .f32)
    (h : k0_cond4 t = 1#1) (p : Fin k0_t2_loop.trips) :
    k0_t2_body i memM (Memref.isWhole_whole _) indM (Memref.isWhole_whole _) vM (Memref.isWhole_whole _) rM (Memref.isWhole_whole _) srcM (Memref.isWhole_whole _) outM (Memref.isWhole_whole _) ch0 (Memref.isWhole_whole _) ch1 (Memref.isWhole_whole _) indB (Memref.isWhole_whole _) vB (Memref.isWhole_whole _) rB (Memref.isWhole_whole _) sB (Memref.isWhole_whole _) oB (Memref.isWhole_whole _) cc0_scratch7 cc0_scratch8 cc0_scratch9 cc0_scratch10 cc0_scoped0 cc0_scoped1 cc0_scoped2 v29 v31 v32 v33 t v52 v73 v76 v77 v81 v85 v89 v93 v97 v101 v105 h p ⟨⟩
      = rowProg (checks0 t h) i indB vB ch0 sB oB (nbr0 t h p) (addi v33 (broadcast S16 (Scf.iv 0#32 1#32 p))) v31
          ![v77, v81, v85, v89, v93, v97, v101, v105] v32 := by
  simp only [k0_t2_body, k0_part5_eq_skeleton, k0_part5_skel, k0_part6_eq_skeleton, k0_part6_skel, k0_part7_eq_skeleton, k0_part7_skel, k0_part8_eq_skeleton, k0_part8_skel, rowProg, blockProg, cellProg, bind_assoc, pure_bind]
  rfl

/-- The checks of the rows over the chunk buffer `ch1`. -/
def checks1 (t : Fin k0_t1_loop.trips) (h : k0_cond5 t = 1#1) : Checks where
  cnd := k0_cond5 t = 1#1
  hc := h
  dec2 := k0_chk73.dec t
  dec3 := k0_chk81.dec t

/-- The four loops over the neighbours of row `p` over the chunk buffer `ch1`. -/
def nbr1 (t : Fin k0_t1_loop.trips) (h : k0_cond5 t = 1#1) (p : Fin k0_t7_loop.trips) : Fin 4 → Nbr
  | 0 => ⟨k0_t8_loop, k0_t8_ok t h, k0_off15 p, fun n => k0_off15_inb t p n h⟩
  | 1 => ⟨k0_t9_loop, k0_t9_ok t h, k0_off16 p, fun n => k0_off16_inb t p n h⟩
  | 2 => ⟨k0_t10_loop, k0_t10_ok t h, k0_off17 p, fun n => k0_off17_inb t p n h⟩
  | 3 => ⟨k0_t11_loop, k0_t11_ok t h, k0_off18 p, fun n => k0_off18_inb t p n h⟩

theorem rows1_eq (i : grid0.Coords) (v29 : BitVec 32) (v31 : IVec S16 32) (v32 : FVec F S16 .f32) (v33 : IVec S16 32)
    (t : Fin k0_t1_loop.trips) (v52 : BitVec 32) (v73 v76 : IVec S16 32) (v77 v81 v85 v89 v93 v97 v101 v105 : Vec F S16 .f32)
    (h : k0_cond5 t = 1#1) (p : Fin k0_t7_loop.trips) :
    k0_t7_body i memM (Memref.isWhole_whole _) indM (Memref.isWhole_whole _) vM (Memref.isWhole_whole _) rM (Memref.isWhole_whole _) srcM (Memref.isWhole_whole _) outM (Memref.isWhole_whole _) ch0 (Memref.isWhole_whole _) ch1 (Memref.isWhole_whole _) indB (Memref.isWhole_whole _) vB (Memref.isWhole_whole _) rB (Memref.isWhole_whole _) sB (Memref.isWhole_whole _) oB (Memref.isWhole_whole _) cc0_scratch7 cc0_scratch8 cc0_scratch9 cc0_scratch10 cc0_scoped0 cc0_scoped1 cc0_scoped2 v29 v31 v32 v33 t v52 v73 v76 v77 v81 v85 v89 v93 v97 v101 v105 h p ⟨⟩
      = rowProg (checks1 t h) i indB vB ch1 sB oB (nbr1 t h p) (addi v33 (broadcast S16 (Scf.iv 0#32 1#32 p))) v31
          ![v77, v81, v85, v89, v93, v97, v101, v105] v32 := by
  simp only [k0_t7_body, k0_part13_eq_skeleton, k0_part13_skel, k0_part14_eq_skeleton, k0_part14_skel, k0_part15_eq_skeleton, k0_part15_skel, k0_part16_eq_skeleton, k0_part16_skel, rowProg, blockProg, cellProg, bind_assoc, pure_bind]
  rfl

end Cert.Proof.Sc
-- ==== Proof.Views.lean ====
/-
  What the tile's copies read and write, in coordinates: the chunk of the memory matrix, the seeds, the indices, the
  weights and the scales that it reads, the part of the result that it writes; and the value of the result.
-/
module

public import proofs.«01_k».proof.Proof.Geom
public import proofs.«01_k».proof.Proof.Rows

@[expose] public section

noncomputable section

namespace Cert.Proof.Sc

open Cert.KernelIdeal Cert.KernelIdeal.Gen

open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore.Cfg (HIx)

variable {F : FTy → Type}
local notation "𝕄" => MT nD τ sig (HIx 1) (Elt F) ℕ UU ℕ
variable [FloatOps F]

/-- Row `p` of the row group `R`. -/
def rowIx (R : Fin 4) (p : Fin 16) : Fin 64 := ⟨16 * R.val + p.val, by have := R.isLt; have := p.isLt; omega⟩

/-- Lane `c2` of the lane group `b`. -/
def laneIx (b c2 : Fin 8) : Fin 64 := ⟨8 * b.val + c2.val, by have := b.isLt; have := c2.isLt; omega⟩

/-- One chunk of the memory matrix: slice `n`, the eight lanes of group `b`. -/
def chunkOf {α : Type} (mm : S64x4096x8x8.Idx → α) (n : ℕ) (b : Fin 8) : S4096x8.Idx → α := fun y => mm (ix4 (Fin.ofNat 64 n) (y 0) b (y 1))

/-- The first twenty columns of sixteen rows of the neighbours' table. -/
def nbrOf {α : Type} (x : S64x24x64.Idx → α) (R : Fin 4) : S16x20x64.Idx → α :=
  fun y => x (ix3 (rowIx R (y 0)) ((y 1).castLE (by decide) : Fin 24) (y 2))

/-- The scales, with their unit axis dropped. -/
def scaleOf {α : Type} (r : S64x8x64.Idx → α) : S64x64.Idx → α := fun y => r (ix3 (y 0) (0 : Fin 8) (y 1))

/-- The seeds of one output block. -/
def seedOf {α : Type} (x : S64x64x64x8x8.Idx → α) (n : ℕ) (R : Fin 4) (b : Fin 8) : S16x64x8.Idx → α :=
  fun y => x (ix5 (Fin.ofNat 64 n) (rowIx R (y 0)) (y 1) b (y 2))

/-- A block of results: the seed plus the scaled sum over the neighbours. -/
def target (s : S16x64x8.Idx → F .f32) (r : Fin 8 → F .f32) (g : S4096x8.Idx → F .f32) (I : S16x20x64.Idx → BitVec 32)
    (V : S16x20x64.Idx → F .f32) : S16x64x8.Idx → F .f32 :=
  fun y => FloatOps.addf (s y) (FloatOps.mulf (r (y 2)) (acc g I V (y 0) (y 1) (y 2) 20))

variable (mm : S64x4096x8x8.Idx → F .f32) (ind : S64x24x64.Idx → BitVec 32) (v : S64x24x64.Idx → F .f32) (r : S64x8x64.Idx → F .f32)
  (src : S64x64x64x8x8.Idx → F .f32)

/-- The block of results of slice `n`, row group `R` and lane group `b`. -/
def blockOf (n : ℕ) (R : Fin 4) (b : Fin 8) : S16x64x8.Idx → F .f32 :=
  target (seedOf src n R b) (fun c2 => scaleOf r (ix2 (Fin.ofNat 64 n) (laneIx b c2))) (chunkOf mm n b) (nbrOf ind R) (nbrOf v R)

/-- The whole result, eight lanes to a row. -/
def result : S32x64x64x8x8.Idx → F .f32 := fun y =>
  blockOf mm ind v r src (y 0).val ⟨(y 1).val / 16, Nat.div_lt_of_lt_mul (y 1).isLt⟩ (y 3) (ix3 (⟨(y 1).val % 16, Nat.mod_lt _ (by decide)⟩ : Fin 16) (y 2) (y 4))

/-! ## The views -/

theorem chunk_ix (y : S4096x8.Idx) : Shape.reshapeEquiv squeezes_S1x4096x1x8_S4096x8.numel_eq y = (ix4 (0 : Fin 1) (y 0) (0 : Fin 1) (y 1) : S1x4096x1x8.Idx) :=
  Shape.reshapeEquiv_eq_of_rowMajor _ (by
    rw [Shape.rowMajor_val_four, Shape.rowMajor_val_two]
    show (((0 * 4096 + (y 0).val) * 1 + 0) * 8 + (y 1).val) = (y 0).val * 8 + (y 1).val
    omega)

theorem seed_ix (y : S16x64x8.Idx) : Shape.reshapeEquiv squeezes_S1x16x64x1x8_S16x64x8.numel_eq y = (ix5 (0 : Fin 1) (y 0) (y 1) (0 : Fin 1) (y 2) : S1x16x64x1x8.Idx) :=
  Shape.reshapeEquiv_eq_of_rowMajor _ (by
    rw [Shape.rowMajor_val_five, Shape.rowMajor_val_three]
    show ((((0 * 16 + (y 0).val) * 64 + (y 1).val) * 1 + 0) * 8 + (y 2).val) = ((y 0).val * 64 + (y 1).val) * 8 + (y 2).val
    omega)

theorem scale_ix (y : S64x64.Idx) : Shape.reshapeEquiv squeezes_S64x1x64_S64x64.numel_eq y = (ix3 (y 0) (0 : Fin 1) (y 1) : S64x1x64.Idx) :=
  Shape.reshapeEquiv_eq_of_rowMajor _ (by
    rw [Shape.rowMajor_val_three, Shape.rowMajor_val_two]
    show (((y 0).val * 1 + 0) * 64 + (y 1).val) = (y 0).val * 64 + (y 1).val
    omega)

abbrev chunkV (off : Fin 4 → ℕ) (h : ∀ a, off a + S1x4096x1x8.size a ≤ S64x4096x8x8.size a) : Memref sig .scVector .hbm S4096x8 .f32 :=
  (memM.slice (Rect.unit (s := S64x4096x8x8) off S1x4096x1x8.size h) (fun _ => rfl)).squeeze S4096x8 squeezes_S1x4096x1x8_S4096x8

abbrev seedV (off : Fin 5 → ℕ) (h : ∀ a, off a + S1x16x64x1x8.size a ≤ S64x64x64x8x8.size a) : Memref sig .scVector .hbm S16x64x8 .f32 :=
  (srcM.slice (Rect.unit (s := S64x64x64x8x8) off S1x16x64x1x8.size h) (fun _ => rfl)).squeeze S16x64x8 squeezes_S1x16x64x1x8_S16x64x8

abbrev outV (off : Fin 5 → ℕ) (h : ∀ a, off a + S1x16x64x1x8.size a ≤ S32x64x64x8x8.size a) : Memref sig .scVector .hbm S16x64x8 .f32 :=
  (outM.slice (Rect.unit (s := S32x64x64x8x8) off S1x16x64x1x8.size h) (fun _ => rfl)).squeeze S16x64x8 squeezes_S1x16x64x1x8_S16x64x8

abbrev scaleV : Memref sig .scVector .hbm S64x64 .f32 :=
  (rM.slice (Rect.unit (s := S64x8x64) ![0, 0, 0] S64x1x64.size inb_S64x8x64_S64x1x64_0_0_0) (fun _ => rfl)).squeeze S64x64 squeezes_S64x1x64_S64x64

abbrev indV (off : Fin 3 → ℕ) (h : ∀ a, off a + S16x20x64.size a ≤ S64x24x64.size a) : Memref sig .scVector .hbm S16x20x64 .i32 :=
  indM.slice (Rect.unit (s := S64x24x64) off S16x20x64.size h) (fun _ => rfl)

abbrev vV (off : Fin 3 → ℕ) (h : ∀ a, off a + S16x20x64.size a ≤ S64x24x64.size a) : Memref sig .scVector .hbm S16x20x64 .f32 :=
  vM.slice (Rect.unit (s := S64x24x64) off S16x20x64.size h) (fun _ => rfl)

variable {mm ind v r src}

theorem chunk_read {off : Fin 4 → ℕ} {h : ∀ a, off a + S1x4096x1x8.size a ≤ S64x4096x8x8.size a} {n : ℕ} {b : Fin 8} (hn : n < 64)
    (ho : off = ![n, 0, b.val, 0]) : (chunkV off h).view.read (Elt F) mm = chunkOf mm n b := by
  funext y
  subst ho
  show mm ((Rect.unit (s := S64x4096x8x8) ![n, 0, b.val, 0] S1x4096x1x8.size h).emb (Shape.reshapeEquiv squeezes_S1x4096x1x8_S4096x8.numel_eq y)) = _
  rw [chunk_ix]
  refine congrArg mm (funext fun ax => Fin.ext ?_)
  match ax with
  | ⟨0, _⟩ => show n + 1 * 0 = n % 64; omega
  | ⟨1, _⟩ => show 0 + 1 * (y 0).val = (y 0).val; omega
  | ⟨2, _⟩ => show b.val + 1 * 0 = b.val; omega
  | ⟨3, _⟩ => show 0 + 1 * (y 1).val = (y 1).val; omega

theorem seed_read {off : Fin 5 → ℕ} {h : ∀ a, off a + S1x16x64x1x8.size a ≤ S64x64x64x8x8.size a} {n : ℕ} {R : Fin 4} {b : Fin 8} (hn : n < 64)
    (ho : off = ![n, 16 * R.val, 0, b.val, 0]) : (seedV off h).view.read (Elt F) src = seedOf src n R b := by
  funext y
  subst ho
  show src ((Rect.unit (s := S64x64x64x8x8) ![n, 16 * R.val, 0, b.val, 0] S1x16x64x1x8.size h).emb (Shape.reshapeEquiv squeezes_S1x16x64x1x8_S16x64x8.numel_eq y)) = _
  rw [seed_ix]
  refine congrArg src (funext fun ax => Fin.ext ?_)
  match ax with
  | ⟨0, _⟩ => show n + 1 * 0 = n % 64; omega
  | ⟨1, _⟩ => show 16 * R.val + 1 * (y 0).val = 16 * R.val + (y 0).val; omega
  | ⟨2, _⟩ => show 0 + 1 * (y 1).val = (y 1).val; omega
  | ⟨3, _⟩ => show b.val + 1 * 0 = b.val; omega
  | ⟨4, _⟩ => show 0 + 1 * (y 2).val = (y 2).val; omega

theorem scale_read : scaleV.view.read (Elt F) r = scaleOf r := by
  funext y
  show r ((Rect.unit (s := S64x8x64) ![0, 0, 0] S64x1x64.size inb_S64x8x64_S64x1x64_0_0_0).emb (Shape.reshapeEquiv squeezes_S64x1x64_S64x64.numel_eq y)) = _
  rw [scale_ix]
  refine congrArg r (funext fun ax => Fin.ext ?_)
  match ax with
  | ⟨0, _⟩ => show 0 + 1 * (y 0).val = (y 0).val; omega
  | ⟨1, _⟩ => rfl
  | ⟨2, _⟩ => show 0 + 1 * (y 1).val = (y 1).val; omega

theorem nbr_emb {off : Fin 3 → ℕ} {h : ∀ a, off a + S16x20x64.size a ≤ S64x24x64.size a} {R : Fin 4} (ho : off = ![16 * R.val, 0, 0]) (y : S16x20x64.Idx) :
    (Rect.unit (s := S64x24x64) off S16x20x64.size h).emb y = ix3 (rowIx R (y 0)) ((y 1).castLE (by decide) : Fin 24) (y 2) := by
  subst ho
  refine funext fun ax => Fin.ext ?_
  match ax with
  | ⟨0, _⟩ => show 16 * R.val + 1 * (y 0).val = 16 * R.val + (y 0).val; omega
  | ⟨1, _⟩ => show 0 + 1 * (y 1).val = (y 1).val; omega
  | ⟨2, _⟩ => show 0 + 1 * (y 2).val = (y 2).val; omega

theorem ind_read {off : Fin 3 → ℕ} {h : ∀ a, off a + S16x20x64.size a ≤ S64x24x64.size a} {R : Fin 4} (ho : off = ![16 * R.val, 0, 0]) :
    (indV off h).view.read (Elt F) ind = nbrOf ind R := funext fun y => congrArg ind (nbr_emb (h := h) ho y)

theorem v_read {off : Fin 3 → ℕ} {h : ∀ a, off a + S16x20x64.size a ≤ S64x24x64.size a} {R : Fin 4} (ho : off = ![16 * R.val, 0, 0]) :
    (vV off h).view.read (Elt F) v = nbrOf v R := funext fun y => congrArg v (nbr_emb (h := h) ho y)

theorem out_emb {off : Fin 5 → ℕ} {h : ∀ a, off a + S1x16x64x1x8.size a ≤ S32x64x64x8x8.size a} {n : ℕ} {R : Fin 4} {b : Fin 8} (hn : n < 32)
    (ho : off = ![n, 16 * R.val, 0, b.val, 0]) (y : S16x64x8.Idx) :
    (outV off h).view.emb y = (ix5 (⟨n, hn⟩ : Fin 32) (rowIx R (y 0)) (y 1) b (y 2) : S32x64x64x8x8.Idx) := by
  subst ho
  show (Rect.unit (s := S32x64x64x8x8) ![n, 16 * R.val, 0, b.val, 0] S1x16x64x1x8.size h).emb (Shape.reshapeEquiv squeezes_S1x16x64x1x8_S16x64x8.numel_eq y) = _
  rw [seed_ix]
  refine funext fun ax => Fin.ext ?_
  match ax with
  | ⟨0, _⟩ => show n + 1 * 0 = n; omega
  | ⟨1, _⟩ => show 16 * R.val + 1 * (y 0).val = 16 * R.val + (y 0).val; omega
  | ⟨2, _⟩ => show 0 + 1 * (y 1).val = (y 1).val; omega
  | ⟨3, _⟩ => show b.val + 1 * 0 = b.val; omega
  | ⟨4, _⟩ => show 0 + 1 * (y 2).val = (y 2).val; omega

/-- The elements of the result that a row group and a lane group hold at the slices that `P` names. -/
def outSet (R : Fin 4) (b : Fin 8) (P : ℕ → Prop) [DecidablePred P] : Finset S32x64x64x8x8.Idx :=
  Finset.univ.filter fun y => (y 1).val / 16 = R.val ∧ (y 3).val = b.val ∧ P (y 0).val

theorem out_set {off : Fin 5 → ℕ} {h : ∀ a, off a + S1x16x64x1x8.size a ≤ S32x64x64x8x8.size a} {n : ℕ} {R : Fin 4} {b : Fin 8} (hn : n < 32)
    (ho : off = ![n, 16 * R.val, 0, b.val, 0]) : (outV off h).view.set = outSet R b (· = n) := by
  ext y
  have hy0 : (y 0).val < 32 := (y 0).isLt
  constructor
  · intro hy
    obtain ⟨x, -, rfl⟩ := Finset.mem_map.mp hy
    have hx : (x 0).val < 16 := (x 0).isLt
    refine Finset.mem_filter.mpr ⟨Finset.mem_univ _, ?_⟩
    rw [out_emb hn ho x]
    refine ⟨?_, rfl, rfl⟩
    show (16 * R.val + (x 0).val) / 16 = R.val
    omega
  · intro hy
    obtain ⟨-, h1, h3, h0⟩ := Finset.mem_filter.mp hy
    refine Finset.mem_map.mpr ⟨ix3 (⟨(y 1).val % 16, Nat.mod_lt _ (by decide)⟩ : Fin 16) (y 2) (y 4), Finset.mem_univ _, ?_⟩
    rw [out_emb hn ho]
    refine funext fun ax => Fin.ext ?_
    match ax with
    | ⟨0, _⟩ => exact h0.symm
    | ⟨1, _⟩ => show 16 * R.val + (y 1).val % 16 = (y 1).val; omega
    | ⟨2, _⟩ => rfl
    | ⟨3, _⟩ => exact h3.symm
    | ⟨4, _⟩ => rfl

theorem out_value {off : Fin 5 → ℕ} {h : ∀ a, off a + S1x16x64x1x8.size a ≤ S32x64x64x8x8.size a} {n : ℕ} {R : Fin 4} {b : Fin 8} (hn : n < 32)
    (ho : off = ![n, 16 * R.val, 0, b.val, 0]) (y : S16x64x8.Idx) :
    result mm ind v r src ((outV off h).view.emb y) = blockOf mm ind v r src n R b y := by
  rw [out_emb hn ho y]
  have hy : (y 0).val < 16 := (y 0).isLt
  have hR := R.isLt
  unfold result
  have e1 : (⟨(rowIx R (y 0)).val / 16, Nat.div_lt_of_lt_mul (rowIx R (y 0)).isLt⟩ : Fin 4) = R := Fin.ext (by show (16 * R.val + (y 0).val) / 16 = R.val; omega)
  have e2 : (⟨(rowIx R (y 0)).val % 16, Nat.mod_lt _ (by decide)⟩ : Fin 16) = y 0 := Fin.ext (by show (16 * R.val + (y 0).val) % 16 = (y 0).val; omega)
  show blockOf mm ind v r src n ⟨(rowIx R (y 0)).val / 16, _⟩ b (ix3 (⟨(rowIx R (y 0)).val % 16, _⟩ : Fin 16) (y 1) (y 2)) = _
  rw [e1, e2]
  congr 1
  exact (eq_ix3 y).symm

end Cert.Proof.Sc
-- ==== Proof.Slots.lean ====
/-
  The pieces of one step over the slices: a chunk buffer that is being filled or is idle, the loads of the scales, the
  loop over the rows, and the part of the result that a tile has written so far.
-/
module

public import proofs.«01_k».proof.Proof.Copies
public import proofs.«01_k».proof.Proof.Views

@[expose] public section

noncomputable section

namespace Cert.Proof.Sc

open Cert.KernelIdeal Cert.KernelIdeal.Gen

open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore.Cfg (HIx)

variable {F : FTy → Type}
local notation "𝕄" => MT nD τ sig (HIx 1) (Elt F) ℕ UU ℕ
variable [FloatOps F]

open Idealize.ShloMosaic.Transfers

variable {d : Dev nD} {i : grid0.Coords}

/-! ## Moving a conjunct to the front -/

theorem pull2 {P₁ P₂ R : sProp 𝕄} : iprop(P₁ ∗ P₂ ∗ R) ⊢ iprop(P₂ ∗ P₁ ∗ R) := BI.sep_assoc'.trans ((sep_mono_l BI.sep_comm).trans BI.sep_assoc)
theorem pull3 {P₁ P₂ P₃ R : sProp 𝕄} : iprop(P₁ ∗ P₂ ∗ P₃ ∗ R) ⊢ iprop(P₃ ∗ P₁ ∗ P₂ ∗ R) := (sep_mono_r pull2).trans pull2
theorem pull4 {P₁ P₂ P₃ P₄ R : sProp 𝕄} : iprop(P₁ ∗ P₂ ∗ P₃ ∗ P₄ ∗ R) ⊢ iprop(P₄ ∗ P₁ ∗ P₂ ∗ P₃ ∗ R) := (sep_mono_r pull3).trans pull2
theorem pull5 {P₁ P₂ P₃ P₄ P₅ R : sProp 𝕄} : iprop(P₁ ∗ P₂ ∗ P₃ ∗ P₄ ∗ P₅ ∗ R) ⊢ iprop(P₅ ∗ P₁ ∗ P₂ ∗ P₃ ∗ P₄ ∗ R) := (sep_mono_r pull4).trans pull2
theorem pull6 {P₁ P₂ P₃ P₄ P₅ P₆ R : sProp 𝕄} : iprop(P₁ ∗ P₂ ∗ P₃ ∗ P₄ ∗ P₅ ∗ P₆ ∗ R) ⊢ iprop(P₆ ∗ P₁ ∗ P₂ ∗ P₃ ∗ P₄ ∗ P₅ ∗ R) := (sep_mono_r pull5).trans pull2
theorem pull7 {P₁ P₂ P₃ P₄ P₅ P₆ P₇ R : sProp 𝕄} : iprop(P₁ ∗ P₂ ∗ P₃ ∗ P₄ ∗ P₅ ∗ P₆ ∗ P₇ ∗ R) ⊢ iprop(P₇ ∗ P₁ ∗ P₂ ∗ P₃ ∗ P₄ ∗ P₅ ∗ P₆ ∗ R) := (sep_mono_r pull6).trans pull2
theorem pull8 {P₁ P₂ P₃ P₄ P₅ P₆ P₇ P₈ R : sProp 𝕄} : iprop(P₁ ∗ P₂ ∗ P₃ ∗ P₄ ∗ P₅ ∗ P₆ ∗ P₇ ∗ P₈ ∗ R) ⊢ iprop(P₈ ∗ P₁ ∗ P₂ ∗ P₃ ∗ P₄ ∗ P₅ ∗ P₆ ∗ P₇ ∗ R) := (sep_mono_r pull7).trans pull2

/-! ## A choice at the head of a program -/

theorem dite_step {α β : Type} {C : Prop} [Decidable C] {p : C → TP F i β} {q : ¬C → TP F i β} {k : β → TP F i α} {A : sProp 𝕄} {Q : α → sProp 𝕄}
    (h1 : ∀ h : C, A ⊢ twp d i (p h >>= k) Q) (h2 : ∀ h : ¬C, A ⊢ twp d i (q h >>= k) Q) : A ⊢ twp d i (dite C p q >>= k) Q := by
  by_cases h : C
  · rw [dif_pos h]; exact h1 h
  · rw [dif_neg h]; exact h2 h

/-! ## The chunk buffers -/

/-- A chunk buffer: on its way to hold slice `n` of the tile's lanes, or idle. -/
def slot (d : Dev nD) (i : grid0.Coords) (M : Memref sig .scVector .vmem S4096x8 .f32) (sem : DmaSem sig) (q : PosShare TreeShare)
    (mm : S64x4096x8x8.Idx → F .f32) (k n : ℕ) : sProp 𝕄 :=
  if n % 2 = k ∧ n < 32 then filling (F := F) (e := .f32) d i M sem (memM.view.loc (thr d i)) q mm (chunkOf mm n (lg i))
  else idle (F := F) (e := .f32) d i M sem (memM.view.loc (thr d i)) q mm

theorem slot_idle {M : Memref sig .scVector .vmem S4096x8 .f32} {sem : DmaSem sig} {q : PosShare TreeShare} {mm : S64x4096x8x8.Idx → F .f32} {k n : ℕ}
    (h : ¬(n % 2 = k ∧ n < 32)) : slot d i M sem q mm k n = idle (F := F) (e := .f32) d i M sem (memM.view.loc (thr d i)) q mm := if_neg h

theorem slot_filling {M : Memref sig .scVector .vmem S4096x8 .f32} {sem : DmaSem sig} {q : PosShare TreeShare} {mm : S64x4096x8x8.Idx → F .f32} {k n : ℕ}
    (h : n % 2 = k ∧ n < 32) : slot d i M sem q mm k n = filling (F := F) (e := .f32) d i M sem (memM.view.loc (thr d i)) q mm (chunkOf mm n (lg i)) := if_pos h

/-- The copy of the next slice, at the head of a program. -/
theorem fetch_step {α : Type} {M : Memref sig .scVector .vmem S4096x8 .f32} {sem : DmaSem sig} {q : PosShare TreeShare} {mm : S64x4096x8x8.Idx → F .f32}
    {off : Fin 4 → ℕ} {hin : ∀ a, off a + S1x4096x1x8.size a ≤ S64x4096x8x8.size a} {k n m : ℕ} (hm : ¬(m % 2 = k ∧ m < 32)) (hn : n % 2 = k ∧ n < 32)
    (ho : off = ![n, 0, (lg i).val, 0]) {h1 : (chunkV off hin).view.WordExact} {h2 : M.view.WordExact}
    {h3 : DmaTarget.Typed (nD := nD) (τ := τ) (p := (thr d i).2) Space.hbm (SemLoc.dma sem) (.here M)}
    {kk : PUnit → TP F i α} {R : sProp 𝕄} {Q : α → sProp 𝕄} (h : iprop(slot d i M sem q mm k n ∗ R) ⊢ twp d i (kk ⟨⟩) Q) :
    iprop(slot d i M sem q mm k m ∗ R) ⊢ twp d i (Prog.lift (.enqueueDma (chunkV off hin) (.here M) (SemLoc.dma sem) h1 h2 h3) >>= kk) Q := by
  rw [slot_idle hm]
  rw [slot_filling hn] at h
  exact fill_step (S := chunkV off hin) (M := M) (by decide) (chunk_read (by omega) ho) h

/-! ## The scales -/

theorem idxAt_scale {a b : IVec S16 32} {h : ∀ ax x, ((![a, b] : Fin 2 → IVec S16 32) ax x).toNat < S64x64.size ax} (x : S16.Idx)
    (n m : Fin 64) (ha : (a x).toNat = n.val) (hb : (b x).toNat = m.val) : idxAt (s := S64x64) ![a, b] h x = ix2 n m := by
  funext ax; apply Fin.ext
  match ax with
  | ⟨0, _⟩ => exact ha
  | ⟨1, _⟩ => exact hb

/-- A checked load of one scale into every lane, at the head of a program. -/
theorem scale_step {α : Type} {rb : Memref sig .scVector .vmem S64x64 .f32} {g : S64x64.Idx → F .f32} {a b : IVec S16 32} {C : Prop} {dec : Decidable C}
    {hC : C → ∀ ax x, ((![a, b] : Fin 2 → IVec S16 32) ax x).toNat < S64x64.size ax} {hl : rb.view.Loads} (n m : Fin 64)
    (ha : ∀ x, (a x).toNat = n.val) (hb : ∀ x, (b x).toNat = m.val)
    (hw : (∀ ax x, ((![a, b] : Fin 2 → IVec S16 32) ax x).toNat < S64x64.size ax) → C)
    {k : Vec F S16 .f32 → TP F i α} {R : sProp 𝕄} {Q : α → sProp 𝕄}
    (h : iprop(holds (F := F) (e := .f32) d i rb g ∗ R) ⊢ twp d i (k fun _ => g (ix2 n m)) Q) :
    iprop(holds (F := F) (e := .f32) d i rb g ∗ R)
      ⊢ twp d i (Prog.lift (TpuEff.assume C dec) >>= fun w => SparseCore.vectorLoadIdx rb ![a, b] (hC w.down) hl >>= k) Q := by
  have hw' : ∀ ax x, ((![a, b] : Fin 2 → IVec S16 32) ax x).toNat < S64x64.size ax := fun ax x => by
    match ax with
    | ⟨0, _⟩ => exact (ha x).trans_lt n.isLt
    | ⟨1, _⟩ => exact (hb x).trans_lt m.isLt
  have hv : loadIdx (F := F) (e := .f32) g ![a, b] (hC (hw hw')) = fun _ => g (ix2 n m) := funext fun x => by
    unfold loadIdx
    rw [idxAt_scale x n m (ha x) (hb x)]
  refine .trans ?_ twp_bind
  refine .trans ?_ (wp_check (hw hw'))
  refine .trans ?_ twp_bind
  refine .trans ?_ (wp_gather (g := g))
  iintro ⟨Hg, HR⟩
  isplitl [Hg]; · iexact Hg
  iintro Hg
  rw [hv]
  iapply h
  isplitl [Hg]; · iexact Hg
  iexact HR

/-! ## The loop over the rows -/

theorem rows_step {α : Type} {K : Checks} {ib : Memref sig .scVector .vmem S16x20x64 .i32} {vb : Memref sig .scVector .vmem S16x20x64 .f32}
    {ch : Memref sig .scVector .vmem S4096x8 .f32} {sm om : Memref sig .scVector .vmem S16x64x8 .f32}
    {l : Scf.Loop 32} {lok : l.OK} (hl16 : l.trips = 16) {L : Fin l.trips → Fin 4 → Nbr} {ii : Fin l.trips → IVec S16 32} {lanes : IVec S16 32}
    {rv : Fin 8 → FVec F S16 .f32} {z : FVec F S16 .f32} {body : Fin l.trips → Unit → TP F i Unit}
    (hbody : ∀ p, body p ⟨⟩ = rowProg K i ib vb ch sm om (L p) (ii p) lanes rv z)
    {g : S4096x8.Idx → F .f32} {I : S16x20x64.Idx → BitVec 32} {V : S16x20x64.Idx → F .f32} {s : S16x64x8.Idx → F .f32} {r : Fin 8 → F .f32}
    (hI : ∀ x, (I x).toNat < 4096) (hl : ∀ p cb, (L p cb).l.trips = 20)
    (ho : ∀ p cb k, (L p cb).off k = ![p.val, k.val, 16 * cb.val])
    (hz : ∀ x, z x = Scalar.ofBits .f32 0x00000000#32)
    (ha : ∀ p x, (ii p x).toNat = p.val) (hlanes : ∀ x, (lanes x).toNat = (x 0).val) (hrv : ∀ c2 x, rv c2 x = r c2)
    {k : PUnit → TP F i α} {R : sProp 𝕄} {Q : α → sProp 𝕄}
    (h : iprop(inputs d i ib vb ch sm I V g s ∗ holds (F := F) (e := .f32) d i om (target s r g I V) ∗ R) ⊢ twp d i (k ⟨⟩) Q) :
    iprop(inputs d i ib vb ch sm I V g s ∗ holdsAny (F := F) (e := .f32) d i om ∗ R) ⊢ twp d i (Scf.Loop.for l lok ⟨⟩ body >>= k) Q := by
  refine .trans ?_ twp_bind
  unfold Scf.Loop.for
  iintro ⟨Hi, Ho, HR⟩
  iapply (Scf.wp_for frame (wpE (defs₀ (F := F)) 𝒱₀ (thr d i) none) Set.univ l.lb l.ub l.st lok ⟨⟩ body
    (fun n _ => iprop(inputs d i ib vb ch sm I V g s ∗ holdsOn d i om (target s r g I V) (filled n 0 0))) (by
      intro p q
      rw [show body p q = _ from hbody p]
      exact wp_rowProg hI ⟨p.val, hl16 ▸ p.isLt⟩ (hl p) (ho p) hz (ha p) hlanes (fun c c2 x => by rw [hrv c2 x]; rfl)))
  isplitl [Hi Ho]
  · isplitl [Hi]; · iexact Hi
    unfold holdsAny holdsOn
    icases Ho with ⟨%O, Ho⟩
    iexists O
    isplitl []
    · ipureintro
      rintro y (hy | ⟨-, hy | ⟨-, hy⟩⟩) <;> exact absurd hy (Nat.not_lt_zero _)
    · iexact Ho
  iintro %q ⟨Hi, Ho⟩
  iapply h
  isplitl [Hi]; · iexact Hi
  isplitl [Ho]
  · unfold holdsOn
    icases Ho with ⟨%O, %hO, Ho⟩
    rw [show O = target s r g I V from funext fun y => hO y (.inl (by
      have h16 : Scf.trips l.lb l.ub l.st = 16 := hl16
      rw [h16]; exact (y 0).isLt))]
    iexact Ho
  iexact HR

/-- The waits for the chunk and the seeds and the loop over the rows, at the head of a program. -/
theorem compute_step {α : Type} {K : Checks} {ib : Memref sig .scVector .vmem S16x20x64 .i32} {vb : Memref sig .scVector .vmem S16x20x64 .f32}
    {ch : Memref sig .scVector .vmem S4096x8 .f32} {sm om : Memref sig .scVector .vmem S16x64x8 .f32}
    {csem ssem : DmaSem sig} {ℓc ℓs : Loc nD τ sig} {qc qs : PosShare TreeShare} {fc : Buf (Elt F) ℓc} {fs : Buf (Elt F) ℓs}
    {Sc : Memref sig .scVector .hbm S4096x8 .f32} {Ss : Memref sig .scVector .hbm S16x64x8 .f32}
    {c1 : Sc.view.WordExact} {c2 : ch.view.WordExact} {s1 : Ss.view.WordExact} {s2 : sm.view.WordExact}
    {O : CellTallies nD τ sig (HIx 1)} {W₀ : Waits sig (HIx 1)}
    {l : Scf.Loop 32} {lok : l.OK} (hl16 : l.trips = 16) {L : Fin l.trips → Fin 4 → Nbr} {ii : Fin l.trips → IVec S16 32} {lanes : IVec S16 32}
    {rv : Fin 8 → FVec F S16 .f32} {z : FVec F S16 .f32} {body : Fin l.trips → Unit → TP F i Unit}
    (hbody : ∀ p, body p ⟨⟩ = rowProg K i ib vb ch sm om (L p) (ii p) lanes rv z)
    {g : S4096x8.Idx → F .f32} {I : S16x20x64.Idx → BitVec 32} {V : S16x20x64.Idx → F .f32} {s : S16x64x8.Idx → F .f32} {r : Fin 8 → F .f32}
    (hI : ∀ x, (I x).toNat < 4096) (hl : ∀ p cb, (L p cb).l.trips = 20)
    (ho : ∀ p cb k, (L p cb).off k = ![p.val, k.val, 16 * cb.val])
    (hz : ∀ x, z x = Scalar.ofBits .f32 0x00000000#32)
    (ha : ∀ p x, (ii p x).toNat = p.val) (hlanes : ∀ x, (lanes x).toNat = (x 0).val) (hrv : ∀ c2 x, rv c2 x = r c2)
    {β : Type} {J : TP F i β} {k : β → TP F i α} {R : sProp 𝕄} {Q : α → sProp 𝕄}
    (h : iprop(idle (F := F) (e := .f32) d i ch csem ℓc qc fc ∗ idle (F := F) (e := .f32) d i sm ssem ℓs qs fs ∗ owing d i O W₀ ∗
      holds (F := F) (e := .i32) d i ib I ∗ holds (F := F) (e := .f32) d i vb V ∗ holds (F := F) (e := .f32) d i om (target s r g I V) ∗ R) ⊢ twp d i (J >>= k) Q) :
    iprop(filling (F := F) (e := .f32) d i ch csem ℓc qc fc g ∗ filling (F := F) (e := .f32) d i sm ssem ℓs qs fs s ∗ owing d i O W₀ ∗
      holds (F := F) (e := .i32) d i ib I ∗ holds (F := F) (e := .f32) d i vb V ∗ holdsAny (F := F) (e := .f32) d i om ∗ R)
      ⊢ twp d i ((Prog.lift (.waitDma2 csem Sc ch c1 c2) >>= fun _ => Prog.lift (.waitDma2 ssem Ss sm s1 s2) >>= fun _ =>
          Scf.Loop.for l lok ⟨⟩ body >>= fun _ => J) >>= k) Q := by
  simp only [bind_assoc]
  refine (sep_mono_r pull2).trans ?_
  refine filled_step ?_
  refine pull3.trans ?_
  refine (sep_mono_r pull2).trans ?_
  refine filled_step ?_
  have key : iprop(inputs d i ib vb ch sm I V g s ∗ holdsAny (F := F) (e := .f32) d i om ∗
      (semVal (thr d i, SemLoc.dma csem) 0 ∗ (ℓc ↦{qc} fc) ∗ semVal (thr d i, SemLoc.dma ssem) 0 ∗ (ℓs ↦{qs} fs) ∗ owing d i O W₀ ∗ R))
      ⊢ twp d i (Scf.Loop.for l lok ⟨⟩ body >>= fun _ => J >>= k) Q := by
    refine rows_step hl16 hbody hI hl ho hz ha hlanes hrv ?_
    refine .trans ?_ h
    unfold inputs idle holdsAny
    iintro ⟨⟨HI, HV, Hg, Hs⟩, Ho, Hcv, Hcf, Hsv, Hsf, HO, HR⟩
    isplitl [Hg Hcv Hcf]
    · isplitl [Hg]
      · iexists g; iexact Hg
      isplitl [Hcv]; · iexact Hcv
      iexact Hcf
    isplitl [Hs Hsv Hsf]
    · isplitl [Hs]
      · iexists s; iexact Hs
      isplitl [Hsv]; · iexact Hsv
      iexact Hsf
    isplitl [HO]; · iexact HO
    isplitl [HI]; · iexact HI
    isplitl [HV]; · iexact HV
    isplitl [Ho]; · iexact Ho
    iexact HR
  refine .trans ?_ key
  unfold full inputs
  iintro ⟨⟨Hs, Hsv, Hsf⟩, HO, ⟨Hg, Hcv, Hcf⟩, HI, HV, Ho, HR⟩
  isplitl [HI HV Hg Hs]
  · isplitl [HI]; · iexact HI
    isplitl [HV]; · iexact HV
    isplitl [Hg]; · iexact Hg
    iexact Hs
  isplitl [Ho]; · iexact Ho
  isplitl [Hcv]; · iexact Hcv
  isplitl [Hcf]; · iexact Hcf
  isplitl [Hsv]; · iexact Hsv
  isplitl [Hsf]; · iexact Hsf
  isplitl [HO]; · iexact HO
  iexact HR

/-! ## What a tile holds of the result -/

/-- The tile's part of the result at the slices that `P` names, at the contents `f`. -/
def outS (d : Dev nD) (i : grid0.Coords) (P : ℕ → Prop) [DecidablePred P] (f : S32x64x64x8x8.Idx → F .f32) : sProp 𝕄 :=
  (outM.view.loc (thr d i) ↦[outSet (rg i) (lg i) P]{fullShare} f : sProp 𝕄)

theorem outS_split {P P₁ P₂ : ℕ → Prop} [DecidablePred P] [DecidablePred P₁] [DecidablePred P₂] {f : S32x64x64x8x8.Idx → F .f32}
    (h : ∀ n, P n ↔ P₁ n ∨ P₂ n) (hd : ∀ n, P₁ n → ¬P₂ n) : outS d i P f ⊣⊢ iprop(outS d i P₁ f ∗ outS d i P₂ f) := by
  unfold outS
  have e : outSet (rg i) (lg i) P = outSet (rg i) (lg i) P₁ ∪ outSet (rg i) (lg i) P₂ := by
    ext y
    simp only [outSet, Finset.mem_filter, Finset.mem_union, Finset.mem_univ, true_and, h]
    tauto
  rw [e]
  refine pointsTo_union ?_
  rw [Finset.disjoint_left]
  intro y h1 h2
  simp only [outSet, Finset.mem_filter, Finset.mem_univ, true_and] at h1 h2
  exact hd _ h1.2.2 h2.2.2

theorem outS_congr {P P' : ℕ → Prop} [DecidablePred P] [DecidablePred P'] {f : S32x64x64x8x8.Idx → F .f32} (h : ∀ n, n < 32 → (P n ↔ P' n)) :
    outS d i P f = outS d i P' f := by
  unfold outS
  have e : outSet (rg i) (lg i) P = outSet (rg i) (lg i) P' := by
    ext y
    simp only [outSet, Finset.mem_filter, Finset.mem_univ, true_and, h (y 0).val (y 0).isLt]
  rw [e]

end Cert.Proof.Sc
-- ==== Proof.Steps.lean ====
/-
  The steps of one slice, at the head of a program and beside anything: the fetch of the next slice, the wait for the
  block before, the copy of a block into the result, and the words that the program reads the scales at.
-/
module

public import proofs.«01_k».proof.Proof.Slots

@[expose] public section

noncomputable section

namespace Cert.Proof.Sc

open Cert.KernelIdeal Cert.KernelIdeal.Gen

open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore.Cfg (HIx)

variable {F : FTy → Type}
local notation "𝕄" => MT nD τ sig (HIx 1) (Elt F) ℕ UU ℕ
variable [FloatOps F]

open Idealize.ShloMosaic.Transfers

variable {d : Dev nD} {i : grid0.Coords}

/-- The first chunk buffer while slice `n` is the next to be used or has been asked for. -/
abbrev slot0 (d : Dev nD) (i : grid0.Coords) (q : PosShare TreeShare) (mm : S64x4096x8x8.Idx → F .f32) (n : ℕ) : sProp 𝕄 :=
  slot d i ch0 cc0_scratch7.sem q mm 0 n

/-- The second chunk buffer while slice `n` is the next to be used or has been asked for. -/
abbrev slot1 (d : Dev nD) (i : grid0.Coords) (q : PosShare TreeShare) (mm : S64x4096x8x8.Idx → F .f32) (n : ℕ) : sProp 𝕄 :=
  slot d i ch1 cc0_scratch8.sem q mm 1 n

/-- The slice that the first buffer is at once slice `t + 1` has been asked for. -/
def next0 (t : ℕ) : ℕ := if t % 2 = 0 then t else t + 1
/-- The slice that the second buffer is at once slice `t + 1` has been asked for. -/
def next1 (t : ℕ) : ℕ := if t % 2 = 0 then t + 1 else t

theorem trips_lt (t : Fin k0_t1_loop.trips) : t.val < 32 := t.isLt

/-- The fetch of the slice after `t`. -/
theorem prefetch_step {α : Type} {t : Fin k0_t1_loop.trips} {q0 q1 : PosShare TreeShare} {mm : S64x4096x8x8.Idx → F .f32}
    {a1 : ∀ h : k0_cond1 t = 1#1, (chunkV (k0_off3 i t) (k0_off3_inb i t h)).view.WordExact} {a2 : k0_cond1 t = 1#1 → ch1.view.WordExact}
    {a3 : k0_cond1 t = 1#1 → DmaTarget.Typed (nD := nD) (τ := τ) (p := (thr d i).2) Space.hbm (SemLoc.dma cc0_scratch8.sem) (.here ch1)}
    {b1 : ∀ h : k0_cond2 t = 1#1, (chunkV (k0_off4 i t) (k0_off4_inb i t h)).view.WordExact} {b2 : k0_cond2 t = 1#1 → ch0.view.WordExact}
    {b3 : k0_cond2 t = 1#1 → DmaTarget.Typed (nD := nD) (τ := τ) (p := (thr d i).2) Space.hbm (SemLoc.dma cc0_scratch7.sem) (.here ch0)}
    {β : Type} {J : TP F i β} {k : β → TP F i α} {R : sProp 𝕄} {Q : α → sProp 𝕄}
    (h : iprop(slot0 d i q0 mm (next0 t.val) ∗ slot1 d i q1 mm (next1 t.val) ∗ R) ⊢ twp d i (J >>= k) Q) :
    iprop(slot0 d i q0 mm t.val ∗ slot1 d i q1 mm t.val ∗ R)
      ⊢ twp d i ((if h : k0_cond1 t = 1#1 then
            Prog.lift (.enqueueDma (chunkV (k0_off3 i t) (k0_off3_inb i t h)) (.here ch1) (.dma cc0_scratch8.sem) (a1 h) (a2 h) (a3 h)) >>= fun _ =>
              if h : k0_cond2 t = 1#1 then
                Prog.lift (.enqueueDma (chunkV (k0_off4 i t) (k0_off4_inb i t h)) (.here ch0) (.dma cc0_scratch7.sem) (b1 h) (b2 h) (b3 h)) >>= fun _ => J
              else J
          else if h : k0_cond2 t = 1#1 then
            Prog.lift (.enqueueDma (chunkV (k0_off4 i t) (k0_off4_inb i t h)) (.here ch0) (.dma cc0_scratch7.sem) (b1 h) (b2 h) (b3 h)) >>= fun _ => J
          else J) >>= k) Q := by
  have ht := trips_lt t
  refine dite_step (fun hc1 => ?_) (fun hc1 => ?_)
  · have hp := (cond1_iff t).mp hc1
    rw [bind_assoc]
    refine pull2.trans (fetch_step (n := t.val + 1) (by omega) (by omega) (off3_eq i t hc1) (pull2.trans ?_))
    refine dite_step (fun hc2 => ?_) (fun hc2 => ?_)
    · have := (cond2_iff t).mp hc2; omega
    · unfold next0 next1 at h
      rwa [if_pos hp.1, if_pos hp.1] at h
  · have hp : t.val % 2 = 1 := by
      by_contra hp
      exact hc1 ((cond1_iff t).mpr ⟨by omega, by omega⟩)
    have e0 : next0 t.val = t.val + 1 := if_neg (by omega)
    have e1 : next1 t.val = t.val := if_neg (by omega)
    rw [e0, e1] at h
    refine dite_step (fun hc2 => ?_) (fun hc2 => ?_)
    · have hp2 := (cond2_iff t).mp hc2
      rw [bind_assoc]
      exact fetch_step (n := t.val + 1) (by omega) (by omega) (off4_eq i t hc2) h
    · have h32 : ¬t.val + 1 < 32 := fun hlt => hc2 ((cond2_iff t).mpr ⟨hp, hlt⟩)
      refine .trans ?_ h
      unfold slot0
      rw [slot_idle (by omega), slot_idle (by omega)]

/-! ## The result -/

/-- The block buffer and its semaphore before slice `t`: free at the first, and after that with the block before on its way out. -/
def outHead (d : Dev nD) (i : grid0.Coords) (res : S32x64x64x8x8.Idx → F .f32) (t : ℕ) : sProp 𝕄 :=
  if t = 0 then iprop(holdsAny (F := F) (e := .f32) d i oB ∗ semVal (thr d i, SemLoc.dma cc0_scratch10.sem) 0)
  else draining (F := F) (e := .f32) d i oB cc0_scratch10.sem (outS d i (· = t - 1) res)

theorem out_credit {off : Fin 5 → ℕ} {hin : ∀ a, off a + S1x16x64x1x8.size a ≤ S32x64x64x8x8.size a} {sem : DmaSem sig} :
    (outV off hin).view.dmaCredit = oB.view.amount (SemLoc.dma sem) := rfl

/-- The wait for the block before `n`. -/
theorem landed_step {α : Type} {off : Fin 5 → ℕ} {hin : ∀ a, off a + S1x16x64x1x8.size a ≤ S32x64x64x8x8.size a} {res : S32x64x64x8x8.Idx → F .f32}
    {n : ℕ} (hn : 0 < n) {h1 : oB.view.WordExact} {h2 : (outV off hin).view.WordExact} {O : CellTallies nD τ sig (HIx 1)} {W₀ : Waits sig (HIx 1)}
    {k : PUnit → TP F i α} {R : sProp 𝕄} {Q : α → sProp 𝕄}
    (h : iprop((holdsAny (F := F) (e := .f32) d i oB ∗ semVal (thr d i, SemLoc.dma cc0_scratch10.sem) 0) ∗ outS d i (· < n) res ∗ owing d i O W₀ ∗ R)
      ⊢ twp d i (k ⟨⟩) Q) :
    iprop(outHead d i res n ∗ outS d i (· < n - 1) res ∗ owing d i O W₀ ∗ R)
      ⊢ twp d i (Prog.lift (.waitDma2 cc0_scratch10.sem oB (outV off hin) h1 h2) >>= k) Q := by
  unfold outHead
  rw [if_neg (by omega)]
  refine (sep_mono_r pull2).trans ?_
  refine drained_step out_credit ?_
  refine .trans ?_ h
  iintro ⟨Ho, Hv, H1, HO, H2, HR⟩
  isplitl [Ho Hv]
  · isplitl [Ho]; · iexact Ho
    iexact Hv
  isplitl [H1 H2]
  · iapply (outS_split (d := d) (i := i) (f := res) (P := (· < n)) (P₁ := (· < n - 1)) (P₂ := (· = n - 1)) (fun m => by constructor <;> omega) (fun m => by omega)).2
    isplitl [H2]; · iexact H2
    iexact H1
  isplitl [HO]; · iexact HO
  iexact HR

/-- The wait for the block before slice `t`, when there is one. -/
theorem outwait_step {α : Type} {t : Fin k0_t1_loop.trips} {res : S32x64x64x8x8.Idx → F .f32}
    {a1 : k0_cond3 t = 1#1 → oB.view.WordExact} {a2 : ∀ h : k0_cond3 t = 1#1, (outV (k0_off5 i t) (k0_off5_inb i t h)).view.WordExact}
    {O : CellTallies nD τ sig (HIx 1)} {W₀ : Waits sig (HIx 1)} {β : Type} {J : TP F i β} {k : β → TP F i α} {R : sProp 𝕄} {Q : α → sProp 𝕄}
    (h : iprop((holdsAny (F := F) (e := .f32) d i oB ∗ semVal (thr d i, SemLoc.dma cc0_scratch10.sem) 0) ∗ outS d i (· < t.val) res ∗ owing d i O W₀ ∗ R)
      ⊢ twp d i (J >>= k) Q) :
    iprop(outHead d i res t.val ∗ outS d i (· < t.val - 1) res ∗ owing d i O W₀ ∗ R)
      ⊢ twp d i ((if h : k0_cond3 t = 1#1 then
            Prog.lift (.waitDma2 cc0_scratch10.sem oB (outV (k0_off5 i t) (k0_off5_inb i t h)) (a1 h) (a2 h)) >>= fun _ => J
          else J) >>= k) Q := by
  refine dite_step (fun hc => ?_) (fun hc => ?_)
  · rw [bind_assoc]
    exact landed_step ((cond3_iff t).mp hc) h
  · have h0 : t.val = 0 := by
      by_contra h0
      exact hc ((cond3_iff t).mpr (by omega))
    rw [h0] at h ⊢
    exact h

/-- The copy of the block of slice `n` into the result. -/
theorem store_step {α : Type} {off : Fin 5 → ℕ} {hin : ∀ a, off a + S1x16x64x1x8.size a ≤ S32x64x64x8x8.size a}
    {mm : S64x4096x8x8.Idx → F .f32} {ind : S64x24x64.Idx → BitVec 32} {v : S64x24x64.Idx → F .f32} {r : S64x8x64.Idx → F .f32}
    {src : S64x64x64x8x8.Idx → F .f32} {f0 : S32x64x64x8x8.Idx → F .f32} {n : ℕ} (hn : n < 32) (ho : off = ![n, 16 * (rg i).val, 0, (lg i).val, 0])
    {h1 : oB.view.WordExact} {h2 : (outV off hin).view.WordExact}
    {h3 : DmaTarget.Typed (nD := nD) (τ := τ) (p := (thr d i).2) Space.vmem (SemLoc.dma cc0_scratch10.sem) (.here (outV off hin))}
    {k : PUnit → TP F i α} {R : sProp 𝕄} {Q : α → sProp 𝕄}
    (h : iprop(outHead d i (result mm ind v r src) (n + 1) ∗ outS d i (n + 1 ≤ ·) f0 ∗ R) ⊢ twp d i (k ⟨⟩) Q) :
    iprop(holds (F := F) (e := .f32) d i oB (blockOf mm ind v r src n (rg i) (lg i)) ∗ semVal (thr d i, SemLoc.dma cc0_scratch10.sem) 0 ∗ outS d i (n ≤ ·) f0 ∗ R)
      ⊢ twp d i (Prog.lift (.enqueueDma oB (.here (outV off hin)) (.dma cc0_scratch10.sem) h1 h2 h3) >>= k) Q := by
  have key : iprop(holds (F := F) (e := .f32) d i oB (blockOf mm ind v r src n (rg i) (lg i)) ∗ semVal (thr d i, SemLoc.dma cc0_scratch10.sem) 0 ∗
      ((outV off hin).view.loc (thr d i) ↦[(outV off hin).view.set]{fullShare} f0) ∗ outS d i (n + 1 ≤ ·) f0 ∗ R)
      ⊢ twp d i (Prog.lift (.enqueueDma oB (.here (outV off hin)) (.dma cc0_scratch10.sem) h1 h2 h3) >>= k) Q := by
    refine drain_step (f1 := result mm ind v r src) (by decide) rfl (fun y => out_value hn ho y) ?_
    refine .trans ?_ h
    unfold outHead
    rw [if_neg (by omega), out_set hn ho, show n + 1 - 1 = n from rfl]
    exact Entails.rfl
  refine .trans ?_ key
  rw [out_set hn ho]
  iintro ⟨Ho, Hv, Hout, HR⟩
  ihave Hout := (outS_split (d := d) (i := i) (f := f0) (P := (n ≤ ·)) (P₁ := (· = n)) (P₂ := (n + 1 ≤ ·)) (fun m => by constructor <;> omega) (fun m => by omega)).1 $$ Hout
  icases Hout with ⟨H1, H2⟩
  isplitl [Ho]; · iexact Ho
  isplitl [Hv]; · iexact Hv
  isplitl [H1]; · unfold outS; iexact H1
  isplitl [H2]; · iexact H2
  iexact HR

/-! ## The words that the scales are read at -/

theorem scale_row (t : Fin k0_t1_loop.trips) (x : S16.Idx) : (k0_pay141 k0_pay159 0#32 1#32 t x).toNat = (Fin.ofNat 64 t.val : Fin 64).val := by
  have h : ∀ t : Fin k0_t1_loop.trips, (0#32 + Scf.iv 0#32 1#32 t).toNat = t.val % 64 := by decide +kernel
  exact h t

theorem scale_lane {b : Fin 8} {w : BitVec 32} (hw : w.toNat = 8 * b.val) (c2 : Fin 8) (u : BitVec 32) (hu : u.toNat = c2.val) :
    (0#32 + (w + u)).toNat = (laneIx b c2).val := by
  have hb := b.isLt
  have hc := c2.isLt
  show _ = 8 * b.val + c2.val
  rw [BitVec.toNat_add, BitVec.toNat_add, hw, hu]
  simp only [BitVec.toNat_ofNat]
  omega

end Cert.Proof.Sc
-- ==== Proof.Body.lean ====
/-
  One slice, and the loop over the slices: what a tile holds before each of them, and that the program for a slice takes
  it to what the tile holds before the next.
-/
module

public import proofs.«01_k».proof.Proof.Steps

@[expose] public section

noncomputable section

namespace Cert.Proof.Sc

open Cert.KernelIdeal Cert.KernelIdeal.Gen

open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore.Cfg (HIx)

variable {F : FTy → Type}
local notation "𝕄" => MT nD τ sig (HIx 1) (Elt F) ℕ UU ℕ
variable [FloatOps F]

open Idealize.ShloMosaic.Transfers

variable {d : Dev nD} {i : grid0.Coords}

/-- What a tile holds before slice `t`. -/
def SliceInv (d : Dev nD) (i : grid0.Coords) (mm : S64x4096x8x8.Idx → F .f32) (ind : S64x24x64.Idx → BitVec 32) (v : S64x24x64.Idx → F .f32)
    (r : S64x8x64.Idx → F .f32) (src : S64x64x64x8x8.Idx → F .f32) (f0 : S32x64x64x8x8.Idx → F .f32) (q0 q1 qs : PosShare TreeShare)
    (O : CellTallies nD τ sig (HIx 1)) (W₀ : Waits sig (HIx 1)) (t : ℕ) : sProp 𝕄 :=
  iprop(slot0 d i q0 mm t ∗ slot1 d i q1 mm t ∗ idle (F := F) (e := .f32) d i sB cc0_scratch9.sem (srcM.view.loc (thr d i)) qs src ∗ owing d i O W₀ ∗
    holds (F := F) (e := .i32) d i indB (nbrOf ind (rg i)) ∗ holds (F := F) (e := .f32) d i vB (nbrOf v (rg i)) ∗
    holds (F := F) (e := .f32) d i rB (scaleOf r) ∗ outHead d i (result mm ind v r src) t ∗ outS d i (· < t - 1) (result mm ind v r src) ∗
    outS d i (t ≤ ·) f0 ∗ emp)

/-- What is left of a slice once its block is computed. -/
theorem finish_step {mm : S64x4096x8x8.Idx → F .f32} {ind : S64x24x64.Idx → BitVec 32} {v : S64x24x64.Idx → F .f32}
    {r : S64x8x64.Idx → F .f32} {src : S64x64x64x8x8.Idx → F .f32} {f0 : S32x64x64x8x8.Idx → F .f32} {q0 q1 qs : PosShare TreeShare}
    {O : CellTallies nD τ sig (HIx 1)} {W₀ : Waits sig (HIx 1)} {off : Fin 5 → ℕ} {hin : ∀ a, off a + S1x16x64x1x8.size a ≤ S32x64x64x8x8.size a}
    {t : ℕ} (ht : t < 32) (ho : off = ![t, 16 * (rg i).val, 0, (lg i).val, 0])
    {h1 : oB.view.WordExact} {h2 : (outV off hin).view.WordExact}
    {h3 : DmaTarget.Typed (nD := nD) (τ := τ) (p := (thr d i).2) Space.vmem (SemLoc.dma cc0_scratch10.sem) (.here (outV off hin))} :
    iprop(slot0 d i q0 mm (t + 1) ∗ slot1 d i q1 mm (t + 1) ∗ idle (F := F) (e := .f32) d i sB cc0_scratch9.sem (srcM.view.loc (thr d i)) qs src ∗ owing d i O W₀ ∗
      holds (F := F) (e := .i32) d i indB (nbrOf ind (rg i)) ∗ holds (F := F) (e := .f32) d i vB (nbrOf v (rg i)) ∗
      holds (F := F) (e := .f32) d i rB (scaleOf r) ∗ holds (F := F) (e := .f32) d i oB (blockOf mm ind v r src t (rg i) (lg i)) ∗
      semVal (thr d i, SemLoc.dma cc0_scratch10.sem) 0 ∗ outS d i (· < t) (result mm ind v r src) ∗ outS d i (t ≤ ·) f0 ∗ emp)
      ⊢ twp d i (Prog.lift (.enqueueDma oB (.here (outV off hin)) (.dma cc0_scratch10.sem) h1 h2 h3) >>= fun _ => (pure ⟨⟩ : TP F i PUnit))
        fun _ => SliceInv d i mm ind v r src f0 q0 q1 qs O W₀ (t + 1) := by
  refine .trans ?_ (store_step ht ho (f0 := f0) (mm := mm) (ind := ind) (v := v) (r := r) (src := src) (R := iprop(slot0 d i q0 mm (t + 1) ∗ slot1 d i q1 mm (t + 1) ∗
    idle (F := F) (e := .f32) d i sB cc0_scratch9.sem (srcM.view.loc (thr d i)) qs src ∗ owing d i O W₀ ∗
    holds (F := F) (e := .i32) d i indB (nbrOf ind (rg i)) ∗ holds (F := F) (e := .f32) d i vB (nbrOf v (rg i)) ∗
    holds (F := F) (e := .f32) d i rB (scaleOf r) ∗ outS d i (· < t) (result mm ind v r src) ∗ emp)) ?_)
  · iintro ⟨A1, A2, A3, A4, A5, A6, A7, A8, A9, A10, A11, -⟩
    isplitl [A8]; · iexact A8
    isplitl [A9]; · iexact A9
    isplitl [A11]; · iexact A11
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A10]; · iexact A10
    iempintro
  · refine .trans ?_ twp_pure
    unfold SliceInv
    iintro ⟨B1, B2, A1, A2, A3, A4, A5, A6, A7, A9, -⟩
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [B1]; · iexact B1
    isplitl [A9]; · iexact A9
    isplitl [B2]; · iexact B2
    iempintro

theorem rows_word {l : Scf.Loop 32} (h : ∀ p : Fin l.trips, (0#32 + Scf.iv 0#32 1#32 p).toNat = p.val) (p : Fin l.trips) (x : S16.Idx) :
    (addi (k0_pay159 : IVec S16 32) (broadcast S16 (Scf.iv 0#32 1#32 p)) x).toNat = p.val := h p

theorem nbr0_off (t : Fin k0_t1_loop.trips) (h : k0_cond4 t = 1#1) (p : Fin k0_t2_loop.trips) (cb : Fin 4) (n) :
    (nbr0 t h p cb).off n = ![p.val, n.val, 16 * cb.val] := by
  match cb with
  | 0 => exact k0_off9_eq p n
  | 1 => exact k0_off10_eq p n
  | 2 => exact k0_off11_eq p n
  | 3 => exact k0_off12_eq p n

theorem nbr1_off (t : Fin k0_t1_loop.trips) (h : k0_cond5 t = 1#1) (p : Fin k0_t7_loop.trips) (cb : Fin 4) (n) :
    (nbr1 t h p cb).off n = ![p.val, n.val, 16 * cb.val] := by
  match cb with
  | 0 => exact k0_off15_eq p n
  | 1 => exact k0_off16_eq p n
  | 2 => exact k0_off17_eq p n
  | 3 => exact k0_off18_eq p n

theorem loop_trips {l : Scf.Loop 32} (h : Scf.trips l.lb l.ub l.st = 20) : l.trips = 20 := h

theorem nbr0_trips (t : Fin k0_t1_loop.trips) (h : k0_cond4 t = 1#1) (p : Fin k0_t2_loop.trips) (cb : Fin 4) : (nbr0 t h p cb).l.trips = 20 := by
  match cb with
  | 0 => exact loop_trips (l := k0_t3_loop) (by decide +kernel)
  | 1 => exact loop_trips (l := k0_t4_loop) (by decide +kernel)
  | 2 => exact loop_trips (l := k0_t5_loop) (by decide +kernel)
  | 3 => exact loop_trips (l := k0_t6_loop) (by decide +kernel)

theorem nbr1_trips (t : Fin k0_t1_loop.trips) (h : k0_cond5 t = 1#1) (p : Fin k0_t7_loop.trips) (cb : Fin 4) : (nbr1 t h p cb).l.trips = 20 := by
  match cb with
  | 0 => exact loop_trips (l := k0_t8_loop) (by decide +kernel)
  | 1 => exact loop_trips (l := k0_t9_loop) (by decide +kernel)
  | 2 => exact loop_trips (l := k0_t10_loop) (by decide +kernel)
  | 3 => exact loop_trips (l := k0_t11_loop) (by decide +kernel)

theorem rv_const {r0 r1 r2 r3 r4 r5 r6 r7 : F .f32} {g : Fin 8 → F .f32} (h : ![r0, r1, r2, r3, r4, r5, r6, r7] = g) (c2 : Fin 8) (x : S16.Idx) :
    (![fun _ => r0, fun _ => r1, fun _ => r2, fun _ => r3, fun _ => r4, fun _ => r5, fun _ => r6, fun _ => r7] : Fin 8 → FVec F S16 .f32) c2 x = g c2 := by
  subst h
  match c2 with
  | 0 => rfl
  | 1 => rfl
  | 2 => rfl
  | 3 => rfl
  | 4 => rfl
  | 5 => rfl
  | 6 => rfl
  | 7 => rfl

theorem lanes_val (x : S16.Idx) : ((iota .scVector S16 32 [0] iota_S16_d0_w32_scVector : IVec S16 32) x).toNat = (x 0).val := by
  have h : ∀ y : Fin 16, ((iota .scVector S16 32 [0] iota_S16_d0_w32_scVector : IVec S16 32) (ix1 y)).toNat = y.val := by decide +kernel
  have := h (x 0)
  rwa [show (ix1 (x 0) : S16.Idx) = x from (eq_ix1 x).symm] at this

set_option maxRecDepth 65536 in
/-- The first part of a slice: the next slice is asked for, the block before has landed, and the seeds are asked for. -/
theorem begin_step {α : Type} {mm : S64x4096x8x8.Idx → F .f32} {src : S64x64x64x8x8.Idx → F .f32} {res : S32x64x64x8x8.Idx → F .f32}
    {q0 q1 qs : PosShare TreeShare} {O : CellTallies nD τ sig (HIx 1)} {W₀ : Waits sig (HIx 1)} {w : BitVec 32}
    {t : Fin k0_t1_loop.trips} {k : (Σ' (_ : BitVec 32) (_ : IVec S16 32), IVec S16 32) → TP F i α} {R : sProp 𝕄} {Q : α → sProp 𝕄}
    (h : ∀ u, iprop(filling (F := F) (e := .f32) d i sB cc0_scratch9.sem (srcM.view.loc (thr d i)) qs src (seedOf src t.val (rg i) (lg i)) ∗
        (holdsAny (F := F) (e := .f32) d i oB ∗ semVal (thr d i, SemLoc.dma cc0_scratch10.sem) 0) ∗ outS d i (· < t.val) res ∗ owing d i O W₀ ∗
        slot0 d i q0 mm (next0 t.val) ∗ slot1 d i q1 mm (next1 t.val) ∗ R)
      ⊢ twp d i (k ⟨u, k0_pay141 k0_pay159 0#32 1#32 t, k0_pay142 w k0_pay159⟩) Q) :
    iprop(slot0 d i q0 mm t.val ∗ slot1 d i q1 mm t.val ∗ idle (F := F) (e := .f32) d i sB cc0_scratch9.sem (srcM.view.loc (thr d i)) qs src ∗
        owing d i O W₀ ∗ outHead d i res t.val ∗ outS d i (· < t.val - 1) res ∗ R)
      ⊢ twp d i (k0_part17 i memM (Memref.isWhole_whole _) indM (Memref.isWhole_whole _) vM (Memref.isWhole_whole _) rM (Memref.isWhole_whole _) srcM (Memref.isWhole_whole _) outM (Memref.isWhole_whole _) ch0 (Memref.isWhole_whole _) ch1 (Memref.isWhole_whole _) indB (Memref.isWhole_whole _) vB (Memref.isWhole_whole _) rB (Memref.isWhole_whole _) sB (Memref.isWhole_whole _) oB (Memref.isWhole_whole _) cc0_scratch7 cc0_scratch8 cc0_scratch9 cc0_scratch10 cc0_scoped0 cc0_scoped1 cc0_scoped2 w k0_pay159 0#32 1#32 t >>= k) Q := by
  have ht := trips_lt t
  simp only [k0_part17_eq_skeleton, k0_part17_skel, pure_bind]
  refine prefetch_step (F := F) (d := d) (i := i) (t := t) (q0 := q0) (q1 := q1) (mm := mm) ?_
  refine .trans ?p1 (outwait_step (F := F) (d := d) (i := i) (t := t) (res := res) (O := O) (W₀ := W₀) (R := iprop(
    idle (F := F) (e := .f32) d i sB cc0_scratch9.sem (srcM.view.loc (thr d i)) qs src ∗
    slot0 d i q0 mm (next0 t.val) ∗ slot1 d i q1 mm (next1 t.val) ∗ R)) ?_)
  case p1 =>
    iintro ⟨A1, A2, A3, A4, A5, A6, HR⟩
    isplitl [A5]; · iexact A5
    isplitl [A6]; · iexact A6
    isplitl [A4]; · iexact A4
    isplitl [A3]; · iexact A3
    isplitl [A1]; · iexact A1
    isplitl [A2]; · iexact A2
    iexact HR
  rw [bind_assoc]
  refine pull4.trans (fill_step (S := seedV (k0_off6 i t) (k0_off6_inb i t)) (M := sB) (by decide) (seed_read (R := rg i) (b := lg i) (by omega) (off6_eq i t)) ?_)
  rw [pure_bind]
  exact h _

set_option maxRecDepth 65536 in
/-- The second part of a slice: the scales are read, the chunk and the seeds have come, and the block is computed. -/
theorem middle_step {α : Type} {mm : S64x4096x8x8.Idx → F .f32} {ind : S64x24x64.Idx → BitVec 32} {v : S64x24x64.Idx → F .f32}
    {r : S64x8x64.Idx → F .f32} {src : S64x64x64x8x8.Idx → F .f32}
    {q0 q1 qs : PosShare TreeShare} {O : CellTallies nD τ sig (HIx 1)} {W₀ : Waits sig (HIx 1)} (hI : ∀ x, (ind x).toNat < 4096)
    {w u : BitVec 32} (hw : w.toNat = 8 * (lg i).val)
    {t : Fin k0_t1_loop.trips} {k : PUnit → TP F i α} {R : sProp 𝕄} {Q : α → sProp 𝕄}
    (h : iprop(slot0 d i q0 mm (t.val + 1) ∗ slot1 d i q1 mm (t.val + 1) ∗ idle (F := F) (e := .f32) d i sB cc0_scratch9.sem (srcM.view.loc (thr d i)) qs src ∗
        owing d i O W₀ ∗ holds (F := F) (e := .i32) d i indB (nbrOf ind (rg i)) ∗ holds (F := F) (e := .f32) d i vB (nbrOf v (rg i)) ∗
        holds (F := F) (e := .f32) d i oB (blockOf mm ind v r src t (rg i) (lg i)) ∗ holds (F := F) (e := .f32) d i rB (scaleOf r) ∗ R)
      ⊢ twp d i (k ⟨⟩) Q) :
    iprop(holds (F := F) (e := .f32) d i rB (scaleOf r) ∗ slot0 d i q0 mm (next0 t.val) ∗ slot1 d i q1 mm (next1 t.val) ∗
        filling (F := F) (e := .f32) d i sB cc0_scratch9.sem (srcM.view.loc (thr d i)) qs src (seedOf src t.val (rg i) (lg i)) ∗
        owing d i O W₀ ∗ holds (F := F) (e := .i32) d i indB (nbrOf ind (rg i)) ∗ holds (F := F) (e := .f32) d i vB (nbrOf v (rg i)) ∗
        holdsAny (F := F) (e := .f32) d i oB ∗ R)
      ⊢ twp d i (k0_part18 i memM (Memref.isWhole_whole _) indM (Memref.isWhole_whole _) vM (Memref.isWhole_whole _) rM (Memref.isWhole_whole _) srcM (Memref.isWhole_whole _) outM (Memref.isWhole_whole _) ch0 (Memref.isWhole_whole _) ch1 (Memref.isWhole_whole _) indB (Memref.isWhole_whole _) vB (Memref.isWhole_whole _) rB (Memref.isWhole_whole _) sB (Memref.isWhole_whole _) oB (Memref.isWhole_whole _) cc0_scratch7 cc0_scratch8 cc0_scratch9 cc0_scratch10 cc0_scoped0 cc0_scoped1 cc0_scoped2 w (iota .scVector S16 32 [0] iota_S16_d0_w32_scVector) k0_pay158 k0_pay159 t u
          (k0_pay141 k0_pay159 0#32 1#32 t) (k0_pay142 w k0_pay159) >>= k) Q := by
  have ht := trips_lt t
  have hI' : ∀ x, (nbrOf ind (rg i) x).toNat < 4096 := fun x => hI _
  have hr := scale_row t
  simp only [k0_part18_eq_skeleton, k0_part18_skel, bind_assoc, pure_bind]
  refine scale_step (Fin.ofNat 64 t.val) (laneIx (lg i) 0) hr (fun _ => scale_lane hw 0 0#32 rfl) (fun h => h) ?_
  refine scale_step (Fin.ofNat 64 t.val) (laneIx (lg i) 1) hr (fun _ => scale_lane hw 1 1#32 rfl) (fun h => h) ?_
  refine scale_step (Fin.ofNat 64 t.val) (laneIx (lg i) 2) hr (fun _ => scale_lane hw 2 2#32 rfl) (fun h => h) ?_
  refine scale_step (Fin.ofNat 64 t.val) (laneIx (lg i) 3) hr (fun _ => scale_lane hw 3 3#32 rfl) (fun h => h) ?_
  refine scale_step (Fin.ofNat 64 t.val) (laneIx (lg i) 4) hr (fun _ => scale_lane hw 4 4#32 rfl) (fun h => h) ?_
  refine scale_step (Fin.ofNat 64 t.val) (laneIx (lg i) 5) hr (fun _ => scale_lane hw 5 5#32 rfl) (fun h => h) ?_
  refine scale_step (Fin.ofNat 64 t.val) (laneIx (lg i) 6) hr (fun _ => scale_lane hw 6 6#32 rfl) (fun h => h) ?_
  refine scale_step (Fin.ofNat 64 t.val) (laneIx (lg i) 7) hr (fun _ => scale_lane hw 7 7#32 rfl) (fun h => h) ?_
  have hrv : ![scaleOf r (ix2 (Fin.ofNat 64 t.val) (laneIx (lg i) 0)), scaleOf r (ix2 (Fin.ofNat 64 t.val) (laneIx (lg i) 1)),
      scaleOf r (ix2 (Fin.ofNat 64 t.val) (laneIx (lg i) 2)), scaleOf r (ix2 (Fin.ofNat 64 t.val) (laneIx (lg i) 3)),
      scaleOf r (ix2 (Fin.ofNat 64 t.val) (laneIx (lg i) 4)), scaleOf r (ix2 (Fin.ofNat 64 t.val) (laneIx (lg i) 5)),
      scaleOf r (ix2 (Fin.ofNat 64 t.val) (laneIx (lg i) 6)), scaleOf r (ix2 (Fin.ofNat 64 t.val) (laneIx (lg i) 7))]
      = fun c2 => scaleOf r (ix2 (Fin.ofNat 64 t.val) (laneIx (lg i) c2)) := funext fun c2 => by
    match c2 with
    | 0 => rfl
    | 1 => rfl
    | 2 => rfl
    | 3 => rfl
    | 4 => rfl
    | 5 => rfl
    | 6 => rfl
    | 7 => rfl
  by_cases hp : t.val % 2 = 0
  · have e0 : next0 t.val = t.val := if_pos hp
    have e1 : next1 t.val = t.val + 1 := if_pos hp
    rw [e0, e1]
    have hx : slot0 d i q0 mm (t.val + 1) = idle (F := F) (e := .f32) d i ch0 cc0_scratch7.sem (memM.view.loc (thr d i)) q0 mm := slot_idle (by omega)
    have hy : slot0 d i q0 mm t.val = filling (F := F) (e := .f32) d i ch0 cc0_scratch7.sem (memM.view.loc (thr d i)) q0 mm (chunkOf mm t.val (lg i)) := slot_filling (by omega)
    rw [hy]
    rw [hx] at h
    refine dite_step (fun h4 => ?_) (fun h4 => absurd ((cond4_iff t).mpr hp) h4)
    refine .trans ?_ (compute_step (F := F) (d := d) (i := i) (g := chunkOf mm t.val (lg i)) (V := nbrOf v (rg i)) (s := seedOf src t.val (rg i) (lg i))
      (ℓc := memM.view.loc (thr d i)) (ℓs := srcM.view.loc (thr d i)) (qc := q0) (qs := qs) (fc := mm) (fs := src) (O := O) (W₀ := W₀)
      (by decide +kernel) (fun p => rows0_eq _ _ _ _ _ _ _ _ _ _ _ _ _ _ _ _ _ h4 p) hI' (nbr0_trips t h4)
      (nbr0_off t h4) (fun _ => rfl) (rows_word (by decide +kernel)) lanes_val (rv_const hrv)
      (R := iprop(slot1 d i q1 mm (t.val + 1) ∗ holds (F := F) (e := .f32) d i rB (scaleOf r) ∗ R)) ?_)
    · iintro ⟨AR, A0, A1, As, AO, AI, AV, Ao, HR⟩
      isplitl [A0]; · iexact A0
      isplitl [As]; · iexact As
      isplitl [AO]; · iexact AO
      isplitl [AI]; · iexact AI
      isplitl [AV]; · iexact AV
      isplitl [Ao]; · iexact Ao
      isplitl [A1]; · iexact A1
      isplitl [AR]; · iexact AR
      iexact HR
    · refine dite_step (fun h5 => ?_) (fun _ => ?_)
      · have := (cond5_iff t).mp h5; omega
      rw [pure_bind]
      refine .trans ?_ h
      iintro ⟨A0, As, AO, AI, AV, Ao, A1, AR, HR⟩
      isplitl [A0]; · iexact A0
      isplitl [A1]; · iexact A1
      isplitl [As]; · iexact As
      isplitl [AO]; · iexact AO
      isplitl [AI]; · iexact AI
      isplitl [AV]; · iexact AV
      isplitl [Ao]; · iexact Ao
      isplitl [AR]; · iexact AR
      iexact HR
  · have e0 : next0 t.val = t.val + 1 := if_neg hp
    have e1 : next1 t.val = t.val := if_neg hp
    rw [e0, e1]
    have hx : slot1 d i q1 mm (t.val + 1) = idle (F := F) (e := .f32) d i ch1 cc0_scratch8.sem (memM.view.loc (thr d i)) q1 mm := slot_idle (by omega)
    have hy : slot1 d i q1 mm t.val = filling (F := F) (e := .f32) d i ch1 cc0_scratch8.sem (memM.view.loc (thr d i)) q1 mm (chunkOf mm t.val (lg i)) := slot_filling (by omega)
    rw [hy]
    rw [hx] at h
    refine dite_step (fun h4 => absurd ((cond4_iff t).mp h4) hp) (fun _ => ?_)
    refine dite_step (fun h5 => ?_) (fun h5 => absurd ((cond5_iff t).mpr (by omega)) h5)
    refine .trans ?_ (compute_step (F := F) (d := d) (i := i) (g := chunkOf mm t.val (lg i)) (V := nbrOf v (rg i)) (s := seedOf src t.val (rg i) (lg i))
      (ℓc := memM.view.loc (thr d i)) (ℓs := srcM.view.loc (thr d i)) (qc := q1) (qs := qs) (fc := mm) (fs := src) (O := O) (W₀ := W₀)
      (by decide +kernel) (fun p => rows1_eq _ _ _ _ _ _ _ _ _ _ _ _ _ _ _ _ _ h5 p) hI' (nbr1_trips t h5)
      (nbr1_off t h5) (fun _ => rfl) (rows_word (by decide +kernel)) lanes_val (rv_const hrv)
      (R := iprop(slot0 d i q0 mm (t.val + 1) ∗ holds (F := F) (e := .f32) d i rB (scaleOf r) ∗ R)) ?_)
    · iintro ⟨AR, A0, A1, As, AO, AI, AV, Ao, HR⟩
      isplitl [A1]; · iexact A1
      isplitl [As]; · iexact As
      isplitl [AO]; · iexact AO
      isplitl [AI]; · iexact AI
      isplitl [AV]; · iexact AV
      isplitl [Ao]; · iexact Ao
      isplitl [A0]; · iexact A0
      isplitl [AR]; · iexact AR
      iexact HR
    · rw [pure_bind]
      refine .trans ?_ h
      iintro ⟨A1, As, AO, AI, AV, Ao, A0, AR, HR⟩
      isplitl [A0]; · iexact A0
      isplitl [A1]; · iexact A1
      isplitl [As]; · iexact As
      isplitl [AO]; · iexact AO
      isplitl [AI]; · iexact AI
      isplitl [AV]; · iexact AV
      isplitl [Ao]; · iexact Ao
      isplitl [AR]; · iexact AR
      iexact HR

set_option maxRecDepth 65536 in
/-- The program for slice `t`. -/
theorem slice_step (mm : S64x4096x8x8.Idx → F .f32) (ind : S64x24x64.Idx → BitVec 32) (v : S64x24x64.Idx → F .f32)
    (r : S64x8x64.Idx → F .f32) (src : S64x64x64x8x8.Idx → F .f32) (f0 : S32x64x64x8x8.Idx → F .f32) (q0 q1 qs : PosShare TreeShare)
    (O : CellTallies nD τ sig (HIx 1)) (W₀ : Waits sig (HIx 1)) (hI : ∀ x, (ind x).toNat < 4096) {w : BitVec 32} (hw : w.toNat = 8 * (lg i).val)
    (t : Fin k0_t1_loop.trips) :
    SliceInv d i mm ind v r src f0 q0 q1 qs O W₀ t.val
      ⊢ twp d i (k0_t1_body i memM (Memref.isWhole_whole _) indM (Memref.isWhole_whole _) vM (Memref.isWhole_whole _) rM (Memref.isWhole_whole _) srcM (Memref.isWhole_whole _) outM (Memref.isWhole_whole _) ch0 (Memref.isWhole_whole _) ch1 (Memref.isWhole_whole _) indB (Memref.isWhole_whole _) vB (Memref.isWhole_whole _) rB (Memref.isWhole_whole _) sB (Memref.isWhole_whole _) oB (Memref.isWhole_whole _) cc0_scratch7 cc0_scratch8 cc0_scratch9 cc0_scratch10 cc0_scoped0 cc0_scoped1 cc0_scoped2 w (iota .scVector S16 32 [0] iota_S16_d0_w32_scVector) t ⟨⟩)
        fun _ => SliceInv d i mm ind v r src f0 q0 q1 qs O W₀ (t.val + 1) := by
  have key : iprop(slot0 d i q0 mm t.val ∗ slot1 d i q1 mm t.val ∗ idle (F := F) (e := .f32) d i sB cc0_scratch9.sem (srcM.view.loc (thr d i)) qs src ∗
      owing d i O W₀ ∗ outHead d i (result mm ind v r src) t.val ∗ outS d i (· < t.val - 1) (result mm ind v r src) ∗
      (holds (F := F) (e := .i32) d i indB (nbrOf ind (rg i)) ∗ holds (F := F) (e := .f32) d i vB (nbrOf v (rg i)) ∗
        holds (F := F) (e := .f32) d i rB (scaleOf r) ∗ outS d i (t.val ≤ ·) f0))
      ⊢ twp d i (k0_t1_body i memM (Memref.isWhole_whole _) indM (Memref.isWhole_whole _) vM (Memref.isWhole_whole _) rM (Memref.isWhole_whole _) srcM (Memref.isWhole_whole _) outM (Memref.isWhole_whole _) ch0 (Memref.isWhole_whole _) ch1 (Memref.isWhole_whole _) indB (Memref.isWhole_whole _) vB (Memref.isWhole_whole _) rB (Memref.isWhole_whole _) sB (Memref.isWhole_whole _) oB (Memref.isWhole_whole _) cc0_scratch7 cc0_scratch8 cc0_scratch9 cc0_scratch10 cc0_scoped0 cc0_scoped1 cc0_scoped2 w (iota .scVector S16 32 [0] iota_S16_d0_w32_scVector) t ⟨⟩)
        fun _ => SliceInv d i mm ind v r src f0 q0 q1 qs O W₀ (t.val + 1) := by
    unfold k0_t1_body
    refine begin_step fun u => ?_
    refine .trans ?p1 (middle_step (F := F) (d := d) (i := i) (mm := mm) (ind := ind) (v := v) (r := r) (src := src) (q0 := q0) (q1 := q1) (qs := qs)
      (O := O) (W₀ := W₀) hI hw (R := iprop(semVal (thr d i, SemLoc.dma cc0_scratch10.sem) 0 ∗ outS d i (· < t.val) (result mm ind v r src) ∗ outS d i (t.val ≤ ·) f0)) ?_)
    case p1 =>
      iintro ⟨As, ⟨Ao, Av⟩, Ad, AO, A0, A1, AI, AV, AR, At⟩
      isplitl [AR]; · iexact AR
      isplitl [A0]; · iexact A0
      isplitl [A1]; · iexact A1
      isplitl [As]; · iexact As
      isplitl [AO]; · iexact AO
      isplitl [AI]; · iexact AI
      isplitl [AV]; · iexact AV
      isplitl [Ao]; · iexact Ao
      isplitl [Av]; · iexact Av
      isplitl [Ad]; · iexact Ad
      iexact At
    refine .trans ?p2 (finish_step (trips_lt t) (off19_eq i t))
    iintro ⟨A0, A1, As, AO, AI, AV, Ao, AR, Av, Ad, At⟩
    isplitl [A0]; · iexact A0
    isplitl [A1]; · iexact A1
    isplitl [As]; · iexact As
    isplitl [AO]; · iexact AO
    isplitl [AI]; · iexact AI
    isplitl [AV]; · iexact AV
    isplitl [AR]; · iexact AR
    isplitl [Ao]; · iexact Ao
    isplitl [Av]; · iexact Av
    isplitl [Ad]; · iexact Ad
    isplitl [At]; · iexact At
    iempintro
  refine .trans ?_ key
  unfold SliceInv
  iintro ⟨A0, A1, As, AO, AI, AV, AR, Ah, Ad, At, -⟩
  isplitl [A0]; · iexact A0
  isplitl [A1]; · iexact A1
  isplitl [As]; · iexact As
  isplitl [AO]; · iexact AO
  isplitl [Ah]; · iexact Ah
  isplitl [Ad]; · iexact Ad
  isplitl [AI]; · iexact AI
  isplitl [AV]; · iexact AV
  isplitl [AR]; · iexact AR
  iexact At

end Cert.Proof.Sc
-- ==== Proof.Tile.lean ====
/-
  The whole program of one tile: from its buffers at rest, its shares of the arguments and its part of the result at any
  contents, to the same with its part of the result computed.
-/
module

public import proofs.«01_k».proof.Proof.Body

@[expose] public section

noncomputable section

namespace Cert.Proof.Sc

open Cert.KernelIdeal Cert.KernelIdeal.Gen

open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore.Cfg (HIx)

variable {F : FTy → Type}
local notation "𝕄" => MT nD τ sig (HIx 1) (Elt F) ℕ UU ℕ
variable [FloatOps F]

open Idealize.ShloMosaic.Transfers

variable {d : Dev nD} {i : grid0.Coords}

/-- What a tile holds at rest, with its part of the result at `f`. -/
def Rest (d : Dev nD) (i : grid0.Coords) (mm : S64x4096x8x8.Idx → F .f32) (ind : S64x24x64.Idx → BitVec 32) (v : S64x24x64.Idx → F .f32)
    (r : S64x8x64.Idx → F .f32) (src : S64x64x64x8x8.Idx → F .f32) (f : S32x64x64x8x8.Idx → F .f32) (q0 q1 qi qv qr qs : PosShare TreeShare)
    (O : CellTallies nD τ sig (HIx 1)) (W₀ : Waits sig (HIx 1)) : sProp 𝕄 :=
  iprop(idle (F := F) (e := .f32) d i ch0 cc0_scratch7.sem (memM.view.loc (thr d i)) q0 mm ∗
    idle (F := F) (e := .f32) d i ch1 cc0_scratch8.sem (memM.view.loc (thr d i)) q1 mm ∗
    idle (F := F) (e := .f32) d i sB cc0_scratch9.sem (srcM.view.loc (thr d i)) qs src ∗
    owing d i O W₀ ∗
    idle (F := F) (e := .i32) d i indB cc0_scoped0.sem (indM.view.loc (thr d i)) qi ind ∗
    idle (F := F) (e := .f32) d i vB cc0_scoped1.sem (vM.view.loc (thr d i)) qv v ∗
    idle (F := F) (e := .f32) d i rB cc0_scoped2.sem (rM.view.loc (thr d i)) qr r ∗
    (holdsAny (F := F) (e := .f32) d i oB ∗ semVal (thr d i, SemLoc.dma cc0_scratch10.sem) 0) ∗
    outS d i (fun _ => True) f)

/-- The word that the program computes for eight times a tile's lane group. -/
def laneWord (i : grid0.Coords) : BitVec 32 :=
  let v1 : BitVec 32 := Scalar.addi (Scalar.muli (BitVec.ofNat 32 (i 1).val) 2#32) (BitVec.ofNat 32 (i 0).val)
  let v3 : BitVec 32 := Scalar.select (Scalar.cmpi .eq 8#32 0#32) 1#32 8#32
  let v4 : BitVec 32 := Scalar.remsi v1 v3
  Scalar.muli (Scalar.select (Scalar.andi (Scalar.xori (Scalar.cmpi .slt v4 0#32) (Scalar.cmpi .slt v3 0#32)) (Scalar.cmpi .ne v4 0#32)) (Scalar.addi v4 v3) v4) 8#32

set_option maxRecDepth 100000 in
theorem laneWord_val : ∀ i, (laneWord i).toNat = 8 * (lg i).val := forall_coords (by decide +kernel)

/-- The loop over the slices, at the head of a program. -/
theorem slices_step {α : Type} {mm : S64x4096x8x8.Idx → F .f32} {ind : S64x24x64.Idx → BitVec 32} {v : S64x24x64.Idx → F .f32}
    {r : S64x8x64.Idx → F .f32} {src : S64x64x64x8x8.Idx → F .f32} {f0 : S32x64x64x8x8.Idx → F .f32} {q0 q1 qs : PosShare TreeShare}
    {O : CellTallies nD τ sig (HIx 1)} {W₀ : Waits sig (HIx 1)} (hI : ∀ x, (ind x).toNat < 4096) {w : BitVec 32} (hw : w.toNat = 8 * (lg i).val)
    {k : Unit → TP F i α} {R : sProp 𝕄} {Q : α → sProp 𝕄}
    (h : iprop(SliceInv d i mm ind v r src f0 q0 q1 qs O W₀ 32 ∗ R) ⊢ twp d i (k ⟨⟩) Q) :
    iprop(SliceInv d i mm ind v r src f0 q0 q1 qs O W₀ 0 ∗ R)
      ⊢ twp d i (Scf.Loop.for k0_t1_loop k0_t1_ok ⟨⟩ (k0_t1_body i memM (Memref.isWhole_whole _) indM (Memref.isWhole_whole _) vM (Memref.isWhole_whole _) rM (Memref.isWhole_whole _) srcM (Memref.isWhole_whole _) outM (Memref.isWhole_whole _) ch0 (Memref.isWhole_whole _) ch1 (Memref.isWhole_whole _) indB (Memref.isWhole_whole _) vB (Memref.isWhole_whole _) rB (Memref.isWhole_whole _) sB (Memref.isWhole_whole _) oB (Memref.isWhole_whole _) cc0_scratch7 cc0_scratch8 cc0_scratch9 cc0_scratch10 cc0_scoped0 cc0_scoped1 cc0_scoped2 w (iota .scVector S16 32 [0] iota_S16_d0_w32_scVector)) >>= k) Q := by
  refine .trans ?_ twp_bind
  unfold Scf.Loop.for
  iintro ⟨HI, HR⟩
  iapply (Scf.wp_for frame (wpE (defs₀ (F := F)) 𝒱₀ (thr d i) none) Set.univ k0_t1_loop.lb k0_t1_loop.ub k0_t1_loop.st k0_t1_ok ⟨⟩
    (k0_t1_body i memM (Memref.isWhole_whole _) indM (Memref.isWhole_whole _) vM (Memref.isWhole_whole _) rM (Memref.isWhole_whole _) srcM (Memref.isWhole_whole _) outM (Memref.isWhole_whole _) ch0 (Memref.isWhole_whole _) ch1 (Memref.isWhole_whole _) indB (Memref.isWhole_whole _) vB (Memref.isWhole_whole _) rB (Memref.isWhole_whole _) sB (Memref.isWhole_whole _) oB (Memref.isWhole_whole _) cc0_scratch7 cc0_scratch8 cc0_scratch9 cc0_scratch10 cc0_scoped0 cc0_scoped1 cc0_scoped2 w (iota .scVector S16 32 [0] iota_S16_d0_w32_scVector))
    (fun n _ => SliceInv d i mm ind v r src f0 q0 q1 qs O W₀ n) (fun t _ => slice_step mm ind v r src f0 q0 q1 qs O W₀ hI hw t))
  isplitl [HI]; · iexact HI
  iintro %q HI
  iapply h
  isplitl [HI]; · iexact HI
  iexact HR

/-- The semaphores of the three whole copies and the shares they read. -/
def Sources (d : Dev nD) (i : grid0.Coords) (ind : S64x24x64.Idx → BitVec 32) (v : S64x24x64.Idx → F .f32) (r : S64x8x64.Idx → F .f32)
    (qi qv qr : PosShare TreeShare) : sProp 𝕄 :=
  iprop((semVal (thr d i, SemLoc.dma cc0_scoped0.sem) 0 ∗ (indM.view.loc (thr d i) ↦{qi} ind)) ∗
    (semVal (thr d i, SemLoc.dma cc0_scoped1.sem) 0 ∗ (vM.view.loc (thr d i) ↦{qv} v)) ∗
    semVal (thr d i, SemLoc.dma cc0_scoped2.sem) 0 ∗ (rM.view.loc (thr d i) ↦{qr} r))

variable (mm : S64x4096x8x8.Idx → F .f32) (ind : S64x24x64.Idx → BitVec 32) (v : S64x24x64.Idx → F .f32)
    (r : S64x8x64.Idx → F .f32) (src : S64x64x64x8x8.Idx → F .f32) (f0 : S32x64x64x8x8.Idx → F .f32) (q0 q1 qi qv qr qs : PosShare TreeShare)
    (O : CellTallies nD τ sig (HIx 1)) (W₀ : Waits sig (HIx 1))

/-- What the copies in front of the loop leave is what the loop starts from. -/
theorem start : iprop(filling (F := F) (e := .f32) d i ch0 cc0_scratch7.sem (memM.view.loc (thr d i)) q0 mm (chunkOf mm 0 (lg i)) ∗
      full (F := F) (e := .f32) d i rB cc0_scoped2.sem (rM.view.loc (thr d i)) qr r (scaleOf r) ∗ owing d i O W₀ ∗
      full (F := F) (e := .i32) d i indB cc0_scoped0.sem (indM.view.loc (thr d i)) qi ind (nbrOf ind (rg i)) ∗
      full (F := F) (e := .f32) d i vB cc0_scoped1.sem (vM.view.loc (thr d i)) qv v (nbrOf v (rg i)) ∗
      idle (F := F) (e := .f32) d i ch1 cc0_scratch8.sem (memM.view.loc (thr d i)) q1 mm ∗
      idle (F := F) (e := .f32) d i sB cc0_scratch9.sem (srcM.view.loc (thr d i)) qs src ∗
      (holdsAny (F := F) (e := .f32) d i oB ∗ semVal (thr d i, SemLoc.dma cc0_scratch10.sem) 0) ∗ outS d i (fun _ => True) f0)
    ⊢ iprop(SliceInv d i mm ind v r src f0 q0 q1 qs O W₀ 0 ∗ Sources d i ind v r qi qv qr) := by
  unfold SliceInv Sources slot0 slot1
  rw [slot_filling (by decide), slot_idle (by decide)]
  have hT : outS d i (fun _ => True) f0 ⊢ iprop(outS d i (0 ≤ ·) f0) := by
    rw [outS_congr (P' := (0 ≤ ·)) (fun n _ => by simp)]
  have hN : (iprop(emp) : sProp 𝕄) ⊢ iprop(outS d i (· < 0 - 1) (result mm ind v r src)) := by
    unfold outS
    have : outSet (rg i) (lg i) (· < 0 - 1) = ∅ := by
      ext y; simp [outSet]
    rw [this, pointsTo_empty]
  unfold full outHead
  rw [if_pos rfl]
  iintro ⟨Hc0, ⟨Hr, Hsr, Hqr⟩, HO, ⟨Hi, Hsi, Hqi⟩, ⟨Hv, Hsv, Hqv⟩, Hc1, Hs, Ho, Hout⟩
  ihave Hout := hT $$ Hout
  ihave Hn : iprop(emp) $$ []
  · iempintro
  ihave Hn := hN $$ Hn
  isplitl [Hc0 Hr HO Hi Hv Hc1 Hs Ho Hout Hn]
  · isplitl [Hc0]; · iexact Hc0
    isplitl [Hc1]; · iexact Hc1
    isplitl [Hs]; · iexact Hs
    isplitl [HO]; · iexact HO
    isplitl [Hi]; · iexact Hi
    isplitl [Hv]; · iexact Hv
    isplitl [Hr]; · iexact Hr
    isplitl [Ho]; · iexact Ho
    isplitl [Hn]; · iexact Hn
    isplitl [Hout]; · iexact Hout
    iempintro
  isplitl [Hsi Hqi]
  · isplitl [Hsi]; · iexact Hsi
    iexact Hqi
  isplitl [Hsv Hqv]
  · isplitl [Hsv]; · iexact Hsv
    iexact Hqv
  isplitl [Hsr]; · iexact Hsr
  iexact Hqr

/-- What the loop leaves, the wait for the last copy out first. -/
theorem finish : iprop(SliceInv d i mm ind v r src f0 q0 q1 qs O W₀ 32 ∗ Sources d i ind v r qi qv qr)
    ⊢ iprop(outHead d i (result mm ind v r src) 32 ∗ outS d i (· < 32 - 1) (result mm ind v r src) ∗ owing d i O W₀ ∗
      (idle (F := F) (e := .f32) d i ch0 cc0_scratch7.sem (memM.view.loc (thr d i)) q0 mm ∗
      idle (F := F) (e := .f32) d i ch1 cc0_scratch8.sem (memM.view.loc (thr d i)) q1 mm ∗
      idle (F := F) (e := .f32) d i sB cc0_scratch9.sem (srcM.view.loc (thr d i)) qs src ∗
      idle (F := F) (e := .i32) d i indB cc0_scoped0.sem (indM.view.loc (thr d i)) qi ind ∗
      idle (F := F) (e := .f32) d i vB cc0_scoped1.sem (vM.view.loc (thr d i)) qv v ∗
      idle (F := F) (e := .f32) d i rB cc0_scoped2.sem (rM.view.loc (thr d i)) qr r)) := by
  unfold SliceInv Sources slot0 slot1
  rw [slot_idle (by decide), slot_idle (by decide)]
  unfold idle holdsAny
  iintro ⟨⟨Hc0, Hc1, Hs, HO, Hi, Hv, Hr, Ho, Hout, -, -⟩, ⟨Hsi, Hqi⟩, ⟨Hsv, Hqv⟩, Hsr, Hqr⟩
  isplitl [Ho]; · iexact Ho
  isplitl [Hout]; · iexact Hout
  isplitl [HO]; · iexact HO
  isplitl [Hc0]; · iexact Hc0
  isplitl [Hc1]; · iexact Hc1
  isplitl [Hs]; · iexact Hs
  isplitl [Hi Hsi Hqi]
  · isplitl [Hi]; · iexists (nbrOf ind (rg i)); iexact Hi
    isplitl [Hsi]; · iexact Hsi
    iexact Hqi
  isplitl [Hv Hsv Hqv]
  · isplitl [Hv]; · iexists (nbrOf v (rg i)); iexact Hv
    isplitl [Hsv]; · iexact Hsv
    iexact Hqv
  isplitl [Hr]; · iexists (scaleOf r); iexact Hr
  isplitl [Hsr]; · iexact Hsr
  iexact Hqr

/-- What the tile holds after the last copy out is at rest. -/
theorem final : iprop((holdsAny (F := F) (e := .f32) d i oB ∗ semVal (thr d i, SemLoc.dma cc0_scratch10.sem) 0) ∗
      outS d i (· < 32) (result mm ind v r src) ∗ owing d i O W₀ ∗
      (idle (F := F) (e := .f32) d i ch0 cc0_scratch7.sem (memM.view.loc (thr d i)) q0 mm ∗
      idle (F := F) (e := .f32) d i ch1 cc0_scratch8.sem (memM.view.loc (thr d i)) q1 mm ∗
      idle (F := F) (e := .f32) d i sB cc0_scratch9.sem (srcM.view.loc (thr d i)) qs src ∗
      idle (F := F) (e := .i32) d i indB cc0_scoped0.sem (indM.view.loc (thr d i)) qi ind ∗
      idle (F := F) (e := .f32) d i vB cc0_scoped1.sem (vM.view.loc (thr d i)) qv v ∗
      idle (F := F) (e := .f32) d i rB cc0_scoped2.sem (rM.view.loc (thr d i)) qr r))
    ⊢ Rest d i mm ind v r src (result mm ind v r src) q0 q1 qi qv qr qs O W₀ := by
  unfold Rest
  rw [outS_congr (P' := fun _ => True) (fun n h => by simp [h])]
  iintro ⟨Ho, Hout, HO, Hc0, Hc1, Hs, Hi, Hv, Hr⟩
  isplitl [Hc0]; · iexact Hc0
  isplitl [Hc1]; · iexact Hc1
  isplitl [Hs]; · iexact Hs
  isplitl [HO]; · iexact HO
  isplitl [Hi]; · iexact Hi
  isplitl [Hv]; · iexact Hv
  isplitl [Hr]; · iexact Hr
  isplitl [Ho]; · iexact Ho
  iexact Hout

set_option maxRecDepth 65536 in
/-- The program of a tile. -/
theorem tile_wp (mm : S64x4096x8x8.Idx → F .f32) (ind : S64x24x64.Idx → BitVec 32) (v : S64x24x64.Idx → F .f32)
    (r : S64x8x64.Idx → F .f32) (src : S64x64x64x8x8.Idx → F .f32) (f0 : S32x64x64x8x8.Idx → F .f32) (q0 q1 qi qv qr qs : PosShare TreeShare)
    (O : CellTallies nD τ sig (HIx 1)) (W₀ : Waits sig (HIx 1)) (hI : ∀ x, (ind x).toNat < 4096) :
    Rest d i mm ind v r src f0 q0 q1 qi qv qr qs O W₀
      ⊢ twp d i (cc0_sc_kernel i memM (Memref.isWhole_whole _) indM (Memref.isWhole_whole _) vM (Memref.isWhole_whole _) rM (Memref.isWhole_whole _) srcM (Memref.isWhole_whole _) outM (Memref.isWhole_whole _) ch0 (Memref.isWhole_whole _) ch1 (Memref.isWhole_whole _) indB (Memref.isWhole_whole _) vB (Memref.isWhole_whole _) rB (Memref.isWhole_whole _) sB (Memref.isWhole_whole _) oB (Memref.isWhole_whole _) cc0_scratch7 cc0_scratch8 cc0_scratch9 cc0_scratch10 cc0_scoped0 cc0_scoped1 cc0_scoped2) fun _ => Rest d i mm ind v r src (result mm ind v r src) q0 q1 qi qv qr qs O W₀ := by
  have key : iprop(idle (F := F) (e := .i32) d i indB cc0_scoped0.sem (indM.view.loc (thr d i)) qi ind ∗ owing d i O W₀ ∗
    idle (F := F) (e := .f32) d i vB cc0_scoped1.sem (vM.view.loc (thr d i)) qv v ∗
    idle (F := F) (e := .f32) d i rB cc0_scoped2.sem (rM.view.loc (thr d i)) qr r ∗
    idle (F := F) (e := .f32) d i ch0 cc0_scratch7.sem (memM.view.loc (thr d i)) q0 mm ∗
    (idle (F := F) (e := .f32) d i ch1 cc0_scratch8.sem (memM.view.loc (thr d i)) q1 mm ∗
    idle (F := F) (e := .f32) d i sB cc0_scratch9.sem (srcM.view.loc (thr d i)) qs src ∗
    (holdsAny (F := F) (e := .f32) d i oB ∗ semVal (thr d i, SemLoc.dma cc0_scratch10.sem) 0) ∗
    outS d i (fun _ => True) f0)) ⊢ twp d i (cc0_sc_kernel i memM (Memref.isWhole_whole _) indM (Memref.isWhole_whole _) vM (Memref.isWhole_whole _) rM (Memref.isWhole_whole _) srcM (Memref.isWhole_whole _) outM (Memref.isWhole_whole _) ch0 (Memref.isWhole_whole _) ch1 (Memref.isWhole_whole _) indB (Memref.isWhole_whole _) vB (Memref.isWhole_whole _) rB (Memref.isWhole_whole _) sB (Memref.isWhole_whole _) oB (Memref.isWhole_whole _) cc0_scratch7 cc0_scratch8 cc0_scratch9 cc0_scratch10 cc0_scoped0 cc0_scoped1 cc0_scoped2) fun _ => Rest d i mm ind v r src (result mm ind v r src) q0 q1 qi qv qr qs O W₀ := by
    simp only [cc0_sc_kernel_eq_skeleton, cc0_sc_kernel_skel, k0_part19_eq_skeleton, k0_part19_skel, k0_part20_eq_skeleton, k0_part20_skel, bind_assoc, pure_bind]
    refine fill_step (S := indV (k0_off1 i) (k0_off1_inb i)) (M := indB) (by decide) (ind_read (R := rg i) (off1_eq i)) ?_
    refine filled_step ?_
    refine pull3.trans (fill_step (S := vV (k0_off1 i) (k0_off1_inb i)) (M := vB) (by decide) (v_read (R := rg i) (off1_eq i)) ?_)
    refine (sep_mono_r pull2).trans (filled_step ?_)
    refine pull4.trans (fill_step (S := scaleV) (M := rB) (by decide) scale_read ?_)
    refine (sep_mono_r pull2).trans (filled_step ?_)
    refine pull5.trans (fill_step (S := chunkV (k0_off2 i) (k0_off2_inb i)) (M := ch0) (g := chunkOf mm 0 (lg i)) (by decide) (chunk_read (n := 0) (by omega) (off2_eq i)) ?_)
    refine .trans (Q := iprop(SliceInv d i mm ind v r src f0 q0 q1 qs O W₀ 0 ∗ Sources d i ind v r qi qv qr)) ?p1 (slices_step hI (laneWord_val i) ?_)
    · exact (sep_mono_r (sep_mono_r (sep_mono_r pull2))).trans (start mm ind v r src f0 q0 q1 qi qv qr qs O W₀)
    refine .trans (finish mm ind v r src f0 q0 q1 qi qv qr qs O W₀) ?_
    refine landed_step (n := 32) (by omega) ?_
    refine (final mm ind v r src q0 q1 qi qv qr qs O W₀).trans ?_
    exact twp_pure (F := F) (d := d) (i := i) (a := PUnit.unit) (Q := fun _ => Rest d i mm ind v r src (result mm ind v r src) q0 q1 qi qv qr qs O W₀)
  refine .trans ?_ key
  unfold Rest
  iintro ⟨H0, H1, H2, HO, H4, H5, H6, H7, H8⟩
  isplitl [H4]; · iexact H4
  isplitl [HO]; · iexact HO
  isplitl [H5]; · iexact H5
  isplitl [H6]; · iexact H6
  isplitl [H0]; · iexact H0
  isplitl [H1]; · iexact H1
  isplitl [H2]; · iexact H2
  isplitl [H7]; · iexact H7
  iexact H8

end Cert.Proof.Sc
-- ==== Proof.Own.lean ====
/-
  The scratch of a tile: its seven buffers and seven semaphores out of everything a subcore owns, and the tile's program
  run between a subcore's own things whole, its shares of the arguments and its part of the result.
-/
module

public import proofs.«01_k».proof.Proof.Tile

@[expose] public section

noncomputable section

namespace Cert.Proof.Sc

open Cert.KernelIdeal Cert.KernelIdeal.Gen

open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore.Cfg (HIx)

variable {F : FTy → Type}
local notation "𝕄" => MT nD τ sig (HIx 1) (Elt F) ℕ UU ℕ
variable [FloatOps F]

open Idealize.ShloMosaic.SparseCore (S V T)
open Idealize.ShloMosaic.SparseCore.Cfg (HIx ownBufs ownSems0 ownCells ownRefs mem_ownCells mem_ownRefs)

variable (d : Dev nD) (i : grid0.Coords)

/-- The tile's buffers. -/
def tileRefs : Finset (Ref sig .scVector) := {cc0_scratch0, cc0_scratch1, cc0_scratch2, cc0_scratch3, cc0_scratch4, cc0_scratch5, cc0_scratch6}
/-- The tile's semaphores. -/
def tileSems : Finset (DmaSem sig) :=
  {cc0_scratch7.sem, cc0_scratch8.sem, cc0_scratch9.sem, cc0_scratch10.sem, cc0_scoped0.sem, cc0_scoped1.sem, cc0_scoped2.sem}

/-- What a buffer of the tile is held as. -/
abbrev atAny (b : Ref sig .scVector) : sProp 𝕄 := iprop(∃ f, (thr d i).loc b ↦{fullShare} f)
/-- A semaphore of the tile at rest. -/
abbrev atZero (s : DmaSem sig) : sProp 𝕄 := semVal (thr d i, SemLoc.dma s) 0

/-- The cells and the buffers of a subcore that the tile does not use. -/
def restCells : Finset (GSem nD τ sig) := ownCells (thr d i) \ tileSems.image fun s => (thr d i, SemLoc.dma s)
def restRefs : Finset (DevRef τ sig) := ownRefs (τ := τ) (sig := sig) (thr d i).2 \ tileRefs.image fun b => (thr d i).2.devRef b

theorem ownSems0_tile : (ownSems0 (thr d i) : sProp 𝕄)
    = iprop((atZero d i cc0_scratch7.sem ∗ atZero d i cc0_scratch8.sem ∗ atZero d i cc0_scratch9.sem ∗ atZero d i cc0_scratch10.sem ∗
      atZero d i cc0_scoped0.sem ∗ atZero d i cc0_scoped1.sem ∗ atZero d i cc0_scoped2.sem) ∗ bigSep (restCells d i) fun g => semVal g 0) := by
  have hs : (tileSems.image fun s => ((thr d i, SemLoc.dma s) : GSem nD τ sig)) ⊆ ownCells (thr d i) := by
    intro g hg
    obtain ⟨s, hs, rfl⟩ := Finset.mem_image.mp hg
    refine mem_ownCells.mpr ⟨rfl, ?_⟩
    have : ∀ s ∈ tileSems, (SemLoc.dma s : SemLoc sig).isScoped .scVector = true := by decide
    exact this s hs
  unfold SparseCore.Cfg.ownSems0 restCells
  rw [SparseCore.bigSep_sdiff_split' hs, SparseCore.bigSep_image_of_injOn (fun a _ b _ e => SemLoc.dma.inj (Prod.mk.inj e).2)]
  unfold tileSems
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- A family over the tile's buffers, one by one. -/
theorem bigSep_tileRefs (Φ : Ref sig .scVector → sProp 𝕄) : bigSep tileRefs Φ
    = iprop(Φ cc0_scratch0 ∗ Φ cc0_scratch1 ∗ Φ cc0_scratch2 ∗ Φ cc0_scratch3 ∗ Φ cc0_scratch4 ∗ Φ cc0_scratch5 ∗ Φ cc0_scratch6) := by
  unfold tileRefs
  rw [SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem ownBufs_tile : (ownBufs (thr d i) : sProp 𝕄)
    = iprop((atAny d i cc0_scratch0 ∗ atAny d i cc0_scratch1 ∗ atAny d i cc0_scratch2 ∗ atAny d i cc0_scratch3 ∗ atAny d i cc0_scratch4 ∗
      atAny d i cc0_scratch5 ∗ atAny d i cc0_scratch6) ∗ bigSep (restRefs d i) fun b => iprop(∃ f, ((d, b) : Loc nD τ sig) ↦{fullShare} f)) := by
  have hs : (tileRefs.image fun b => (thr d i).2.devRef b) ⊆ ownRefs (τ := τ) (sig := sig) (thr d i).2 := by
    intro g hg
    obtain ⟨b, hb, rfl⟩ := Finset.mem_image.mp hg
    simp only [tileRefs, Finset.mem_insert, Finset.mem_singleton] at hb
    rcases hb with rfl | rfl | rfl | rfl | rfl | rfl | rfl <;> exact SparseCore.Cfg.mem_ownRefs_of_owner rfl
  unfold SparseCore.Cfg.ownBufs restRefs
  rw [SparseCore.bigSep_sdiff_split' hs, SparseCore.bigSep_image_of_injOn (fun a _ b _ e => Proc.devRef_injective _ e)]
  exact congrArg (fun P => iprop(P ∗ _)) (bigSep_tileRefs fun b => atAny (F := F) d i b)

/-- A buffer at any contents, through the memref of the whole of it. -/
theorem holdsAny_whole {s : Shape} {e : EltTy} {M : Memref sig .scVector .vmem s e} (hset : M.view.set = Finset.univ) :
    iprop(∃ f, M.view.loc (thr d i) ↦{fullShare} f) ⊣⊢ holdsAny (F := F) d i M := by
  unfold holdsAny holds
  rw [hset]
  constructor
  · iintro ⟨%f, H⟩
    iexists (M.view.read (Elt F) f), f
    isplitr
    · ipureintro; rfl
    iexact H
  · iintro ⟨%g, %f, -, H⟩
    iexists f; iexact H

/-- The shares that a tile reads the arguments at, and its part of the result at `f`. -/
def Parts (mm : S64x4096x8x8.Idx → F .f32) (ind : S64x24x64.Idx → BitVec 32) (v : S64x24x64.Idx → F .f32)
    (r : S64x8x64.Idx → F .f32) (src : S64x64x64x8x8.Idx → F .f32) (q : PosShare TreeShare) (f : S32x64x64x8x8.Idx → F .f32) : sProp 𝕄 :=
  iprop(((memM.view.loc (thr d i) ↦{Transfers.dealOf q (Finset.univ : Finset (Fin 2)) 0} mm) ∗ (memM.view.loc (thr d i) ↦{Transfers.dealOf q (Finset.univ : Finset (Fin 2)) 1} mm)) ∗
    (indM.view.loc (thr d i) ↦{q} ind) ∗ (vM.view.loc (thr d i) ↦{q} v) ∗ (rM.view.loc (thr d i) ↦{q} r) ∗ (srcM.view.loc (thr d i) ↦{q} src) ∗
    outS d i (fun _ => True) f)

variable (mm : S64x4096x8x8.Idx → F .f32) (ind : S64x24x64.Idx → BitVec 32) (v : S64x24x64.Idx → F .f32)
    (r : S64x8x64.Idx → F .f32) (src : S64x64x64x8x8.Idx → F .f32) (f0 f : S32x64x64x8x8.Idx → F .f32) (q : PosShare TreeShare)
    (O : CellTallies nD τ sig (HIx 1)) (W : Waits sig (HIx 1))

/-- A tile at rest is its parts, its scratch, and what it owes. -/
theorem rest_parts : iprop(Parts d i mm ind v r src q f ∗
      (atAny d i cc0_scratch0 ∗ atAny d i cc0_scratch1 ∗ atAny d i cc0_scratch2 ∗ atAny d i cc0_scratch3 ∗ atAny d i cc0_scratch4 ∗
        atAny d i cc0_scratch5 ∗ atAny d i cc0_scratch6) ∗
      (atZero d i cc0_scratch7.sem ∗ atZero d i cc0_scratch8.sem ∗ atZero d i cc0_scratch9.sem ∗ atZero d i cc0_scratch10.sem ∗
        atZero d i cc0_scoped0.sem ∗ atZero d i cc0_scoped1.sem ∗ atZero d i cc0_scoped2.sem) ∗ owing d i O W)
    ⊣⊢ Rest d i mm ind v r src f (Transfers.dealOf q (Finset.univ : Finset (Fin 2)) 0) (Transfers.dealOf q (Finset.univ : Finset (Fin 2)) 1) q q q q O W := by
  have h0 := holdsAny_whole (F := F) d i (M := ch0) (View.set_whole _)
  have h1 := holdsAny_whole (F := F) d i (M := ch1) (View.set_whole _)
  have h2 := holdsAny_whole (F := F) d i (M := indB) (View.set_whole _)
  have h3 := holdsAny_whole (F := F) d i (M := vB) (View.set_whole _)
  have h4 := holdsAny_whole (F := F) d i (M := rB) (View.set_whole _)
  have h5 := holdsAny_whole (F := F) d i (M := sB) (View.set_whole _)
  have h6 := holdsAny_whole (F := F) d i (M := oB) (View.set_whole _)
  unfold Parts Rest idle
  constructor
  · iintro ⟨⟨⟨M0, M1⟩, I, V, R, S, Out⟩, ⟨B0, B1, B2, B3, B4, B5, B6⟩, ⟨S7, S8, S9, S10, T0, T1, T2⟩, HO⟩
    ihave B0 := h0.1 $$ B0
    ihave B1 := h1.1 $$ B1
    ihave B2 := h2.1 $$ B2
    ihave B3 := h3.1 $$ B3
    ihave B4 := h4.1 $$ B4
    ihave B5 := h5.1 $$ B5
    ihave B6 := h6.1 $$ B6
    isplitl [B0 S7 M0]
    · isplitl [B0]; · iexact B0
      isplitl [S7]; · iexact S7
      iexact M0
    isplitl [B1 S8 M1]
    · isplitl [B1]; · iexact B1
      isplitl [S8]; · iexact S8
      iexact M1
    isplitl [B5 S9 S]
    · isplitl [B5]; · iexact B5
      isplitl [S9]; · iexact S9
      iexact S
    isplitl [HO]; · iexact HO
    isplitl [B2 T0 I]
    · isplitl [B2]; · iexact B2
      isplitl [T0]; · iexact T0
      iexact I
    isplitl [B3 T1 V]
    · isplitl [B3]; · iexact B3
      isplitl [T1]; · iexact T1
      iexact V
    isplitl [B4 T2 R]
    · isplitl [B4]; · iexact B4
      isplitl [T2]; · iexact T2
      iexact R
    isplitl [B6 S10]
    · isplitl [B6]; · iexact B6
      iexact S10
    iexact Out
  · iintro ⟨⟨B0, S7, M0⟩, ⟨B1, S8, M1⟩, ⟨B5, S9, S⟩, HO, ⟨B2, T0, I⟩, ⟨B3, T1, V⟩, ⟨B4, T2, R⟩, ⟨B6, S10⟩, Out⟩
    ihave B0 := h0.2 $$ B0
    ihave B1 := h1.2 $$ B1
    ihave B2 := h2.2 $$ B2
    ihave B3 := h3.2 $$ B3
    ihave B4 := h4.2 $$ B4
    ihave B5 := h5.2 $$ B5
    ihave B6 := h6.2 $$ B6
    isplitl [M0 M1 I V R S Out]
    · isplitl [M0 M1]
      · isplitl [M0]; · iexact M0
        iexact M1
      isplitl [I]; · iexact I
      isplitl [V]; · iexact V
      isplitl [R]; · iexact R
      isplitl [S]; · iexact S
      iexact Out
    isplitl [B0 B1 B2 B3 B4 B5 B6]
    · isplitl [B0]; · iexact B0
      isplitl [B1]; · iexact B1
      isplitl [B2]; · iexact B2
      isplitl [B3]; · iexact B3
      isplitl [B4]; · iexact B4
      isplitl [B5]; · iexact B5
      iexact B6
    isplitl [S7 S8 S9 S10 T0 T1 T2]
    · isplitl [S7]; · iexact S7
      isplitl [S8]; · iexact S8
      isplitl [S9]; · iexact S9
      isplitl [S10]; · iexact S10
      isplitl [T0]; · iexact T0
      isplitl [T1]; · iexact T1
      iexact T2
    iexact HO

/-- The program of a tile between everything that its subcore owns. -/
theorem tile_body (hF : (K (F := F)).Facts) (hI : ∀ x, (ind x).toNat < 4096) (hO : ∀ g, O g none = 0) :
    iprop(levAts (K (F := F)).L (K (F := F)).lev ∗ emp ∗ Parts d i mm ind v r src q f0 ∗ scopedBufs (thr d i) ∗ scopedSems0 (thr d i) ∗ owes (thr d i) O W)
      ⊢ twp d i (cc0_sc_kernel i memM (Memref.isWhole_whole _) indM (Memref.isWhole_whole _) vM (Memref.isWhole_whole _) rM (Memref.isWhole_whole _) srcM (Memref.isWhole_whole _) outM (Memref.isWhole_whole _) ch0 (Memref.isWhole_whole _) ch1 (Memref.isWhole_whole _) indB (Memref.isWhole_whole _) vB (Memref.isWhole_whole _) rB (Memref.isWhole_whole _) sB (Memref.isWhole_whole _) oB (Memref.isWhole_whole _) cc0_scratch7 cc0_scratch8 cc0_scratch9 cc0_scratch10 cc0_scoped0 cc0_scoped1 cc0_scoped2) fun _ => iprop(Parts d i mm ind v r src q (result mm ind v r src) ∗ scopedBufs (thr d i) ∗ scopedSems0 (thr d i) ∗
        ∃ W', ⌜∀ p ∈ W', p ∈ W ∨ p.2 = none⌝ ∗ owes (thr d i) O W') := by
  rw [(K (F := F)).scopedBufs_V hF d _ _, SparseCore.Cfg.scopedSems0_V (Val := Elt F) d _ _, ownSems0_tile, ownBufs_tile]
  have h := tile_wp (d := d) (i := i) mm ind v r src f0 (Transfers.dealOf q (Finset.univ : Finset (Fin 2)) 0) (Transfers.dealOf q (Finset.univ : Finset (Fin 2)) 1) q q q q O W hI
  iintro ⟨#Hlv, -, Hp, ⟨Hb, Hbr⟩, ⟨Hs, Hsr⟩, HO⟩
  ihave Hmw := ((K (F := F)).mayWaits_none (thr := thr d i) hO) $$ Hlv
  ihave HR := (rest_parts d i mm ind v r src f0 q O W).1 $$ [Hp Hb Hs HO Hmw]
  · isplitl [Hp]; · iexact Hp
    isplitl [Hb]; · iexact Hb
    isplitl [Hs]; · iexact Hs
    unfold owing
    isplitl [Hmw]; · iexact Hmw
    iexists W; isplitr
    · ipureintro; exact fun p hp => .inl hp
    iexact HO
  ihave Hw := h $$ HR
  iapply (wp_wand frame (wpE (defs₀ (F := F)) 𝒱₀ (thr d i) none) Set.univ) $$ Hw
  iintro %_ HR
  ihave HR := (rest_parts d i mm ind v r src (result mm ind v r src) q O W).2 $$ HR
  unfold owing
  icases HR with ⟨Hp, Hb, Hs, -, HO⟩
  isplitl [Hp]; · iexact Hp
  isplitl [Hb Hbr]
  · isplitl [Hb]; · iexact Hb
    iexact Hbr
  isplitl [Hs Hsr]
  · isplitl [Hs]; · iexact Hs
    iexact Hsr
  iexact HO

end Cert.Proof.Sc
-- ==== Proof.Deal.lean ====
/-
  The arrays of the call dealt to the thirty-two tiles: a read share of each argument to every tile, and the result
  cut into the tiles' parts; nothing is lost, so that the same equation joins them again.
-/
module

public import proofs.«01_k».proof.Proof.Own

@[expose] public section

noncomputable section

namespace Cert.Proof.Sc

open Cert.KernelIdeal Cert.KernelIdeal.Gen

open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore.Cfg (HIx)

variable {F : FTy → Type}
local notation "𝕄" => MT nD τ sig (HIx 1) (Elt F) ℕ UU ℕ
variable [FloatOps F]

/-- The share of an argument that a tile reads. -/
def tileShare (c : Fin 2) (j : Fin 16) : PosShare TreeShare :=
  Transfers.dealOf (Transfers.dealOf fullShare (Finset.univ : Finset (Fin 2)) c) (Finset.univ : Finset (Fin 16)) j

/-- A family over all tiles. -/
abbrev tiles (Φ : Fin 2 → Fin 16 → sProp 𝕄) : sProp 𝕄 := bigSep Finset.univ fun c : Fin 2 => bigSep Finset.univ fun j : Fin 16 => Φ c j

theorem deal_arg (ℓ : Loc nD τ sig) (f : Buf (Elt F) ℓ) : (ℓ ↦{fullShare} f : sProp 𝕄) = tiles fun c j => ℓ ↦{tileShare c j} f := by
  rw [Transfers.pointsTo_deal (Finset.univ : Finset (Fin 2)) Finset.univ_nonempty fullShare]
  exact bigSep_congr fun c _ => Transfers.pointsTo_deal (Finset.univ : Finset (Fin 16)) Finset.univ_nonempty _

theorem deal_two (ℓ : Loc nD τ sig) (f : Buf (Elt F) ℓ) (q : PosShare TreeShare) : (ℓ ↦{q} f : sProp 𝕄)
    = iprop((ℓ ↦{Transfers.dealOf q (Finset.univ : Finset (Fin 2)) 0} f) ∗ (ℓ ↦{Transfers.dealOf q (Finset.univ : Finset (Fin 2)) 1} f)) := by
  rw [Transfers.pointsTo_deal (Finset.univ : Finset (Fin 2)) Finset.univ_nonempty q, BI.bigSep_fin_two]
  rfl

/-- A tile's part of the result. -/
abbrev tileSet (c : Fin 2) (j : Fin 16) : Finset S32x64x64x8x8.Idx := outSet (rg (coordsV c j)) (lg (coordsV c j)) fun _ => True

theorem mem_tileSet (c : Fin 2) (j : Fin 16) (y : S32x64x64x8x8.Idx) : y ∈ tileSet c j ↔ 8 * ((y 1).val / 16) + (y 3).val = j.val * 2 + c.val := by
  have h3 : (y 3).val < 8 := (y 3).isLt
  simp only [tileSet, outSet, Finset.mem_filter, Finset.mem_univ, true_and, and_true]
  show (y 1).val / 16 = (j.val * 2 + c.val) / 8 ∧ (y 3).val = (j.val * 2 + c.val) % 8 ↔ _
  omega

theorem tileSet_disjoint {x y : Fin 2 × Fin 16} (h : x ≠ y) : Disjoint (tileSet x.1 x.2) (tileSet y.1 y.2) := by
  refine Finset.disjoint_left.mpr fun z hx hy => h ?_
  rw [mem_tileSet] at hx hy
  have h1 := x.1.isLt
  have h2 := y.1.isLt
  exact Prod.ext (Fin.ext (by omega)) (Fin.ext (by omega))

theorem tileSet_cover : (Finset.univ : Finset (Fin 2 × Fin 16)).biUnion (fun x => tileSet x.1 x.2) = Finset.univ := by
  refine Finset.eq_univ_of_forall fun y => Finset.mem_biUnion.mpr ?_
  have h1 : (y 1).val < 64 := (y 1).isLt
  have h3 : (y 3).val < 8 := (y 3).isLt
  refine ⟨(⟨(8 * ((y 1).val / 16) + (y 3).val) % 2, by omega⟩, ⟨(8 * ((y 1).val / 16) + (y 3).val) / 2, by omega⟩), Finset.mem_univ _, ?_⟩
  rw [mem_tileSet]
  show _ = (8 * ((y 1).val / 16) + (y 3).val) / 2 * 2 + (8 * ((y 1).val / 16) + (y 3).val) % 2
  omega

theorem deal_out (d : Dev nD) (f : S32x64x64x8x8.Idx → F .f32) :
    ((SparseCore.T d).loc main_v2 ↦{fullShare} f : sProp 𝕄) = tiles fun c j => outS d (coordsV c j) (fun _ => True) f := by
  have h := pointsTo_biUnion (Val := Elt F) (Ix := HIx 1) (Name := ℕ) (U := UU) (Lvl := ℕ) (ℓ := ((SparseCore.T d : Thread nD τ).loc main_v2)) (q := fullShare) (f := f) (Finset.univ : Finset (Fin 2 × Fin 16)) (fun x => tileSet x.1 x.2)
    (fun x _ y _ hxy => tileSet_disjoint hxy)
  rw [tileSet_cover, ← Finset.univ_product_univ, SparseCore.bigSep_product] at h
  exact h

/-- The arrays of the call, the result at `f`, are the tiles' parts. -/
theorem deal_all (d : Dev nD) (mm : S64x4096x8x8.Idx → F .f32) (ind : S64x24x64.Idx → BitVec 32) (v : S64x24x64.Idx → F .f32)
    (r : S64x8x64.Idx → F .f32) (src : S64x64x64x8x8.Idx → F .f32) (f : S32x64x64x8x8.Idx → F .f32) :
    (iprop(((SparseCore.T d).loc main_v0 ↦{fullShare} mm) ∗ ((SparseCore.T d).loc main_arg2 ↦{fullShare} ind) ∗ ((SparseCore.T d).loc main_arg3 ↦{fullShare} v) ∗
      ((SparseCore.T d).loc main_arg4 ↦{fullShare} r) ∗ ((SparseCore.T d).loc main_v1 ↦{fullShare} src) ∗ ((SparseCore.T d).loc main_v2 ↦{fullShare} f)) : sProp 𝕄)
      = tiles fun c j => Parts d (coordsV c j) mm ind v r src (tileShare c j) f := by
  have e : (fun (c : Fin 2) (j : Fin 16) => (Parts d (coordsV c j) mm ind v r src (tileShare c j) f : sProp 𝕄))
      = fun c j => iprop(((SparseCore.T d).loc main_v0 ↦{tileShare c j} mm) ∗ ((SparseCore.T d).loc main_arg2 ↦{tileShare c j} ind) ∗ ((SparseCore.T d).loc main_arg3 ↦{tileShare c j} v) ∗
      ((SparseCore.T d).loc main_arg4 ↦{tileShare c j} r) ∗ ((SparseCore.T d).loc main_v1 ↦{tileShare c j} src) ∗ outS d (coordsV c j) (fun _ => True) f) := by
    funext c j
    exact congrArg (fun P => iprop(P ∗ _)) (deal_two ((SparseCore.T d).loc main_v0) mm (tileShare c j)).symm
  rw [e]
  unfold tiles
  simp only [bigSep_sep']
  rw [deal_arg ((SparseCore.T d).loc main_v0), deal_arg ((SparseCore.T d).loc main_arg2), deal_arg ((SparseCore.T d).loc main_arg3), deal_arg ((SparseCore.T d).loc main_arg4), deal_arg ((SparseCore.T d).loc main_v1), deal_out]

end Cert.Proof.Sc
-- ==== Proof.Matmul.lean ====
/-
  The second TensorCore region: a batch element's rows of weights times the exponentials of a memory slice, scaled, with
  the source added. Here are what one call of its body stores, the body's triple and the region's proof data.
-/
module

public import proofs.«01_k».proof.Proof.Base
public import proofs.«01_k».proof.Proof.Gen.KernelIdeal.Launch
public import proofs.«01_k».proof.Proof.Gen.KernelIdeal.Points
public import Idealize.ShloMosaic.Lib.Pipeline.FrameBody

@[expose] public section

set_option maxRecDepth 16384

noncomputable section

namespace Cert.Proof.Sc

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Pipeline (Dat BodyObligation)

variable {F : FTy → Type} [FloatOps F]

local notation "𝕄" => MT nD τ sig (HIx 1) (Elt F) ℕ UU ℕ

/-! ## What the body computes -/

abbrev allWt : Rect S512x4096 := Rect.unit (s := S512x4096) ![0, 0] S512x4096.size inb_S512x4096_S512x4096_0_0
abbrev allMem : Rect S1x4096x64 := Rect.unit (s := S1x4096x64) ![0, 0, 0] S1x4096x64.size inb_S1x4096x64_S1x4096x64_0_0_0
abbrev topScale : Rect S1x8x64 := Rect.unit (s := S1x8x64) ![0, 0, 0] S1x1x64.size inb_S1x8x64_S1x1x64_0_0_0
abbrev allRes : Rect S1x8x64x64 := Rect.unit (s := S1x8x64x64) ![0, 0, 0, 0] S1x8x64x64.size inb_S1x8x64x64_S1x8x64x64_0_0_0_0

/-- The block of results the body stores, of the weights `w`, the memory slice `m`, the scales `r` and the source `s`. -/
def mOut (w : Vec F S512x4096 .f32) (m : Vec F S1x4096x64 .f32) (r : Vec F S1x8x64 .f32) (s : Vec F S1x8x64x64 .f32) : Vec F S1x8x64x64 .f32 :=
  View.canon [⟨allRes, k2_pay1 (View.ld m allMem) (View.ld w allWt) (View.ld r topScale) (View.ld s allRes)⟩]

theorem mOut_cover (p : Vec F S1x8x64x64 .f32) (y : S1x8x64x64.Idx) :
    ∃ pc ∈ ([⟨allRes, p⟩] : List (View.Piece (Elt F) S1x8x64x64 .f32)), y ∈ pc.1.set :=
  View.cover_of_tiled [⟨allRes, p⟩] S1x8x64x64.size (by rfl) y

/-! ## The body's triple -/

set_option maxHeartbeats 1000000 in
theorem matmul_body (c : Dev nD) (E : Set ℕ) (i : grid2.Coords) (a2 : Memref sig .tc .vmem S512x4096 .f32) (h2 : a2.IsWhole)
    (a3 : Memref sig .tc .vmem S1x4096x64 .f32) (h3 : a3.IsWhole) (a4 : Memref sig .tc .vmem S1x8x64 .f32) (h4 : a4.IsWhole)
    (a5 : Memref sig .tc .vmem S1x8x64x64 .f32) (h5 : a5.IsWhole) (a6 : Memref sig .tc .vmem S1x8x64x64 .f32) (h6 : a6.IsWhole)
    (w : Vec F S512x4096 .f32) (m : Vec F S1x4096x64 .f32) (r : Vec F S1x8x64 .f32) (s : Vec F S1x8x64x64 .f32) (K : PUnit → sProp 𝕄) :
    iprop(owns (c : Thread nD τ) a2 fullShare w ∗ owns (c : Thread nD τ) a3 fullShare m ∗ owns (c : Thread nD τ) a4 fullShare r
        ∗ owns (c : Thread nD τ) a5 fullShare s ∗ (∃ d, owns (c : Thread nD τ) a6 fullShare d)
        ∗ (iprop(owns (c : Thread nD τ) a2 fullShare w ∗ owns (c : Thread nD τ) a3 fullShare m ∗ owns (c : Thread nD τ) a4 fullShare r
            ∗ owns (c : Thread nD τ) a5 fullShare s ∗ owns (c : Thread nD τ) a6 fullShare (mOut w m r s)) -∗ K ⟨⟩))
      ⊢ wp frame (wpE (defs₀ (F := F)) 𝒱₀ c none) E (cc2__matmul_body i a2 h2 a3 h3 a4 h4 a5 h5 a6 h6) K := by
  simp only [cc2__matmul_body_eq_skeleton]; unfold cc2__matmul_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (mOut_cover _)).trans ?_
  rfl

/-! ## The region's proof data, at the arrays' contents `W` where it is entered -/

variable (W : Valuation τ sig (Elt F))

/-- The product's window `w` at point `t`, read off its array. -/
def mBlk (w : Fin cfg2.W) (t : Fin cfg2.N) : ((cfg2.win w).xblock (cfg2.grid.coords t)).Idx → Elt F (cfg2.win w).elt :=
  ((cfg2.win w).blk t).view.read (Elt F) (W (Proc.devRef .tc (Pipeline.arrRef spec2 w)))

def mDat (c : Dev nD) : Dat τ (Elt F) (HIx 1) ℕ UU ℕ cfg2 c where
  A w := W (Proc.devRef .tc (Pipeline.arrRef spec2 w))
  after w t := match w with
    | ⟨0, _⟩ => mBlk W 0 t
    | ⟨1, _⟩ => mBlk W 1 t
    | ⟨2, _⟩ => mBlk W 2 t
    | ⟨3, _⟩ => mBlk W 3 t
    | ⟨4, _⟩ => mOut (mBlk W 0 t) (mBlk W 1 t) (mBlk W 2 t) (mBlk W 3 t)
  Φ _ := Pipeline.scopedRest spec2 c
  q _ := fullShare
  owed _ := 0

theorem mDat_A (c : Dev nD) (w : Fin cfg2.W) : (mDat W c).A w = W (Proc.devRef .tc (Pipeline.arrRef spec2 w)) := by dsimp only [mDat]
theorem mDat_after0 (c : Dev nD) (t : Fin cfg2.N) : (mDat W c).after 0 t = mBlk W 0 t := by dsimp only [mDat]
theorem mDat_after1 (c : Dev nD) (t : Fin cfg2.N) : (mDat W c).after 1 t = mBlk W 1 t := by dsimp only [mDat]
theorem mDat_after2 (c : Dev nD) (t : Fin cfg2.N) : (mDat W c).after 2 t = mBlk W 2 t := by dsimp only [mDat]
theorem mDat_after3 (c : Dev nD) (t : Fin cfg2.N) : (mDat W c).after 3 t = mBlk W 3 t := by dsimp only [mDat]
theorem mDat_after4 (c : Dev nD) (t : Fin cfg2.N) :
    (mDat W c).after 4 t = mOut (mBlk W 0 t) (mBlk W 1 t) (mBlk W 2 t) (mBlk W 3 t) := by dsimp only [mDat]

/-- The inputs' current staging buffers hold their blocks, the weights' also where the region does not fetch them again. -/
theorem mDat_before0 (c : Dev nD) (t : Fin cfg2.N) (d) : (mDat W c).before 0 t d = mBlk W 0 t :=
  ((mDat W c).before_in_eq_fetched 0 rfl (fun _ => rfl) (fun _ _ _ => rfl) (fun t => by rw [mDat_after0]; unfold Dat.blockOf mBlk; rw [mDat_A]; try rfl) t d).trans
    (by unfold Dat.fetched Dat.blockOf mBlk; rw [mDat_A]; try rfl)
theorem mDat_before1 (c : Dev nD) (t : Fin cfg2.N) (d) : (mDat W c).before 1 t d = mBlk W 1 t :=
  ((mDat W c).before_in_eq_fetched 1 rfl (fun _ => rfl) (fun _ _ _ => rfl) (fun t => by rw [mDat_after1]; unfold Dat.blockOf mBlk; rw [mDat_A]; try rfl) t d).trans
    (by unfold Dat.fetched Dat.blockOf mBlk; rw [mDat_A]; try rfl)
theorem mDat_before2 (c : Dev nD) (t : Fin cfg2.N) (d) : (mDat W c).before 2 t d = mBlk W 2 t :=
  ((mDat W c).before_in_eq_fetched 2 rfl (fun _ => rfl) (fun _ _ _ => rfl) (fun t => by rw [mDat_after2]; unfold Dat.blockOf mBlk; rw [mDat_A]; try rfl) t d).trans
    (by unfold Dat.fetched Dat.blockOf mBlk; rw [mDat_A]; try rfl)
theorem mDat_before3 (c : Dev nD) (t : Fin cfg2.N) (d) : (mDat W c).before 3 t d = mBlk W 3 t :=
  ((mDat W c).before_in_eq_fetched 3 rfl (fun _ => rfl) (fun _ _ _ => rfl) (fun t => by rw [mDat_after3]; unfold Dat.blockOf mBlk; rw [mDat_A]; try rfl) t d).trans
    (by unfold Dat.fetched Dat.blockOf mBlk; rw [mDat_A]; try rfl)

/-- The body at any point of the grid, within the region's invariant. -/
theorem matmul_point (c : Dev nD) (t : Fin cfg2.N) :
    iprop((mDat W c).Φ t.castSucc ∗ (mDat W c).owesAt none t.castSucc
        ∗ (∃ d, owns (c : Thread nD τ) (st2_0 t) fullShare ((mDat W c).before 0 t d))
        ∗ (∃ d, owns (c : Thread nD τ) (st2_1 t) fullShare ((mDat W c).before 1 t d))
        ∗ (∃ d, owns (c : Thread nD τ) (st2_2 t) fullShare ((mDat W c).before 2 t d))
        ∗ (∃ d, owns (c : Thread nD τ) (st2_3 t) fullShare ((mDat W c).before 3 t d))
        ∗ (∃ d, owns (c : Thread nD τ) (st2_4 t) fullShare ((mDat W c).before 4 t d)))
      ⊢ wp frame (wpE (defs₀ (F := F)) 𝒱₀ c none) Set.univ (bodyAt2 t) fun _ =>
        iprop((mDat W c).Φ t.succ ∗ (mDat W c).owesAt none t.succ
          ∗ owns (c : Thread nD τ) (st2_0 t) fullShare ((mDat W c).after 0 t)
          ∗ owns (c : Thread nD τ) (st2_1 t) fullShare ((mDat W c).after 1 t)
          ∗ owns (c : Thread nD τ) (st2_2 t) fullShare ((mDat W c).after 2 t)
          ∗ owns (c : Thread nD τ) (st2_3 t) fullShare ((mDat W c).after 3 t)
          ∗ owns (c : Thread nD τ) (st2_4 t) fullShare ((mDat W c).after 4 t)) := by
  unfold bodyAt2
  simp only [mDat_before0, mDat_before1, mDat_before2, mDat_before3]
  rw [show (mDat W c).Φ t.succ = (mDat W c).Φ t.castSucc from rfl,
    show (mDat W c).owesAt none t.succ = (mDat W c).owesAt none t.castSucc from rfl, mDat_after0, mDat_after1, mDat_after2, mDat_after3, mDat_after4]
  iintro ⟨HΦ, Ho, ⟨%d0, H0⟩, ⟨%d1, H1⟩, ⟨%d2, H2⟩, ⟨%d3, H3⟩, ⟨%d4, H4⟩⟩
  iapply (matmul_body c Set.univ (grid2.coords t) _ _ _ _ _ _ _ _ _ _ (mBlk W 0 t) (mBlk W 1 t) (mBlk W 2 t) (mBlk W 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem matmul_row (t : Fin cfg2.N) : defs₀ (F := F) .tc cfg2.body (cfg2.bodyArgs t (cfg2.slots t)) = bodyAt2 t := by rfl

theorem matmul_obligation (c : Dev nD) : BodyObligation (mDat W c) (defs₀ (F := F)) 𝒱₀ none Set.univ := fun t => by
  rw [bigSep_W2, bigSep_W2, matmul_row]
  exact triple_restated (matmul_point W c t) rfl .rfl fun _ => .rfl

end Cert.Proof.Sc

end
-- ==== Proof.Regions.lean ====
/-
  The two TensorCore regions as steps of the host's program: each is entered from every array at known contents, with the
  core owing nothing and its staging cells' ghost state, and left with the arrays its output window writes replaced.
-/
module

public import proofs.«01_k».proof.Proof.Weights
public import proofs.«01_k».proof.Proof.Matmul
public import Idealize.ShloMosaic.Lib.Pipeline.RegionArraysS

@[expose] public section

set_option maxRecDepth 16384

noncomputable section

namespace Cert.Proof.Sc

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Pipeline (Dat RegionSeg LevelCut afterRegion arrRefs)
open Idealize.ShloMosaic.StableHlo (held)

variable {F : FTy → Type} [FloatOps F]

local notation "𝕄" => MT nD τ sig (HIx 1) (Elt F) ℕ UU ℕ

/-- No pipeline of the program prefetches a table. -/
abbrev noTables (p : Fin 2) : (pcfgs (F := F) p).Adm := (cfgs p).toPCfg_adm

/-- Both regions' proof data, with the arrays at `W` where either is entered. -/
def dats (W : Valuation τ sig (Elt F)) : (p : Fin 2) → (c : Dev nD) → Dat τ (Elt F) (HIx 1) ℕ UU ℕ (Pipeline.pin (pcfgs (F := F)) noTables p) c
  | ⟨0, _⟩, c => wDat W c
  | ⟨1, _⟩, c => mDat W c

/-- The staging waits are at the index below every level, and the core owes nothing. -/
theorem noDebt (p : Fin 2) : LevelCut (nD := nD) (τ := τ) (pcfgs (F := F)) noTables (none : HIx 1) (K (F := F)).L (K (F := F)).lev p (fun _ => 0) (fun _ => 0) where
  hι _ _ _ := Finset.mem_univ _
  hιb _ _ _ := Nat.le_refl _
  hD _ _ _ h := absurd h (Nat.lt_irrefl 0)

variable (W : Valuation τ sig (Elt F)) (S : Finset (DevRef τ sig))

/-! Each region's invariant is the scoped buffers that no window stages. -/

theorem weights_in (c : Dev nD) : iprop(Pipeline.scopedRest (Pipeline.pin (pcfgs (F := F)) noTables 0).spec c ∗ emp) ⊢ (dats W 0 c).Φ 0 := by
  show iprop(Pipeline.scopedRest spec1 c ∗ emp) ⊢ (Pipeline.scopedRest spec1 c : sProp 𝕄)
  exact sep_elim_left
theorem weights_out (c : Dev nD) : (dats W 0 c).Φ (Fin.last _) ⊢ iprop(Pipeline.scopedRest (Pipeline.pin (pcfgs (F := F)) noTables 0).spec c ∗ emp) := by
  show (Pipeline.scopedRest spec1 c : sProp 𝕄) ⊢ iprop(Pipeline.scopedRest spec1 c ∗ emp)
  iintro H; isplitl; · iexact H
  iempintro
theorem matmul_in (c : Dev nD) : iprop(Pipeline.scopedRest (Pipeline.pin (pcfgs (F := F)) noTables 1).spec c ∗ emp) ⊢ (dats W 1 c).Φ 0 := by
  show iprop(Pipeline.scopedRest spec2 c ∗ emp) ⊢ (Pipeline.scopedRest spec2 c : sProp 𝕄)
  exact sep_elim_left
theorem matmul_out (c : Dev nD) : (dats W 1 c).Φ (Fin.last _) ⊢ iprop(Pipeline.scopedRest (Pipeline.pin (pcfgs (F := F)) noTables 1).spec c ∗ emp) := by
  show (Pipeline.scopedRest spec2 c : sProp 𝕄) ⊢ iprop(Pipeline.scopedRest spec2 c ∗ emp)
  iintro H; isplitl; · iexact H
  iempintro

def wSeg : RegionSeg (pcfgs (F := F)) noTables (dats W) (none : HIx 1) defs₀ 𝒱₀ (K (F := F)).L (K (F := F)).lev 0 :=
  RegionSeg.ofHeldIn pcfgs noTables (dats W) none defs₀ 𝒱₀ (K (F := F)).L (K (F := F)).lev 0 (fun _ => 0) S (fun _ => iprop(emp)) (fun _ => iprop(emp))
    launch1.toP rfl (fun c => (weights_obligation W c).loose) (fun _ _ => rfl) (fun _ => rfl) (fun _ w => by match w with | 0 => rfl | 1 => rfl | 2 => rfl)
    (weights_in W) (weights_out W) (fun _ => 0) (noDebt 0) (fun _ => iprop(emp)) (fun _ => W) (fun _ _ => rfl)

def mSeg : RegionSeg (pcfgs (F := F)) noTables (dats W) (none : HIx 1) defs₀ 𝒱₀ (K (F := F)).L (K (F := F)).lev 1 :=
  RegionSeg.ofHeldIn pcfgs noTables (dats W) none defs₀ 𝒱₀ (K (F := F)).L (K (F := F)).lev 1 (fun _ => 0) S (fun _ => iprop(emp)) (fun _ => iprop(emp))
    launch2.toP rfl (fun c => (matmul_obligation W c).loose) (fun _ _ => rfl) (fun _ => rfl)
    (fun _ w => by match w with | 0 => rfl | 1 => rfl | 2 => rfl | 3 => rfl | 4 => rfl)
    (matmul_in W) (matmul_out W) (fun _ => 0) (noDebt 1) (fun _ => iprop(emp)) (fun _ => W) (fun _ _ => rfl)

theorem weights_pre (hS : arrRefs spec1 ⊆ S) (d : Dev nD) :
    iprop(held (SparseCore.T d) S W ∗ ((∃ Wd, owes (SparseCore.T d) (0 : CellTallies nD τ sig (HIx 1)) Wd) ∗ emp ∗ emp)) ⊢ (wSeg W S).pre d := by
  unfold wSeg
  exact RegionSeg.ofHeldIn_pre (pcs := pcfgs (F := F)) (a := noTables) (pdats := dats W) (ι := none) (defs₀ := defs₀) (𝒱₀ := 𝒱₀) (L := (K (F := F)).L) (lv := (K (F := F)).lev) (p := 0) (D := fun _ => 0)
    (S := S) (X := fun _ => iprop(emp)) (Y := fun _ => iprop(emp)) (b := fun _ => 0) (R := fun _ => iprop(emp)) (W := fun _ => W) hS d
theorem weights_after (d : Dev nD) : afterRegion (dats W 0 d) W = afterRegion (wDat W d) W := rfl
theorem weights_post (hS : arrRefs spec1 ⊆ S) (d : Dev nD) :
    (wSeg W S).post d ⊢ iprop(held (SparseCore.T d) S (afterRegion (wDat W d) W) ∗ ((∃ Wd, owes (SparseCore.T d) (0 : CellTallies nD τ sig (HIx 1)) Wd) ∗ emp ∗ emp)) := by
  rw [← weights_after]
  unfold wSeg
  exact RegionSeg.ofHeldIn_post (pcs := pcfgs (F := F)) (a := noTables) (pdats := dats W) (ι := none) (defs₀ := defs₀) (𝒱₀ := 𝒱₀) (L := (K (F := F)).L) (lv := (K (F := F)).lev) (p := 0) (D := fun _ => 0)
    (S := S) (X := fun _ => iprop(emp)) (Y := fun _ => iprop(emp)) (b := fun _ => 0) (R := fun _ => iprop(emp)) (W := fun _ => W) hS d

theorem matmul_pre (hS : arrRefs spec2 ⊆ S) (d : Dev nD) :
    iprop(held (SparseCore.T d) S W ∗ ((∃ Wd, owes (SparseCore.T d) (0 : CellTallies nD τ sig (HIx 1)) Wd) ∗ emp ∗ emp)) ⊢ (mSeg W S).pre d := by
  unfold mSeg
  exact RegionSeg.ofHeldIn_pre (pcs := pcfgs (F := F)) (a := noTables) (pdats := dats W) (ι := none) (defs₀ := defs₀) (𝒱₀ := 𝒱₀) (L := (K (F := F)).L) (lv := (K (F := F)).lev) (p := 1) (D := fun _ => 0)
    (S := S) (X := fun _ => iprop(emp)) (Y := fun _ => iprop(emp)) (b := fun _ => 0) (R := fun _ => iprop(emp)) (W := fun _ => W) hS d
theorem matmul_after (d : Dev nD) : afterRegion (dats W 1 d) W = afterRegion (mDat W d) W := rfl
theorem matmul_post (hS : arrRefs spec2 ⊆ S) (d : Dev nD) :
    (mSeg W S).post d ⊢ iprop(held (SparseCore.T d) S (afterRegion (mDat W d) W) ∗ ((∃ Wd, owes (SparseCore.T d) (0 : CellTallies nD τ sig (HIx 1)) Wd) ∗ emp ∗ emp)) := by
  rw [← matmul_after]
  unfold mSeg
  exact RegionSeg.ofHeldIn_post (pcs := pcfgs (F := F)) (a := noTables) (pdats := dats W) (ι := none) (defs₀ := defs₀) (𝒱₀ := 𝒱₀) (L := (K (F := F)).L) (lv := (K (F := F)).lev) (p := 1) (D := fun _ => 0)
    (S := S) (X := fun _ => iprop(emp)) (Y := fun _ => iprop(emp)) (b := fun _ => 0) (R := fun _ => iprop(emp)) (W := fun _ => W) hS d

/-- A region's call, in the program the SparseCore launch is laid over. -/
abbrev entryP (p : Fin 2) : Prog (TpuEff nD τ sig (Elt F) (ΛP (F := F)) .tc) PUnit := .op (.customCall (Pipeline.entry p) ()) .ret

/-- What a region's launch gives core `d`: its staging cells' states and the tokens of its transfers. -/
abbrev staged (p : Fin 2) (d : Dev nD) : sProp 𝕄 := iprop(Pipeline.cellsGhost cfgs EP p d ∗ Pipeline.toksInit cfgs EP p d)

theorem weights_step [∀ e, Nonempty (Elt F e)] (hS : arrRefs spec1 ⊆ S) (d : Dev nD) (Q : PUnit → sProp 𝕄) :
    iprop((iprop(boundary (SparseCore.T d) ∗ held (SparseCore.T d) S (afterRegion (wDat W d) W) ∗ ∃ Wd, owes (SparseCore.T d) (0 : CellTallies nD τ sig (HIx 1)) Wd) -∗ Q ⟨⟩)
        ∗ boundary (SparseCore.T d) ∗ held (SparseCore.T d) S W ∗ (∃ Wd, owes (SparseCore.T d) (0 : CellTallies nD τ sig (HIx 1)) Wd)
        ∗ levAts (K (F := F)).L (K (F := F)).lev ∗ staged 0 d)
      ⊢ wp frame (wpE ((K (F := F)).defs (D (F := F))) 𝒱 (SparseCore.T d) none) Set.univ
          (Prog.lift (.customCall (SparseCore.inner (Pipeline.entry 0)) ())) Q := by
  refine BI.Entails.trans ?_ ((K (F := F)).wp_liftProg (D (F := F)) 𝒱 (SparseCore.T d) Set.univ none (entryP 0) Q)
  refine BI.Entails.trans ?_ (RegionSeg.wp pcfgs noTables (dats W) none cellOf_inj EP defs₀ 𝒱₀ (K (F := F)).L (K (F := F)).lev (wSeg W S) d none (fun _ h => nomatch h) _ Q)
  change (_ : sProp 𝕄) ⊢ _
  iintro ⟨HQ, Hb, Hh, Ho, Hl, Hc, Ht⟩
  isplitl [HQ]
  · iintro ⟨Hb, Hp⟩
    ihave H := (weights_post W S hS d) $$ Hp
    icases H with ⟨Hh, Ho, -⟩
    rw [wp_ret]; imodintro
    iapply HQ
    isplitl [Hb]; · iexact Hb
    isplitl [Hh]; · iexact Hh
    iexact Ho
  isplitl [Hb]; · iexact Hb
  isplitl [Hh Ho]
  · iapply (weights_pre W S hS d)
    isplitl [Hh]; · iexact Hh
    isplitl [Ho]; · iexact Ho
    isplitl; · iempintro
    iempintro
  isplitl [Hl]; · iexact Hl
  isplitl [Hc]; · iexact Hc
  iexact Ht

theorem matmul_step [∀ e, Nonempty (Elt F e)] (hS : arrRefs spec2 ⊆ S) (d : Dev nD) (Q : PUnit → sProp 𝕄) :
    iprop((iprop(boundary (SparseCore.T d) ∗ held (SparseCore.T d) S (afterRegion (mDat W d) W) ∗ ∃ Wd, owes (SparseCore.T d) (0 : CellTallies nD τ sig (HIx 1)) Wd) -∗ Q ⟨⟩)
        ∗ boundary (SparseCore.T d) ∗ held (SparseCore.T d) S W ∗ (∃ Wd, owes (SparseCore.T d) (0 : CellTallies nD τ sig (HIx 1)) Wd)
        ∗ levAts (K (F := F)).L (K (F := F)).lev ∗ staged 1 d)
      ⊢ wp frame (wpE ((K (F := F)).defs (D (F := F))) 𝒱 (SparseCore.T d) none) Set.univ
          (Prog.lift (.customCall (SparseCore.inner (Pipeline.entry 1)) ())) Q := by
  refine BI.Entails.trans ?_ ((K (F := F)).wp_liftProg (D (F := F)) 𝒱 (SparseCore.T d) Set.univ none (entryP 1) Q)
  refine BI.Entails.trans ?_ (RegionSeg.wp pcfgs noTables (dats W) none cellOf_inj EP defs₀ 𝒱₀ (K (F := F)).L (K (F := F)).lev (mSeg W S) d none (fun _ h => nomatch h) _ Q)
  change (_ : sProp 𝕄) ⊢ _
  iintro ⟨HQ, Hb, Hh, Ho, Hl, Hc, Ht⟩
  isplitl [HQ]
  · iintro ⟨Hb, Hp⟩
    ihave H := (matmul_post W S hS d) $$ Hp
    icases H with ⟨Hh, Ho, -⟩
    rw [wp_ret]; imodintro
    iapply HQ
    isplitl [Hb]; · iexact Hb
    isplitl [Hh]; · iexact Hh
    iexact Ho
  isplitl [Hb]; · iexact Hb
  isplitl [Hh Ho]
  · iapply (matmul_pre W S hS d)
    isplitl [Hh]; · iexact Hh
    isplitl [Ho]; · iexact Ho
    isplitl; · iempintro
    iempintro
  isplitl [Hl]; · iexact Hl
  isplitl [Hc]; · iexact Hc
  iexact Ht

end Cert.Proof.Sc

end
-- ==== Proof.Launch.lean ====
/-
  The run of the whole program: the two reshapes in front of the SparseCore call, the call's launch over the thirty-two
  tiles, the reshape after it, the two TensorCore regions with a reshape between them, and the concatenation; every
  array's final contents.
-/
module

public import proofs.«01_k».proof.Proof.Deal
public import proofs.«01_k».proof.Proof.Regions

@[expose] public section

noncomputable section

namespace Cert.Proof.Sc

open Cert.KernelIdeal Cert.KernelIdeal.Gen

open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore.Cfg (HIx)

variable {F : FTy → Type}
local notation "𝕄" => MT nD τ sig (HIx 1) (Elt F) ℕ UU ℕ
variable [FloatOps F]

open Idealize.ShloMosaic.SparseCore.Cfg (HIx Pay)
open Idealize.ShloMosaic.Rounds
open Idealize.ShloMosaic.StableHlo (held held_sub_split held_congr wp_hlo_within)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ) (ρ : Dev nD → PrngReg)

/-! ## The arrays at each stage -/

/-- An array as the device names it. -/
abbrev arr (b : Ref sig .tc) : DevRef τ sig := Proc.devRef .tc b

abbrev opMem : HloOp τ sig (Elt F) := StableHlo.reshape main_arg1 main_v0 (rfl : (.f32 : EltTy) = .f32) shapeCasts_S64x4096x64_S64x4096x8x8
abbrev opSrc : HloOp τ sig (Elt F) := StableHlo.reshape main_arg0 main_v1 (rfl : (.f32 : EltTy) = .f32) shapeCasts_S64x64x64x64_S64x64x64x8x8
abbrev opOut : HloOp τ sig (Elt F) := StableHlo.reshape main_v2 main_v3 (rfl : (.f32 : EltTy) = .f32) shapeCasts_S32x64x64x8x8_S32x64x64x64

abbrev opRows : HloOp τ sig (Elt F) := StableHlo.reshape main_v4 main_v5 (rfl : (.f32 : EltTy) = .f32) shapeCasts_S64x64x4096_S4096x4096
abbrev opJoin : HloOp τ sig (Elt F) := StableHlo.binary main_v3 main_v6 main_v7 ((fun a b => concatenate S64x64x64x64 0 [⟨S32x64x64x64, a⟩, ⟨S32x64x64x64, b⟩] concatenates_S32x64x64x64_S32x64x64x64_S64x64x64x64_d0) : (⟨S32x64x64x64, .f32⟩ : BufTy).Contents (Elt F) → (⟨S32x64x64x64, .f32⟩ : BufTy).Contents (Elt F) → (⟨S64x64x64x64, .f32⟩ : BufTy).Contents (Elt F))

def V0 (d : Dev nD) : Valuation τ sig (Elt F) := fun b => m (d, b)
def V1 (d : Dev nD) : Valuation τ sig (Elt F) := (opMem (F := F)).result (V0 m d)
def V2 (d : Dev nD) : Valuation τ sig (Elt F) := (opSrc (F := F)).result (V1 m d)
/-- What the call computes. -/
def res (d : Dev nD) : S32x64x64x8x8.Idx → F .f32 := result (V2 m d (arr main_v0)) (V2 m d (arr main_arg2)) (V2 m d (arr main_arg3)) (V2 m d (arr main_arg4)) (V2 m d (arr main_v1))
def V3 (d : Dev nD) : Valuation τ sig (Elt F) := Function.update (V2 m d) (arr main_v2) (res m d)
def V4 (d : Dev nD) : Valuation τ sig (Elt F) := (opOut (F := F)).result (V3 m d)
def V5 (d : Dev nD) : Valuation τ sig (Elt F) := Pipeline.afterRegion (wDat (V4 m d) d) (V4 m d)
def V6 (d : Dev nD) : Valuation τ sig (Elt F) := (opRows (F := F)).result (V5 m d)
def V7 (d : Dev nD) : Valuation τ sig (Elt F) := Pipeline.afterRegion (mDat (V6 m d) d) (V6 m d)
def V8 (d : Dev nD) : Valuation τ sig (Elt F) := (opJoin (F := F)).result (V7 m d)

/-- Every array, and those of the call. -/
def arrs : Finset (DevRef τ sig) := {arr main_arg0, arr main_arg1, arr main_arg2, arr main_arg3, arr main_arg4, arr main_v0, arr main_v1, arr main_v2, arr main_v3, arr main_v4, arr main_v5, arr main_v6, arr main_v7}
def callArrs : Finset (DevRef τ sig) := {arr main_v0, arr main_arg2, arr main_arg3, arr main_arg4, arr main_v1, arr main_v2}

theorem V2_of_V0 (d : Dev nD) {b : Ref sig .tc} (h0 : b ≠ main_v0) (h1 : b ≠ main_v1) : V2 m d (arr b) = m ((SparseCore.T d).loc b) := by
  unfold V2 V1
  rw [StableHlo.reshape_result_ne (h := h1), StableHlo.reshape_result_ne (h := h0)]
  rfl

theorem V4_arg (d : Dev nD) {b : Ref sig .tc} (h0 : b ≠ main_v0) (h1 : b ≠ main_v1) (h2 : b ≠ main_v2) (h3 : b ≠ main_v3) : V4 m d (arr b) = m ((SparseCore.T d).loc b) := by
  unfold V4 V3
  rw [StableHlo.reshape_result_ne (h := h3), Function.update_of_ne (fun e => h2 (Proc.devRef_injective _ e))]
  exact V2_of_V0 m d h0 h1

theorem V5_keep (d : Dev nD) {b : Ref sig .tc} (h : b ≠ main_v4) : V5 m d (arr b) = V4 m d (arr b) :=
  Pipeline.afterRegion_keeps _ _ launch1.win.arr_inj (wDat_A _ _) b fun w e => by
    match w with
    | 0 => rfl
    | 1 => rfl
    | 2 => exact absurd e.symm h
theorem V6_keep (d : Dev nD) {b : Ref sig .tc} (h : b ≠ main_v5) : V6 m d (arr b) = V5 m d (arr b) := StableHlo.reshape_result_ne (h := h) ..
theorem V7_keep (d : Dev nD) {b : Ref sig .tc} (h : b ≠ main_v6) : V7 m d (arr b) = V6 m d (arr b) :=
  Pipeline.afterRegion_keeps _ _ launch2.win.arr_inj (mDat_A _ _) b fun w e => by
    match w with
    | 0 => rfl
    | 1 => rfl
    | 2 => rfl
    | 3 => rfl
    | 4 => exact absurd e.symm h
theorem V8_keep (d : Dev nD) {b : Ref sig .tc} (h : b ≠ main_v7) : V8 m d (arr b) = V7 m d (arr b) := StableHlo.binary_result_ne (h := h) ..

/-- Before and after the matrix product the arguments are as launched. -/
theorem V6_arg (d : Dev nD) {b : Ref sig .tc} (h0 : b ≠ main_v0) (h1 : b ≠ main_v1) (h2 : b ≠ main_v2) (h3 : b ≠ main_v3) (h4 : b ≠ main_v4)
    (h5 : b ≠ main_v5) : V6 m d (arr b) = m ((SparseCore.T d).loc b) := by
  rw [V6_keep m d h5, V5_keep m d h4, V4_arg m d h0 h1 h2 h3]
theorem V8_arg (d : Dev nD) {b : Ref sig .tc} (h0 : b ≠ main_v0) (h1 : b ≠ main_v1) (h2 : b ≠ main_v2) (h3 : b ≠ main_v3) (h4 : b ≠ main_v4)
    (h5 : b ≠ main_v5) (h6 : b ≠ main_v6) (h7 : b ≠ main_v7) : V8 m d (arr b) = m ((SparseCore.T d).loc b) := by
  rw [V8_keep m d h7, V7_keep m d h6, V6_arg m d h0 h1 h2 h3 h4 h5]

theorem V3_rest (d : Dev nD) {b : DevRef τ sig} (hb : b ∉ callArrs) : V3 m d b = V2 m d b :=
  Function.update_of_ne (fun e => hb (by rw [e]; decide)) _ _

theorem held_call (d : Dev nD) (W : Valuation τ sig (Elt F)) : (held (SparseCore.T d) callArrs W : sProp 𝕄)
    = iprop(((SparseCore.T d).loc main_v0 ↦{fullShare} W (arr main_v0)) ∗ ((SparseCore.T d).loc main_arg2 ↦{fullShare} W (arr main_arg2)) ∗
      ((SparseCore.T d).loc main_arg3 ↦{fullShare} W (arr main_arg3)) ∗ ((SparseCore.T d).loc main_arg4 ↦{fullShare} W (arr main_arg4)) ∗
      ((SparseCore.T d).loc main_v1 ↦{fullShare} W (arr main_v1)) ∗ ((SparseCore.T d).loc main_v2 ↦{fullShare} W (arr main_v2))) := by
  unfold held callArrs
  rw [SparseCore.bigSep_insert' (by decide), SparseCore.bigSep_insert' (by decide), SparseCore.bigSep_insert' (by decide),
    SparseCore.bigSep_insert' (by decide), SparseCore.bigSep_insert' (by decide), bigSep_singleton]

theorem unscoped_held (d : Dev nD) : (unscopedBufs d (fun b => m ((SparseCore.T d).loc b)) : sProp 𝕄) = held (SparseCore.T d) arrs (V0 m d) := by
  unfold unscopedBufs held
  rw [show (Finset.univ.filter fun b : Ref sig .tc => ¬ b.isScoped) = {main_arg0, main_arg1, main_arg2, main_arg3, main_arg4, main_v0, main_v1, main_v2, main_v3, main_v4, main_v5, main_v6, main_v7} by decide,
    show arrs = ({main_arg0, main_arg1, main_arg2, main_arg3, main_arg4, main_v0, main_v1, main_v2, main_v3, main_v4, main_v5, main_v6, main_v7} : Finset (Ref sig .tc)).image (Proc.devRef .tc) from rfl,
    SparseCore.bigSep_image_of_injOn (fun a _ b _ e => Proc.devRef_injective _ e)]
  rfl

/-! ## The call's payloads -/

/-- A tile's parts of the arrays at the call, the result at `f`. -/
abbrev parts (d : Dev nD) (f : S32x64x64x8x8.Idx → F .f32) (c : Fin 2) (j : Fin 16) : sProp 𝕄 :=
  Parts d (coordsV c j) (V2 m d (arr main_v0)) (V2 m d (arr main_arg2)) (V2 m d (arr main_arg3)) (V2 m d (arr main_arg4)) (V2 m d (arr main_v1)) (tileShare c j) f

instance parts_storable (d : Dev nD) (f : S32x64x64x8x8.Idx → F .f32) (c : Fin 2) (j : Fin 16) : BI.Storable (upEmb : UEmb _ 𝕄) (parts m d f c j) := by
  unfold parts Parts outS; infer_instance

theorem nCore_zero : (K (F := F)).nCore 0 = 2 := rfl
theorem nSub_zero : (K (F := F)).nSub 0 = 16 := rfl

/-- What the call hands its tiles and takes back. -/
def P : (K (F := F)).Pay (nD := nD) (Val := Elt F) (Name := ℕ) (U := UU) where
  st := fun q d c => match q with | 0 => bigSep Finset.univ fun j : Fin 16 => parts m d (V2 m d (arr main_v2)) (Fin.cast nCore_zero c) j
  dn := fun q d c => match q with | 0 => bigSep Finset.univ fun j : Fin 16 => parts m d (res m d) (Fin.cast nCore_zero c) j
  go := fun q d c j => match q with | 0 => parts m d (V2 m d (arr main_v2)) (Fin.cast nCore_zero c) (Fin.cast nSub_zero j)
  td := fun q d c j => match q with | 0 => parts m d (res m d) (Fin.cast nCore_zero c) (Fin.cast nSub_zero j)
  x := fun _ _ => iprop(emp)

instance P_storable : (P (F := F) m).IsStorable where
  st q d c := match q with | 0 => by unfold P; dsimp only; infer_instance
  dn q d c := match q with | 0 => by unfold P; dsimp only; infer_instance
  go q d c j := match q with | 0 => by unfold P; dsimp only; infer_instance
  td q d c j := match q with | 0 => by unfold P; dsimp only; infer_instance

/-! ## The obligations of the launch -/

theorem defs₀_vector (c : Fin τ.nSC) (s : Fin τ.nSub) :
    defs₀ (F := F) (.scVector c s) 0 () = SparseCore.onTile hcore0 hsub0 (fun c s => cc0_sc_kernel (coordsV c s) memM (Memref.isWhole_whole _) indM (Memref.isWhole_whole _) vM (Memref.isWhole_whole _) rM (Memref.isWhole_whole _) srcM (Memref.isWhole_whole _) outM (Memref.isWhole_whole _) ch0 (Memref.isWhole_whole _) ch1 (Memref.isWhole_whole _) indB (Memref.isWhole_whole _) vB (Memref.isWhole_whole _) rB (Memref.isWhole_whole _) sB (Memref.isWhole_whole _) oB (Memref.isWhole_whole _) cc0_scratch7 cc0_scratch8 cc0_scratch9 cc0_scratch10 cc0_scoped0 cc0_scoped1 cc0_scoped2) ⟨⟩ c s := rfl

theorem tile_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every index of the neighbours is a row of the table. -/
def InRange : Prop := ∀ (d : Dev nD) (x : S64x24x64.Idx), (m ((SparseCore.T d).loc main_arg2) x : BitVec 32).toNat < 4096

theorem tileObl (hm : InRange m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hI : ∀ x, (V2 m d (arr main_arg2) x : BitVec 32).toNat < 4096 := fun x => by
    rw [V2_of_V0 m d (by decide) (by decide)]; exact hm d x
  exact (tile_body d (coordsV ⟨_, hc.1⟩ ⟨_, hc.2⟩) (V2 m d (arr main_v0)) (V2 m d (arr main_arg2)) (V2 m d (arr main_arg3)) (V2 m d (arr main_arg4))
    (V2 m d (arr main_v1)) (V2 m d (arr main_v2)) (tileShare (Fin.cast nCore_zero c) (Fin.cast nSub_zero i)) O W facts hI hO).trans
    (wp_mono frame _ _ fun _ => tile_post)

theorem bigSep_subs (Φ : Fin 16 → sProp 𝕄) : (bigSep Finset.univ fun j : Fin ((K (F := F)).nSub 0) => Φ (Fin.cast nSub_zero j)) = bigSep Finset.univ Φ :=
  bigSep_congr fun _ _ => congrArg Φ (Fin.ext rfl)
theorem bigSep_cores (Φ : Fin 2 → sProp 𝕄) : (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show (bigSep Finset.univ fun j : Fin 16 => parts m d (V2 m d (arr main_v2)) (Fin.cast nCore_zero c) j) ⊢ |={Set.univ}=> iprop(
    (bigSep Finset.univ fun j : Fin ((K (F := F)).nSub 0) => parts m d (V2 m d (arr main_v2)) (Fin.cast nCore_zero c) (Fin.cast nSub_zero j)) ∗
    ((bigSep Finset.univ fun j : Fin ((K (F := F)).nSub 0) => parts m d (res m d) (Fin.cast nCore_zero c) (Fin.cast nSub_zero j)) -∗
      bigSep Finset.univ fun j : Fin 16 => parts m d (res m d) (Fin.cast nCore_zero c) j))
  rw [bigSep_subs, bigSep_subs]
  iintro H; imodintro
  isplitl [H]; · iexact H
  iintro H; iexact H

/-- The launch's own part of the algebra: the launch's rounds, and those of the TensorCore regions' staging cells. -/
def u₀ : UU := ((initOf (K (F := F)).hsCells (K (F := F)).hsToks, initOf (Pipeline.cells cfgs cellOf_inj) (Pipeline.launchToks cfgs cellOf_inj)), 1)

/-- What the launch deals a core for its regions. -/
abbrev regionGhost (d : Dev nD) : sProp 𝕄 :=
  iprop((bigSep Finset.univ fun p : Fin 2 => Pipeline.cellsGhost cfgs EP p d) ∗ bigSep Finset.univ fun p : Fin 2 => Pipeline.toksInit cfgs EP p d)

theorem hu₀ : (ownU (u₀ (F := F)) : sProp 𝕄)
    ⊢ |={Set.univ}=> iprop(BI.own (EH (initOf (K (F := F)).hsCells (K (F := F)).hsToks)) ∗ (bigSep Finset.univ fun d : Dev nD => regionGhost d)
        ∗ bigSep Finset.univ fun thr : Thread nD τ => bigSep Finset.univ fun q : Fin 1 => (P m).x q thr) := by
  have e : ∀ {I : Type} (s : Finset I), (bigSep s fun _ => iprop(emp)) = (iprop(emp) : sProp 𝕄) := fun s => bigSep_emp_const s
  unfold u₀ P
  dsimp only
  simp only [e]
  iintro Hu
  ihave H := (ownU_pair _ _) $$ Hu
  icases H with ⟨HL, -⟩
  ihave H := (own_pair_emb _ _ _) $$ HL
  icases H with ⟨HH, HP⟩
  imod (Pipeline.fund_ghost cfgs EP cellOf_inj) $$ HP with ⟨Hc, Ht⟩
  imodintro
  isplitl [HH]; · iexact HH
  isplitl [Hc Ht]
  · unfold regionGhost
    rw [bigSep_sep']
    isplitl [Hc]; · iexact Hc
    iexact Ht
  iempintro

/-- Both regions' parts of what a core is dealt. -/
theorem regionGhost_split (d : Dev nD) : (regionGhost d : sProp 𝕄) ⊢ iprop(staged 0 d ∗ staged 1 d) := by
  have e : ∀ Φ : Fin 2 → sProp 𝕄, bigSep Finset.univ Φ = iprop(Φ 0 ∗ Φ 1) := fun Φ => by
    rw [show (Finset.univ : Finset (Fin 2)) = {0, 1} by decide, SparseCore.bigSep_insert' (by decide), bigSep_singleton]
  unfold regionGhost staged
  rw [e, e]
  iintro ⟨⟨Hc0, Hc1⟩, Ht0, Ht1⟩
  isplitl [Hc0 Ht0]
  · isplitl [Hc0]; · iexact Hc0
    iexact Ht0
  isplitl [Hc1]; · iexact Hc1
  iexact Ht1

/-- After the only call the launch bounds no wait of the core: every level of its cells is below. -/
theorem anyWait (d : Dev nD) (W : Waits sig (HIx 1)) : (K (F := F)).WBelow (SparseCore.T d) W (8 * SparseCore.Cfg.Blocks.fst 1 1 1) := by
  rintro ⟨sm, i⟩ -
  match i with
  | none => exact Nat.zero_le _
  | some q => match q with | 0 => exact (by decide : 8 * 0 + 6 + 1 ≤ 8 * 1)

/-! ## The host's program -/

theorem deal_st (d : Dev nD) : (bigSep Finset.univ fun c : Fin ((K (F := F)).nCore 0) => (P m).st 0 d c) = held (SparseCore.T d) callArrs (V2 m d) := by
  rw [held_call, deal_all]
  exact bigSep_cores fun c => bigSep Finset.univ fun j : Fin 16 => parts m d (V2 m d (arr main_v2)) c j

theorem deal_dn (d : Dev nD) : (bigSep Finset.univ fun c : Fin ((K (F := F)).nCore 0) => (P m).dn 0 d c) = held (SparseCore.T d) callArrs (V3 m d) := by
  rw [held_call]
  have e : ∀ {b : Ref sig .tc}, b ≠ main_v2 → V3 m d (arr b) = V2 m d (arr b) := fun h => Function.update_of_ne (fun e => h (Proc.devRef_injective _ e)) _ _
  rw [e (b := main_v0) (by decide), e (b := main_arg2) (by decide), e (b := main_arg3) (by decide), e (b := main_arg4) (by decide), e (b := main_v1) (by decide),
    show V3 m d (arr main_v2) = res m d from Function.update_self _ _ _, deal_all]
  exact bigSep_cores fun c => bigSep Finset.univ fun j : Fin 16 => parts m d (res m d) c j

theorem callArrs_sub : callArrs ⊆ arrs := by decide
theorem opMem_sub : (opMem (F := F)).bufs ⊆ arrs := show ({arr main_arg1, arr main_v0} : Finset (DevRef τ sig)) ⊆ arrs by decide
theorem opSrc_sub : (opSrc (F := F)).bufs ⊆ arrs := show ({arr main_arg0, arr main_v1} : Finset (DevRef τ sig)) ⊆ arrs by decide
theorem opOut_sub : (opOut (F := F)).bufs ⊆ arrs := show ({arr main_v2, arr main_v3} : Finset (DevRef τ sig)) ⊆ arrs by decide

theorem opRows_sub : (opRows (F := F)).bufs ⊆ arrs := show ({arr main_v4, arr main_v5} : Finset (DevRef τ sig)) ⊆ arrs by decide
theorem opJoin_sub : (opJoin (F := F)).bufs ⊆ arrs := show ({arr main_v3, arr main_v6, arr main_v7} : Finset (DevRef τ sig)) ⊆ arrs by decide
theorem weights_sub : Pipeline.arrRefs (τ := τ) spec1 ⊆ arrs := by decide
theorem matmul_sub : Pipeline.arrRefs (τ := τ) spec2 ⊆ arrs := by decide

/-- What the host's program leaves: every array at its final contents. -/
abbrev FIN (d : Dev nD) : sProp 𝕄 := held (SparseCore.T d) arrs (V8 m d)

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ regionGhost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hh, Hts, -⟩, Hg⟩
  iapply (wp_hlo_within 𝒱 (SparseCore.T d) none Set.univ (op := opMem) (S := arrs) opMem_sub (V := V0 m d)) $$ [Hb Hh]
  · isplitl [Hb] <;> iassumption
  iintro ⟨Hb, Hh⟩
  rw [wp_ret]; imodintro
  iapply (wp_hlo_within 𝒱 (SparseCore.T d) none Set.univ (op := opSrc) (S := arrs) opSrc_sub (V := V1 m d)) $$ [Hb Hh]
  · isplitl [Hb]; · iexact Hb
    unfold V1; iexact Hh
  iintro ⟨Hb, Hh⟩
  rw [wp_ret]; imodintro
  ihave Hh := (show (held (SparseCore.T d) arrs ((opSrc (F := F)).result (V1 m d)) : sProp 𝕄) ⊢ _ from Entails.of_eq (held_sub_split (SparseCore.T d) callArrs_sub (V2 m d))) $$ Hh
  icases Hh with ⟨Hc, Hr⟩
  iapply ((K (F := F)).wp_run (D (F := F)) 𝒱 (EH := EH) (P := P m) κ d 0) $$ [Hst Hc Hb Hr Hts Hg]
  isplitr; · iexact Hctx
  isplitl [Hst]; · iexact Hst
  isplitl [Hc]
  · rw [deal_st]; iexact Hc
  iintro ⟨Hst, Hdn⟩
  ihave Hc := (Entails.of_eq (deal_dn m d)) $$ Hdn
  ihave Hr := (Entails.of_eq (held_congr (SparseCore.T d) (S := arrs \ callArrs) (V := V2 m d) (V' := V3 m d) (fun b hb =>
    (V3_rest m d (Finset.mem_sdiff.mp hb).2).symm))) $$ Hr
  ihave Hh := (Entails.of_eq (held_sub_split (SparseCore.T d) callArrs_sub (V3 m d)).symm) $$ [Hc Hr]
  · isplitl [Hc] <;> iassumption
  iapply (wp_hlo_within 𝒱 (SparseCore.T d) none Set.univ (op := opOut) (S := arrs) opOut_sub (V := V3 m d)) $$ [Hb Hh]
  · isplitl [Hb] <;> iassumption
  iintro ⟨Hb, Hh⟩
  rw [wp_ret]; imodintro
  ihave Hg := (regionGhost_split d) $$ Hg
  icases Hg with ⟨Hg0, Hg1⟩
  unfold SparseCore.Cfg.tcSt
  icases Hst with ⟨⟨%Wd, -, Ho⟩, Hst⟩
  rw [show (K (F := F)).Otc d ((0 : Fin 1).val + 1) = (0 : CellTallies nD τ sig (HIx 1)) from (K (F := F)).Otc_end d (Nat.le_refl 1)]
  iapply (weights_step (V4 m d) arrs weights_sub d _)
  isplitl [Hst Hts Hg1]
  · iintro ⟨Hb, Hh, Ho⟩
    iapply (wp_hlo_within 𝒱 (SparseCore.T d) none Set.univ (op := opRows) (S := arrs) opRows_sub (V := V5 m d)) $$ [Hb Hh]
    · isplitl [Hb]; · iexact Hb
      unfold V5; iexact Hh
    iintro ⟨Hb, Hh⟩
    rw [wp_ret]; imodintro
    iapply (matmul_step (V6 m d) arrs matmul_sub d _)
    isplitl [Hst Hts]
    · iintro ⟨Hb, Hh, %W', Ho⟩
      iapply (wp_hlo_within 𝒱 (SparseCore.T d) none Set.univ (op := opJoin) (S := arrs) opJoin_sub (V := V7 m d)) $$ [Hb Hh]
      · isplitl [Hb]; · iexact Hb
        unfold V7; iexact Hh
      iintro ⟨Hb, Hh⟩
      rw [wp_ret]; imodintro; imodintro
      isplitl [Ho Hst]
      · isplitl [Ho]
        · iexists W'; isplitr
          · ipureintro; exact anyWait d W'
          rw [show (K (F := F)).Otc d 1 = (0 : CellTallies nD τ sig (HIx 1)) from (K (F := F)).Otc_end d (Nat.le_refl 1)]
          iexact Ho
        iexact Hst
      isplitl [Hh]; · iexact Hh
      isplitl [Hb] <;> iassumption
    isplitl [Hb]; · iexact Hb
    isplitl [Hh]; · unfold V6; iexact Hh
    isplitl [Ho]; · iexact Ho
    isplitr; · iapply ((K (F := F)).ctx_levAts κ); iexact Hctx
    iexact Hg1
  isplitl [Hb]; · iexact Hb
  isplitl [Hh]; · unfold V4; iexact Hh
  isplitl [Ho]; · iexists Wd; iexact Ho
  isplitr; · iapply ((K (F := F)).ctx_levAts κ); iexact Hctx
  iexact Hg0

/-- What the final memory holds. -/
def fq (d : Dev nD) (s' : Phys nD τ sig (Elt F)) : Prop := ∀ b ∈ arrs, s'.mem.mem (d, b) = V8 m d b

theorem hfin (d : Dev nD) (s' : Phys nD τ sig (Elt F)) : iprop(FIN m d ∗ SI s') ⊢ (⌜fq m d s'⌝ : sProp 𝕄) := by
  refine (forall_intro fun b => ?_).trans (pure_forall (φ := fun b => b ∈ arrs → s'.mem.mem (d, b) = V8 m d b)).2
  refine (forall_intro fun hb => ?_).trans (pure_forall (φ := fun _ : b ∈ arrs => s'.mem.mem (d, b) = V8 m d b)).2
  unfold FIN held
  rw [SparseCore.bigSep_erase' hb]
  iintro ⟨⟨H, -⟩, HSI⟩
  ihave H := (SI_pointsTo_agree (st := s') (ℓ := (d, b)) (I := Finset.univ) (q := fullShare) (f := V8 m d b)) $$ [HSI H]
  · isplitl [HSI] <;> iassumption
  icases H with %h
  ipureintro; exact funext fun i => h i (Finset.mem_univ i)

/-- The final state of the program. -/
def QC : PUnit × MemSt nD τ sig (Elt F) → Prop := fun r => (∀ c : Dev nD, ∀ b ∈ arrs, r.2.mem (c, b) = V8 m c b) ∧ r.2.sem = fun _ => 0

/-- The program runs, and leaves every array at its final contents and every semaphore at rest. -/
theorem run_main [∀ e, Nonempty (Elt F e)] (hm : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hm)
    (fun q _ => match q with | 0 => SparseCore.Cfg.VecSplit.of_plain (vecSplit m))
    m ρ main (fun d => regionGhost d) (FIN m) (u₀ (F := F)) (sep_elim_left.trans (hu₀ m)) (hmain m ρ) (fq m) (hfin m) (QC m) (fun _ h hz => ⟨h, hz⟩)

end Cert.Proof.Sc
-- ==== Proof.Algebra.lean ====
/-
  The arithmetic of the value claim on the extended reals: what the precondition says of the arguments, the accumulated
  sum as a sum over the neighbours, and the scale moved inside it.
-/
module

public import proofs.«01_k».proof.Proof.Launch
public import proofs.«01_k».proof.Proof.Gen.Pre_in_range
public import proofs.«01_k».proof.Proof.Gen.Pre_admissible
public import Idealize.ShloMosaic.Lib.ReduceAll

@[expose] public section

noncomputable section

namespace Cert.Proof.Sc

open Cert.KernelIdeal Cert.KernelIdeal.Gen

open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore.Cfg (HIx)

variable {F : FTy → Type}
local notation "𝕄" => MT nD τ sig (HIx 1) (Elt F) ℕ UU ℕ
variable [FloatOps F]

/-! ## What the preconditions say -/

/-- A finite extended real is a real number. -/
def Finite (x : EReal) : Prop := ∃ a : ℝ, x = (a : EReal)

theorem finite_of_abs_lt {x : Ideal .f32} (h : FloatOps.cmpf .olt (FloatOps.hostAbsf x) (FloatOps.ofBits (F := Ideal) .f32 0x7F800000#32) = 1#1) : Finite x := by
  have e : (FloatOps.ofBits (F := Ideal) .f32 0x7F800000#32 : EReal) = ⊤ := by
    show Ideal.ofBits .f32 0x7F800000#32 = ⊤
    simp [Ideal.ofBits, Ideal.ieee]
  have h' : max (x : EReal) (-x) < ⊤ := by
    by_contra hn
    have : (FloatOps.cmpf .olt (FloatOps.hostAbsf x) (FloatOps.ofBits (F := Ideal) .f32 0x7F800000#32)) = 0#1 := by
      show BitVec.ofBool (decide (max (x : EReal) (-x) < (FloatOps.ofBits (F := Ideal) .f32 0x7F800000#32 : EReal))) = 0#1
      rw [e, decide_eq_false hn]; rfl
    rw [this] at h; exact absurd h (by decide)
  have h1 : (x : EReal) ≠ ⊤ := fun e => by rw [e] at h'; simp at h'
  have h2 : (x : EReal) ≠ ⊥ := fun e => by rw [e] at h'; simp at h'
  exact ⟨(x : EReal).toReal, (EReal.coe_toReal h1 h2).symm⟩

theorem andi_one {a b : BitVec 1} (h : IntOp.andi a b = 1#1) : a = 1#1 ∧ b = 1#1 := by
  rcases BitVec.eq_zero_or_eq_one a with rfl | rfl <;> rcases BitVec.eq_zero_or_eq_one b with rfl | rfl <;> first | exact ⟨rfl, rfl⟩ | exact absurd h (by decide)

theorem lt_of_checks {x : BitVec 32} (h : IntOp.andi (IntOp.cmpi .sge x 0#32) (IntOp.cmpi .slt x 4096#32) = 1#1) : x.toNat < 4096 := by
  obtain ⟨h0, h1⟩ := andi_one h
  have ob : ∀ {b : Bool}, BitVec.ofBool b = 1#1 → b = true := fun {b} => by cases b <;> decide
  have h0 := ob h0
  have h1 := ob h1
  simp only [BitVec.sle_eq_decide, BitVec.slt_eq_decide, decide_eq_true_eq, BitVec.toInt_eq_toNat_cond, BitVec.toNat_ofNat, Nat.reducePow, Nat.reduceMod] at h0 h1
  omega

instance : Subsingleton Cert.Pre_in_range.S_.Idx := ⟨fun _ _ => funext fun a => a.elim0⟩
instance : Subsingleton Cert.Pre_admissible.S_.Idx := ⟨fun _ _ => funext fun a => a.elim0⟩

theorem range_of_pre {a0 : S64x64x64x64.Idx → F .f32} {a1 : S64x4096x64.Idx → F .f32} {a2 : S64x24x64.Idx → BitVec 32} {a3 : S64x24x64.Idx → F .f32}
    {a4 : S64x8x64.Idx → F .f32} (h : Cert.Pre_in_range.fn (F := F) a0 a1 a2 a3 a4 = fun _ => 1#1) (x : S64x24x64.Idx) : (a2 x).toNat < 4096 := by
  have e := congrFun h ix0
  simp only [Cert.Pre_in_range.fn] at e
  exact lt_of_checks (Host.reduce_andi_all _ _ _ _ _ e x)

/-- What the second precondition gives. -/
theorem admissible_of_pre {a0 : S64x64x64x64.Idx → Ideal .f32} {a1 : S64x4096x64.Idx → Ideal .f32} {a2 : S64x24x64.Idx → BitVec 32} {a3 : S64x24x64.Idx → Ideal .f32}
    {a4 : S64x8x64.Idx → Ideal .f32} (h : Cert.Pre_admissible.fn (F := Ideal) a0 a1 a2 a3 a4 = fun _ => 1#1) :
    (∀ x, (a2 x).toNat < 4096) ∧ (∀ x, Finite (a1 x)) ∧ (∀ x, Finite (a3 x)) ∧ ∀ x, Finite (a4 x) := by
  have e := congrFun h ix0
  simp only [Cert.Pre_admissible.fn, Cert.Pre_admissible.fn_part1] at e
  obtain ⟨e, e4⟩ := andi_one e
  obtain ⟨e, e3⟩ := andi_one e
  obtain ⟨e2, e1⟩ := andi_one e
  exact ⟨fun x => lt_of_checks (Host.reduce_andi_all _ _ _ _ _ e2 x), fun x => finite_of_abs_lt (Host.reduce_andi_all _ _ _ _ _ e1 x),
    fun x => finite_of_abs_lt (Host.reduce_andi_all _ _ _ _ _ e3 x), fun x => finite_of_abs_lt (Host.reduce_andi_all _ _ _ _ _ e4 x)⟩

/-! ## The sums -/

theorem acc_range (g : S4096x8.Idx → Ideal .f32) (I : S16x20x64.Idx → BitVec 32) (V : S16x20x64.Idx → Ideal .f32) (p : Fin 16) (c : Fin 64) (c2 : Fin 8) (n : ℕ) :
    (acc g I V p c c2 n : EReal) = ∑ t ∈ Finset.range n, (term g I V p c c2 (Fin.ofNat 20 t) : EReal) := by
  induction n with
  | zero =>
    rw [Finset.sum_range_zero]
    show Ideal.ofBits .f32 0x00000000#32 = 0
    simp [Ideal.ofBits, Ideal.ieee]
  | succ n ih =>
    rw [Finset.sum_range_succ, ← ih]
    rfl

/-- The accumulated sum is the sum over the twenty neighbours. -/
theorem acc_sum (g : S4096x8.Idx → Ideal .f32) (I : S16x20x64.Idx → BitVec 32) (V : S16x20x64.Idx → Ideal .f32) (p : Fin 16) (c : Fin 64) (c2 : Fin 8) :
    (acc g I V p c c2 20 : EReal) = ∑ t : Fin 20, (V (ix3 p t c) : EReal) * Ideal.exp (g (ix2 (Fin.ofNat 4096 (I (ix3 p t c)).toNat) c2)) := by
  rw [acc_range, Finset.sum_range]
  refine Finset.sum_congr rfl fun t _ => ?_
  rw [show Fin.ofNat 20 t.val = t from Fin.ext (Nat.mod_eq_of_lt t.isLt)]
  rfl

theorem finite_exp {x : EReal} (h : Finite x) : Finite (Ideal.exp x) := by
  obtain ⟨a, rfl⟩ := h; exact ⟨Real.exp a, rfl⟩

/-- The scale times the sum is the sum of the scaled terms, for finite numbers. -/
theorem scale_sum {r : EReal} {v e : Fin 20 → EReal} (hr : Finite r) (hv : ∀ t, Finite (v t)) (he : ∀ t, Finite (e t)) :
    r * ∑ t, v t * e t = ∑ t, (e t * r) * v t := by
  obtain ⟨r, rfl⟩ := hr
  choose v' hv using hv
  choose e' he using he
  simp only [hv, he, ← EReal.coe_mul]
  have cs : ∀ f : Fin 20 → ℝ, (∑ t, (f t : EReal)) = ((∑ t, f t : ℝ) : EReal) := fun f => (map_sum (⟨⟨fun x : ℝ => (x : EReal), EReal.coe_zero⟩, EReal.coe_add⟩ : ℝ →+ EReal) f Finset.univ).symm
  rw [cs, cs, ← EReal.coe_mul, Finset.mul_sum]
  refine congrArg _ (Finset.sum_congr rfl fun t _ => ?_)
  ring

/-- A neighbour's weight at its own row, zero at another. -/
def hit (n : BitVec 32) (v : EReal) (k : Fin 4096) : EReal := if BitVec.ofNat 32 k.val = n then v else 0

theorem hit_iff {n : BitVec 32} (h : n.toNat < 4096) (k : Fin 4096) : BitVec.ofNat 32 k.val = n ↔ (⟨n.toNat, h⟩ : Fin 4096) = k := by
  have hk := k.isLt
  constructor
  · rintro rfl
    exact Fin.ext (by show (BitVec.ofNat 32 k.val).toNat = k.val; rw [BitVec.toNat_ofNat]; omega)
  · rintro rfl
    exact BitVec.eq_of_toNat_eq (by rw [BitVec.toNat_ofNat]; show n.toNat % 2 ^ 32 = n.toNat; omega)

/-- The product of a row of weights is the sum over the neighbours, for finite numbers. -/
theorem hit_sum {n : Fin 20 → BitVec 32} (hn : ∀ t, (n t).toNat < 4096) {r : EReal} {v : Fin 20 → EReal} {E : Fin 4096 → EReal} (hr : Finite r)
    (hv : ∀ t, Finite (v t)) (hE : ∀ k, Finite (E k)) :
    (∑ k, (∑ t, hit (n t) (v t) k) * E k) * r = ∑ t, (E ⟨(n t).toNat, hn t⟩ * r) * v t := by
  obtain ⟨r, rfl⟩ := hr
  choose v' hv using hv
  choose E' hE using hE
  obtain rfl : v = fun t => (v' t : EReal) := funext hv
  obtain rfl : E = fun k => (E' k : EReal) := funext hE
  have cs : ∀ {ι : Type} [Fintype ι] (f : ι → ℝ), (∑ t, (f t : EReal)) = ((∑ t, f t : ℝ) : EReal) := fun f =>
    (map_sum (⟨⟨fun x : ℝ => (x : EReal), EReal.coe_zero⟩, EReal.coe_add⟩ : ℝ →+ EReal) f Finset.univ).symm
  have ch : ∀ t k, hit (n t) (v' t : EReal) k = ((if (⟨(n t).toNat, hn t⟩ : Fin 4096) = k then v' t else 0 : ℝ) : EReal) := fun t k => by
    unfold hit
    by_cases e : (⟨(n t).toNat, hn t⟩ : Fin 4096) = k
    · rw [if_pos ((hit_iff (hn t) k).mpr e), if_pos e]
    · rw [if_neg fun e' => e ((hit_iff (hn t) k).mp e'), if_neg e, EReal.coe_zero]
  simp only [ch, cs, ← EReal.coe_mul]
  refine congrArg _ ?_
  rw [Finset.sum_congr rfl fun k _ => Finset.sum_mul _ _ (E' k), Finset.sum_comm, Finset.sum_mul]
  refine Finset.sum_congr rfl fun t _ => ?_
  simp only [ite_mul, zero_mul, Finset.sum_ite_eq, Finset.mem_univ, if_true]
  ring

end Cert.Proof.Sc
-- ==== Proof.Reference.lean ====
/-
  The reference read at an index: what it takes from the table, and each result as a sum over the twenty neighbours.
-/
module

public import proofs.«01_k».proof.Proof.Gen.ReferenceIdeal
public import proofs.«01_k».proof.Proof.Gen.ReferenceIdeal.Run
public import Idealize.ShloMosaic.Lib.Pointwise
public import Idealize.ShloMosaic.Lib.IdealHost

@[expose] public section

noncomputable section

namespace Cert.Proof.Ref

open Cert.ReferenceIdeal Cert.ReferenceIdeal.Gen
open Idealize.ShloMosaic

/-- How the reference takes the rows. -/
abbrev G : GatherDims S64x4096x64 S64x20x64x1 S64x64x20x64x64 := gather_S64x4096x64_S64x20x64x1_S64x64x20x64x64_04_1_n_n_1_3_64164

/-- The place of the index that a result element is taken by. -/
abbrev takeAt (y : S64x64x20x64x64.Idx) : S64x20x64x1.Idx := ix4 (y 1) (y 2) (y 3) (0 : Fin 1)

theorem take_at (y : S64x64x20x64x64.Idx) (k : Fin G.startIndexMap.length) : G.siIdx y k = takeAt y := by
  have hk : k.val = 0 := by have h : k.val < 1 := k.isLt; omega
  refine funext fun b => Fin.ext ?_
  match b with
  | ⟨0, _⟩ => rfl
  | ⟨1, _⟩ => rfl
  | ⟨2, _⟩ => rfl
  | ⟨3, _⟩ => exact hk

/-- A row of the table, taken by an index in range. -/
theorem take_apply {α : Type} (x : S64x4096x64.Idx → α) (idx : IVec S64x20x64x1 32) (y : S64x64x20x64x64.Idx) (h : (idx (takeAt y)).toNat < 4096) :
    Host.gather G x idx y = x (ix3 (y 0) (⟨(idx (takeAt y)).toNat, h⟩ : Fin 4096) (y 4)) := by
  unfold Host.gather
  congr 1
  refine funext fun a => Fin.ext ?_
  show G.start y idx a + G.batchCoord y a + G.offCoord y a = _
  rw [GatherDims.batchCoord_eq_zero _ _ _ List.not_mem_nil]
  match a with
  | ⟨0, _⟩ =>
    have e2 : G.start y idx (0 : Fin 3) = 0 := by unfold GatherDims.start; rw [dif_neg (show (0 : Fin 3) ∉ G.startIndexMap from by decide)]
    have e1 : G.offCoord y (0 : Fin 3) = (y 0).val := by
      unfold GatherDims.offCoord; rw [dif_pos (show (0 : Fin 3) ∈ G.sKept from by decide)]; rfl
    show G.start y idx (0 : Fin 3) + 0 + G.offCoord y (0 : Fin 3) = (y 0).val
    rw [e1, e2]; omega
  | ⟨2, _⟩ =>
    have e2 : G.start y idx (2 : Fin 3) = 0 := by unfold GatherDims.start; rw [dif_neg (show (2 : Fin 3) ∉ G.startIndexMap from by decide)]
    have e1 : G.offCoord y (2 : Fin 3) = (y 4).val := by
      unfold GatherDims.offCoord; rw [dif_pos (show (2 : Fin 3) ∈ G.sKept from by decide)]; rfl
    show G.start y idx (2 : Fin 3) + 0 + G.offCoord y (2 : Fin 3) = (y 4).val
    rw [e1, e2]; omega
  | ⟨1, _⟩ =>
    have e1 : G.offCoord y (1 : Fin 3) = 0 := GatherDims.offCoord_eq_zero _ _ _ (fun h => ((GatherDims.mem_sKept _ _).mp h).1 (List.mem_singleton.mpr rfl))
    have e2 : G.start y idx (1 : Fin 3) = min (idx (takeAt y)).toInt.toNat 4095 := by
      unfold GatherDims.start
      rw [dif_pos (show (1 : Fin 3) ∈ G.startIndexMap from List.mem_singleton.mpr rfl), take_at]
      rfl
    show G.start y idx (1 : Fin 3) + 0 + G.offCoord y (1 : Fin 3) = (idx (takeAt y)).toNat
    rw [e1, e2, BitVec.toInt_eq_toNat_of_lt (by omega)]
    omega

variable (a0 : S64x64x64x64.Idx → Ideal .f32) (a1 : S64x4096x64.Idx → Ideal .f32) (a2 : S64x24x64.Idx → BitVec 32) (a3 : S64x24x64.Idx → Ideal .f32)
  (a4 : S64x8x64.Idx → Ideal .f32)

/-- What the reference computes of its arguments. -/
abbrev value : S64x64x64x64.Idx → Ideal .f32 :=
  addf (Host.reduceAdd (mulf (Host.gather G (mulf (Host.exp a1) (broadcastInDim S64x4096x64 ![0, 1, 2] bcast_S64x1x64_S64x4096x64_0_1_2 (extractStridedSlice S64x1x64 ![0, 0, 0] a4 slices_S64x8x64_S64x1x64_0_0_0))) (broadcastInDim S64x20x64x1 ![0, 1, 2] bcast_S64x20x64_S64x20x64x1_0_1_2 (extractStridedSlice S64x20x64 ![0, 0, 0] a2 slices_S64x24x64_S64x20x64_0_0_0))) (broadcastInDim S64x64x20x64x64 ![0, 1, 2, 3, 4] bcast_S1x64x20x64x1_S64x64x20x64x64_0_1_2_3_4 (broadcastInDim S1x64x20x64x1 ![1, 2, 3] bcast_S64x20x64_S1x64x20x64x1_1_2_3 (extractStridedSlice S64x20x64 ![0, 0, 0] a3 slices_S64x24x64_S64x20x64_0_0_0)))) (constant S_ .f32 0x00000000#32) reducesTo_S64x64x20x64x64_S64x64x64x64_d2 h_S_) a0

/-- A neighbour, among the padded columns. -/
abbrev nbr (t : Fin 20) : Fin 24 := t.castLE (by decide)

theorem value_apply (h : ∀ x, (a2 x).toNat < 4096) (y : S64x64x64x64.Idx) :
    (value a0 a1 a2 a3 a4 y : EReal) = (0 + ∑ t : Fin 20,
        (Ideal.exp (a1 (ix3 (y 0) (⟨(a2 (ix3 (y 1) (nbr t) (y 2))).toNat, h _⟩ : Fin 4096) (y 3))) * (a4 (ix3 (y 0) (0 : Fin 8) (y 3)) : EReal))
          * (a3 (ix3 (y 1) (nbr t) (y 2)) : EReal)) + (a0 y : EReal) := by
  unfold value
  pointwise
  congr 1
  refine Finset.sum_congr rfl fun t _ => ?_
  congr 1
  have e : ∀ z : S64x20x64x1.Idx, broadcastInDim S64x20x64x1 ![0, 1, 2] bcast_S64x20x64_S64x20x64x1_0_1_2
      (extractStridedSlice S64x20x64 ![0, 0, 0] a2 slices_S64x24x64_S64x20x64_0_0_0) z = a2 (ix3 (z 0) (nbr (z 1)) (z 2)) := fun z => by pointwise; rfl
  rw [take_apply _ _ _ (by rw [e]; exact h _)]
  pointwise
  rfl

end Cert.Proof.Ref

end
-- ==== Proof.WeightsValue.lean ====
/-
  The rows of weights read at an index: at a batch element, a column and a table row, the sum over the twenty neighbours
  of the weight where the neighbour is that row. The blocks that the region writes back are those of this one array.
-/
module

public import proofs.«01_k».proof.Proof.Weights
public import proofs.«01_k».proof.Proof.Algebra
public import proofs.«01_k».proof.Proof.Reference
public import Idealize.ShloMosaic.Lib.Pointwise
public import Idealize.ShloMosaic.Lib.Pipeline.Value
public import Idealize.ShloMosaic.Lib.Pipeline.ValueKit.Basic

@[expose] public section

noncomputable section

namespace Cert.Proof.Sc

open Cert.KernelIdeal Cert.KernelIdeal.Gen

open Idealize.ShloMosaic hiding ix2 ix3 ix4 ix5 eq_ix4 eq_ix3 eq_ix2
open Idealize.ShloMosaic.TcCoe
open Idealize.ShloMosaic.ValueIdx
open Idealize.SL Idealize.SL.Sem
open Idealize.ShloMosaic.Pipeline (Dat)

/-! ## One neighbour, and the sum -/

theorem oneHot_apply (x : S8x1x64.Idx → BitVec 32) (y : S8x1x64.Idx → Ideal .f32) (p : Fin 8) (c : Fin 64) (k : Fin 4096) :
    (oneHot (F := Ideal) x y (ix3 p c k) : EReal) = hit (x (ix3 p (0 : Fin 1) c)) (y (ix3 p (0 : Fin 1) c)) k := by
  unfold oneHot hit
  pointwise
  show Scalar.select (BitVec.ofBool (BitVec.ofNat 32 k.val == x (ix3 p (0 : Fin 1) c))) (y (ix3 p (0 : Fin 1) c)) 0 = _
  by_cases e : BitVec.ofNat 32 k.val = x (ix3 p (0 : Fin 1) c)
  · rw [if_pos e, e, beq_self_eq_true]; rfl
  · rw [if_neg e, beq_eq_false_iff_ne.mpr e]; rfl

theorem weights_apply (x : S8x24x64.Idx → BitVec 32) (y : S8x24x64.Idx → Ideal .f32) (p : Fin 8) (c : Fin 64) (k : Fin 4096) :
    ∀ (n : ℕ) (h : n ≤ 24), (weights (F := Ideal) x y n h (ix3 p c k) : EReal)
      = ∑ t : Fin n, hit (x (ix3 p (t.castLE h) c)) (y (ix3 p (t.castLE h) c)) k
  | 0, _ => by
    unfold weights
    pointwise
    exact Fin.sum_univ_zero _ |>.symm
  | n + 1, h => by
    rw [Fin.sum_univ_castSucc]
    unfold weights
    refine congrArg₂ (fun a b : EReal => a + b) (weights_apply x y p c k n (Nat.le_of_succ_le h)) ((oneHot_apply _ _ p c k).trans ?_)
    have at_row : ∀ {α : Type} (z : S8x24x64.Idx → α), z ((rowAt n h).emb (ix3 p (0 : Fin 1) c)) = z (ix3 p ((Fin.last n).castLE h) c) := fun z =>
      congrArg z (funext fun a => Fin.ext (match a with
        | ⟨0, _⟩ => by show 0 + 1 * p.val = p.val; omega
        | ⟨1, _⟩ => rfl
        | ⟨2, _⟩ => by show 0 + 1 * c.val = c.val; omega))
    exact congrArg₂ (fun a b => hit a b k) (at_row x) (at_row y)

theorem wOut_apply (x : S8x24x64.Idx → BitVec 32) (y : S8x24x64.Idx → Ideal .f32) (p : Fin 8) (c : Fin 64) (k : Fin 4096) :
    (wOut (F := Ideal) x y (ix3 p c k) : EReal) = ∑ t : Fin 20, hit (x (ix3 p (Ref.nbr t) c)) (y (ix3 p (Ref.nbr t) c)) k := by
  unfold wOut
  rw [View.canon_cons_unit_lit (h := by decide)]
  exact weights_apply x y p c k 20 (by decide)

/-! ## The blocks -/

variable (W : Valuation τ sig (Elt Ideal))

theorem place1 (t : Fin cfg1.N) (p : Fin 8) : 8 * t.val + p.val < 64 := by
  have h : t.val < 8 := t.isLt
  have := p.isLt; omega

/-- Row `p` of the block at point `t`. -/
abbrev rowOf1 (t : Fin cfg1.N) (p : Fin 8) : Fin 64 := ⟨8 * t.val + p.val, place1 t p⟩

theorem wIndex0 : ∀ t : Fin cfg1.N, (cfg1.win 0).index t 0 = t.val ∧ (cfg1.win 0).index t 1 = 0 ∧ (cfg1.win 0).index t 2 = 0 :=
  (by decide +kernel : ∀ t : Fin grid1.N, win1_0.index t 0 = t.val ∧ win1_0.index t 1 = 0 ∧ win1_0.index t 2 = 0)
theorem wIndex1 : ∀ t : Fin cfg1.N, (cfg1.win 1).index t 0 = t.val ∧ (cfg1.win 1).index t 1 = 0 ∧ (cfg1.win 1).index t 2 = 0 :=
  (by decide +kernel : ∀ t : Fin grid1.N, win1_1.index t 0 = t.val ∧ win1_1.index t 1 = 0 ∧ win1_1.index t 2 = 0)
theorem wIndex2 : ∀ t : Fin cfg1.N, (cfg1.win 2).index t 0 = t.val ∧ (cfg1.win 2).index t 1 = 0 ∧ (cfg1.win 2).index t 2 = 0 :=
  (by decide +kernel : ∀ t : Fin grid1.N, win1_2.index t 0 = t.val ∧ win1_2.index t 1 = 0 ∧ win1_2.index t 2 = 0)

theorem wEmb0 (t : Fin cfg1.N) (p : Fin 8) (q : Fin 24) (c : Fin 64) :
    ((cfg1.win 0).blk t).view.emb (ix3 p q c : S8x24x64.Idx) = (ix3 (rowOf1 t p) q c : S64x24x64.Idx) := by
  obtain ⟨h0, h1, h2⟩ := wIndex0 t
  refine funext fun a => Fin.ext ?_
  refine ((cfg1.win 0).rect_emb_val t (ix3 p q c : S8x24x64.Idx) a).trans ?_
  match a with
  | ⟨0, _⟩ => show (cfg1.win 0).index t 0 * 8 + p.val = 8 * t.val + p.val; rw [h0]; omega
  | ⟨1, _⟩ => show (cfg1.win 0).index t 1 * 24 + q.val = q.val; rw [h1]; omega
  | ⟨2, _⟩ => show (cfg1.win 0).index t 2 * 64 + c.val = c.val; rw [h2]; omega

theorem wEmb1 (t : Fin cfg1.N) (p : Fin 8) (q : Fin 24) (c : Fin 64) :
    ((cfg1.win 1).blk t).view.emb (ix3 p q c : S8x24x64.Idx) = (ix3 (rowOf1 t p) q c : S64x24x64.Idx) := by
  obtain ⟨h0, h1, h2⟩ := wIndex1 t
  refine funext fun a => Fin.ext ?_
  refine ((cfg1.win 1).rect_emb_val t (ix3 p q c : S8x24x64.Idx) a).trans ?_
  match a with
  | ⟨0, _⟩ => show (cfg1.win 1).index t 0 * 8 + p.val = 8 * t.val + p.val; rw [h0]; omega
  | ⟨1, _⟩ => show (cfg1.win 1).index t 1 * 24 + q.val = q.val; rw [h1]; omega
  | ⟨2, _⟩ => show (cfg1.win 1).index t 2 * 64 + c.val = c.val; rw [h2]; omega

theorem wEmb2 (t : Fin cfg1.N) (p : Fin 8) (c : Fin 64) (k : Fin 4096) :
    ((cfg1.win 2).blk t).view.emb (ix3 p c k : S8x64x4096.Idx) = (ix3 (rowOf1 t p) c k : S64x64x4096.Idx) := by
  obtain ⟨h0, h1, h2⟩ := wIndex2 t
  refine funext fun a => Fin.ext ?_
  refine ((cfg1.win 2).rect_emb_val t (ix3 p c k : S8x64x4096.Idx) a).trans ?_
  match a with
  | ⟨0, _⟩ => show (cfg1.win 2).index t 0 * 8 + p.val = 8 * t.val + p.val; rw [h0]; omega
  | ⟨1, _⟩ => show (cfg1.win 2).index t 1 * 64 + c.val = c.val; rw [h1]; omega
  | ⟨2, _⟩ => show (cfg1.win 2).index t 2 * 4096 + k.val = k.val; rw [h2]; omega

/-- The whole array of weights. -/
def wAll (ind : S64x24x64.Idx → BitVec 32) (v : S64x24x64.Idx → Ideal .f32) : S64x64x4096.Idx → Ideal .f32 := fun y =>
  (∑ t : Fin 20, hit (ind (ix3 (y 0) (Ref.nbr t) (y 1))) (v (ix3 (y 0) (Ref.nbr t) (y 1))) (y 2) : EReal)

theorem wFlushed (c : Dev nD) (t : Fin cfg1.N) :
    (wDat W c).flushed 2 t = ((cfg1.win 2).blk t).view.read (Elt Ideal) (wAll (W (arr main_arg2)) (W (arr main_arg3))) := by
  show (cfg1.win 2).cut (grid1.coords t) ((wDat W c).after 2 t) = _
  rw [wDat_after2]
  funext x
  obtain ⟨p, q, k, rfl⟩ : ∃ (p : Fin 8) (q : Fin 64) (k : Fin 4096), x = (ix3 p q k : S8x64x4096.Idx) := ⟨x 0, x 1, x 2, eq_ix3 x⟩
  refine (wOut_apply (wBlk W 0 t) (wBlk W 1 t) p q k).trans ?_
  refine Eq.trans ?_ (congrArg (wAll (W (arr main_arg2)) (W (arr main_arg3))) (wEmb2 t p q k)).symm
  refine Finset.sum_congr rfl fun n _ => ?_
  exact congrArg₂ (fun a b => hit a b k) (congrArg (W (arr main_arg2)) (wEmb0 t p (Ref.nbr n) q)) (congrArg (W (arr main_arg3)) (wEmb1 t p (Ref.nbr n) q))

/-- The region leaves the whole array of weights. -/
theorem wArr (c : Dev nD) : (wDat W c).arrAt 2 cfg1.N = wAll (W (arr main_arg2)) (W (arr main_arg3)) :=
  (wDat W c).arrAt_eq_of_cover 2 (wAll (W (arr main_arg2)) (W (arr main_arg3))) (fun t _ => wFlushed W c t) fun i => by
    have hi : (i 0).val < 64 := (i 0).isLt
    have ht : (i 0).val / 8 < cfg1.N := by show (i 0).val / 8 < 8; omega
    refine ⟨⟨(i 0).val / 8, ht⟩, flush1_2 _, ?_⟩
    have e := wEmb2 ⟨(i 0).val / 8, ht⟩ ⟨(i 0).val % 8, Nat.mod_lt _ (by decide)⟩ (i 1) (i 2)
    have h := ((cfg1.win 2).blk ⟨(i 0).val / 8, ht⟩).view.emb_mem_set (ix3 (⟨(i 0).val % 8, Nat.mod_lt _ (by decide)⟩ : Fin 8) (i 1) (i 2) : S8x64x4096.Idx)
    rw [e] at h
    have hr : rowOf1 ⟨(i 0).val / 8, ht⟩ ⟨(i 0).val % 8, Nat.mod_lt _ (by decide)⟩ = i 0 := Fin.ext (by show 8 * ((i 0).val / 8) + (i 0).val % 8 = (i 0).val; omega)
    rw [hr] at h
    have hi3 : (ix3 (i 0) (i 1) (i 2) : S64x64x4096.Idx) = i := (eq_ix3 i).symm
    rw [hi3] at h
    exact h

end Cert.Proof.Sc

end
-- ==== Proof.MatmulValue.lean ====
/-
  The second TensorCore region's result read at an index: the source plus the scale times the product of the rows of
  weights with the exponentials of a memory slice. The blocks that the region writes back are those of this one array.
-/
module

public import proofs.«01_k».proof.Proof.Matmul
public import proofs.«01_k».proof.Proof.Algebra
public import Idealize.ShloMosaic.Lib.Pointwise
public import Idealize.ShloMosaic.Lib.Pipeline.Value
public import Idealize.ShloMosaic.Lib.Pipeline.ValueKit.Basic

@[expose] public section

noncomputable section

namespace Cert.Proof.Sc

open Cert.KernelIdeal Cert.KernelIdeal.Gen

open Idealize.ShloMosaic hiding ix2 ix3 ix4 ix5 eq_ix4 eq_ix3 eq_ix2
open Idealize.ShloMosaic.TcCoe
open Idealize.ShloMosaic.ValueIdx
open Idealize.SL Idealize.SL.Sem
open Idealize.ShloMosaic.Pipeline (Dat)

/-- A batch element and a column, as one row of the product. -/
abbrev prodRow (p : Fin 8) (q : Fin 64) : Fin 512 := ⟨64 * p.val + q.val, by have := p.isLt; have := q.isLt; omega⟩

theorem pay_apply (m : S1x4096x64.Idx → Ideal .f32) (w : S512x4096.Idx → Ideal .f32) (r : S1x1x64.Idx → Ideal .f32) (s : S1x8x64x64.Idx → Ideal .f32)
    (p : Fin 8) (q e : Fin 64) :
    (k2_pay1 (F := Ideal) m w r s (ix4 (0 : Fin 1) p q e : S1x8x64x64.Idx) : EReal) = (s (ix4 (0 : Fin 1) p q e) : EReal)
      + (∑ k : Fin 4096, (w (ix2 (prodRow p q) k) : EReal) * Ideal.exp (m (ix3 (0 : Fin 1) k e))) * (r (ix3 (0 : Fin 1) (0 : Fin 1) e) : EReal) := by
  unfold k2_pay1
  pointwise
  refine congrArg (fun z : EReal => (s (ix4 (0 : Fin 1) p q e) : EReal) + z * (r (ix3 (0 : Fin 1) (0 : Fin 1) e) : EReal)) (Finset.sum_congr rfl fun k _ => ?_)
  refine congrArg (fun z : S512x4096.Idx => (w z : EReal) * Ideal.exp (m (ix3 (0 : Fin 1) k e))) ?_
  refine funext fun a => Fin.ext ?_
  match a with
  | ⟨0, _⟩ => show p.val * 64 + q.val = 64 * p.val + q.val; omega
  | ⟨1, _⟩ => rfl

theorem mOut_apply (w : S512x4096.Idx → Ideal .f32) (m : S1x4096x64.Idx → Ideal .f32) (r : S1x8x64.Idx → Ideal .f32) (s : S1x8x64x64.Idx → Ideal .f32)
    (p : Fin 8) (q e : Fin 64) :
    (mOut (F := Ideal) w m r s (ix4 (0 : Fin 1) p q e : S1x8x64x64.Idx) : EReal) = (s (ix4 (0 : Fin 1) p q e) : EReal)
      + (∑ k : Fin 4096, (w (ix2 (prodRow p q) k) : EReal) * Ideal.exp (m (ix3 (0 : Fin 1) k e))) * (r (ix3 (0 : Fin 1) (0 : Fin 8) e) : EReal) := by
  unfold mOut
  rw [View.canon_cons_unit_lit (h := by decide)]
  unfold allMem allWt allRes
  rw [View.ld_unit_lit (h := by decide), View.ld_unit_lit (h := by decide), View.ld_unit_lit (h := by decide)]
  refine (pay_apply m w (View.ld (Val := Elt Ideal) (e' := .f32) r topScale) s p q e).trans ?_
  have top : View.ld (Val := Elt Ideal) (e' := .f32) r topScale (ix3 (0 : Fin 1) (0 : Fin 1) e) = r (ix3 (0 : Fin 1) (0 : Fin 8) e) :=
    congrArg r (funext fun a => Fin.ext (match a with
      | ⟨0, _⟩ => rfl
      | ⟨1, _⟩ => rfl
      | ⟨2, _⟩ => by show 0 + 1 * e.val = e.val; omega))
  rw [top]

/-! ## The blocks -/

variable (W : Valuation τ sig (Elt Ideal))

theorem point2_lt (t : Fin cfg2.N) : t.val < 256 := t.isLt

/-- The memory slice that point `t` multiplies with, among the thirty-two results. -/
abbrev sliceOf (t : Fin cfg2.N) : Fin 32 := ⟨t.val % 32, Nat.mod_lt _ (by decide)⟩
/-- Its place among all the slices: the last thirty-two. -/
abbrev lateSlc (a : Fin 32) : Fin 64 := ⟨32 + a.val, by have := a.isLt; omega⟩
/-- Row `p` of the block at point `t`. -/
abbrev rowOf2 (t : Fin cfg2.N) (p : Fin 8) : Fin 64 := ⟨8 * (t.val / 32) + p.val, by have := point2_lt t; have := p.isLt; omega⟩

theorem coord2_0 (t : Fin cfg2.N) : (grid2.coords t 0).val = t.val / 32 := by
  have h := point2_lt t
  rw [Pipeline.Grid.coords_val t 0 (S := 32) (B := 8) (by decide) rfl]; omega
theorem coord2_1 (t : Fin cfg2.N) : (grid2.coords t 1).val = t.val % 32 := by
  rw [Pipeline.Grid.coords_val t 1 (S := 1) (B := 32) (by decide) rfl]; omega

theorem word_coord {n : ℕ} (h : n < 32) : (BitVec.ofNat 32 n).toNat = n := Nat.mod_eq_of_lt (lt_trans h (by decide))
theorem word_late {n : ℕ} (h : n < 32) : (Scalar.addi 32#32 (BitVec.ofNat 32 n)).toNat = 32 + n := by
  show (32#32 + BitVec.ofNat 32 n).toNat = 32 + n
  rw [BitVec.toNat_add, BitVec.toNat_ofNat, BitVec.toNat_ofNat]; omega

theorem block_row (t : Fin cfg2.N) : (BitVec.ofNat 32 (grid2.coords t 0).val).toNat = t.val / 32 := by
  have h := point2_lt t
  rw [coord2_0, word_coord (by omega)]
theorem block_slice (t : Fin cfg2.N) : (BitVec.ofNat 32 (grid2.coords t 1).val).toNat = t.val % 32 := by
  rw [coord2_1, word_coord (Nat.mod_lt _ (by decide))]
theorem block_late (t : Fin cfg2.N) : (Scalar.addi 32#32 (BitVec.ofNat 32 (grid2.coords t 1).val)).toNat = 32 + t.val % 32 := by
  rw [coord2_1, word_late (Nat.mod_lt _ (by decide))]

theorem mEmb0 (t : Fin cfg2.N) (p : Fin 8) (q : Fin 64) (k : Fin 4096) :
    ((cfg2.win 0).blk t).view.emb (ix2 (prodRow p q) k : S512x4096.Idx) = (ix2 (⟨64 * (rowOf2 t p).val + q.val, by have := (rowOf2 t p).isLt; have := q.isLt; omega⟩ : Fin 4096) k : S4096x4096.Idx) := by
  refine funext fun a => Fin.ext ?_
  refine ((cfg2.win 0).rect_emb_val t (ix2 (prodRow p q) k : S512x4096.Idx) a).trans ?_
  match a with
  | ⟨0, _⟩ =>
    show (BitVec.ofNat 32 (grid2.coords t 0).val).toNat * 512 + (64 * p.val + q.val) = 64 * (8 * (t.val / 32) + p.val) + q.val
    rw [block_row]; omega
  | ⟨1, _⟩ => show 0 * 4096 + k.val = k.val; omega

theorem mEmb1 (t : Fin cfg2.N) (k : Fin 4096) (e : Fin 64) :
    ((cfg2.win 1).blk t).view.emb (ix3 (0 : Fin 1) k e : S1x4096x64.Idx) = (ix3 (lateSlc (sliceOf t)) k e : S64x4096x64.Idx) := by
  refine funext fun a => Fin.ext ?_
  refine ((cfg2.win 1).rect_emb_val t (ix3 (0 : Fin 1) k e : S1x4096x64.Idx) a).trans ?_
  match a with
  | ⟨0, _⟩ =>
    show (Scalar.addi 32#32 (BitVec.ofNat 32 (grid2.coords t 1).val)).toNat * 1 + 0 = 32 + t.val % 32
    rw [block_late]; omega
  | ⟨1, _⟩ => show 0 * 4096 + k.val = k.val; omega
  | ⟨2, _⟩ => show 0 * 64 + e.val = e.val; omega

theorem mEmb2 (t : Fin cfg2.N) (u : Fin 8) (e : Fin 64) :
    ((cfg2.win 2).blk t).view.emb (ix3 (0 : Fin 1) u e : S1x8x64.Idx) = (ix3 (lateSlc (sliceOf t)) u e : S64x8x64.Idx) := by
  refine funext fun a => Fin.ext ?_
  refine ((cfg2.win 2).rect_emb_val t (ix3 (0 : Fin 1) u e : S1x8x64.Idx) a).trans ?_
  match a with
  | ⟨0, _⟩ =>
    show (Scalar.addi 32#32 (BitVec.ofNat 32 (grid2.coords t 1).val)).toNat * 1 + 0 = 32 + t.val % 32
    rw [block_late]; omega
  | ⟨1, _⟩ => show 0 * 8 + u.val = u.val; omega
  | ⟨2, _⟩ => show 0 * 64 + e.val = e.val; omega

theorem mEmb3 (t : Fin cfg2.N) (p : Fin 8) (q e : Fin 64) :
    ((cfg2.win 3).blk t).view.emb (ix4 (0 : Fin 1) p q e : S1x8x64x64.Idx) = (ix4 (lateSlc (sliceOf t)) (rowOf2 t p) q e : S64x64x64x64.Idx) := by
  refine funext fun a => Fin.ext ?_
  refine ((cfg2.win 3).rect_emb_val t (ix4 (0 : Fin 1) p q e : S1x8x64x64.Idx) a).trans ?_
  match a with
  | ⟨0, _⟩ =>
    show (Scalar.addi 32#32 (BitVec.ofNat 32 (grid2.coords t 1).val)).toNat * 1 + 0 = 32 + t.val % 32
    rw [block_late]; omega
  | ⟨1, _⟩ =>
    show (BitVec.ofNat 32 (grid2.coords t 0).val).toNat * 8 + p.val = 8 * (t.val / 32) + p.val
    rw [block_row]; omega
  | ⟨2, _⟩ => show 0 * 64 + q.val = q.val; omega
  | ⟨3, _⟩ => show 0 * 64 + e.val = e.val; omega

theorem mEmb4 (t : Fin cfg2.N) (p : Fin 8) (q e : Fin 64) :
    ((cfg2.win 4).blk t).view.emb (ix4 (0 : Fin 1) p q e : S1x8x64x64.Idx) = (ix4 (sliceOf t) (rowOf2 t p) q e : S32x64x64x64.Idx) := by
  refine funext fun a => Fin.ext ?_
  refine ((cfg2.win 4).rect_emb_val t (ix4 (0 : Fin 1) p q e : S1x8x64x64.Idx) a).trans ?_
  match a with
  | ⟨0, _⟩ =>
    show (BitVec.ofNat 32 (grid2.coords t 1).val).toNat * 1 + 0 = t.val % 32
    rw [block_slice]; omega
  | ⟨1, _⟩ =>
    show (BitVec.ofNat 32 (grid2.coords t 0).val).toNat * 8 + p.val = 8 * (t.val / 32) + p.val
    rw [block_row]; omega
  | ⟨2, _⟩ => show 0 * 64 + q.val = q.val; omega
  | ⟨3, _⟩ => show 0 * 64 + e.val = e.val; omega

theorem listRow_lt (i c : Fin 64) : 64 * i.val + c.val < 4096 := by have := i.isLt; have := c.isLt; omega

/-- The whole array of results. -/
def mAll (w : S4096x4096.Idx → Ideal .f32) (m : S64x4096x64.Idx → Ideal .f32) (r : S64x8x64.Idx → Ideal .f32) (s : S64x64x64x64.Idx → Ideal .f32) :
    S32x64x64x64.Idx → Ideal .f32 := fun y =>
  ((s (ix4 (lateSlc (y 0)) (y 1) (y 2) (y 3)) : EReal)
    + (∑ k : Fin 4096, (w (ix2 (⟨64 * (y 1).val + (y 2).val, listRow_lt (y 1) (y 2)⟩ : Fin 4096) k) : EReal) * Ideal.exp (m (ix3 (lateSlc (y 0)) k (y 3))))
      * (r (ix3 (lateSlc (y 0)) (0 : Fin 8) (y 3)) : EReal) : EReal)

theorem mFlushed (c : Dev nD) (t : Fin cfg2.N) :
    (mDat W c).flushed 4 t
      = ((cfg2.win 4).blk t).view.read (Elt Ideal) (mAll (W (arr main_v5)) (W (arr main_arg1)) (W (arr main_arg4)) (W (arr main_arg0))) := by
  show (cfg2.win 4).cut (grid2.coords t) ((mDat W c).after 4 t) = _
  rw [mDat_after4]
  funext x
  obtain ⟨p, q, e, rfl⟩ : ∃ (p : Fin 8) (q e : Fin 64), x = (ix4 (0 : Fin 1) p q e : S1x8x64x64.Idx) :=
    ⟨x 1, x 2, x 3, (eq_ix4 x).trans (congrArg (fun z => ix4 z (x 1) (x 2) (x 3)) (Subsingleton.elim (α := Fin 1) _ _))⟩
  refine (mOut_apply (mBlk W 0 t) (mBlk W 1 t) (mBlk W 2 t) (mBlk W 3 t) p q e).trans ?_
  refine Eq.trans ?_ (congrArg (mAll (W (arr main_v5)) (W (arr main_arg1)) (W (arr main_arg4)) (W (arr main_arg0))) (mEmb4 t p q e)).symm
  refine congrArg₂ (fun a b : EReal => a + b) (congrArg (W (arr main_arg0)) (mEmb3 t p q e))
    (congrArg₂ (fun a b : EReal => a * b) (Finset.sum_congr rfl fun k _ => ?_) (congrArg (W (arr main_arg4)) (mEmb2 t 0 e)))
  exact congrArg₂ (fun (a : EReal) (b : EReal) => a * Ideal.exp b) (congrArg (W (arr main_v5)) (mEmb0 t p q k)) (congrArg (W (arr main_arg1)) (mEmb1 t k e))

/-- The region leaves the whole array of results. -/
theorem mArr (c : Dev nD) :
    (mDat W c).arrAt 4 cfg2.N = mAll (W (arr main_v5)) (W (arr main_arg1)) (W (arr main_arg4)) (W (arr main_arg0)) :=
  (mDat W c).arrAt_eq_of_cover 4 _ (fun t _ => mFlushed W c t) fun i => by
    have h0 : (i 0).val < 32 := (i 0).isLt
    have h1 : (i 1).val < 64 := (i 1).isLt
    have ht : 32 * ((i 1).val / 8) + (i 0).val < cfg2.N := by show 32 * ((i 1).val / 8) + (i 0).val < 256; omega
    refine ⟨⟨_, ht⟩, flush2_4 _, ?_⟩
    have h := ((cfg2.win 4).blk ⟨_, ht⟩).view.emb_mem_set (ix4 (0 : Fin 1) (⟨(i 1).val % 8, Nat.mod_lt _ (by decide)⟩ : Fin 8) (i 2) (i 3) : S1x8x64x64.Idx)
    have e := mEmb4 ⟨32 * ((i 1).val / 8) + (i 0).val, ht⟩ (⟨(i 1).val % 8, Nat.mod_lt _ (by decide)⟩ : Fin 8) (i 2) (i 3)
    rw [e] at h
    have hs : sliceOf ⟨_, ht⟩ = i 0 := Fin.ext (by show (32 * ((i 1).val / 8) + (i 0).val) % 32 = (i 0).val; omega)
    have hr : rowOf2 ⟨_, ht⟩ ⟨(i 1).val % 8, Nat.mod_lt _ (by decide)⟩ = i 1 := Fin.ext (by
      show 8 * ((32 * ((i 1).val / 8) + (i 0).val) / 32) + (i 1).val % 8 = (i 1).val; omega)
    rw [hs, hr] at h
    have hi4 : (ix4 (i 0) (i 1) (i 2) (i 3) : S32x64x64x64.Idx) = i := (eq_ix4 i).symm
    rw [hi4] at h
    exact h

end Cert.Proof.Sc

end
-- ==== Proof.Value.lean ====
/-
  The kernel's result read at an index, in the half that the SparseCore call computes and in the half of the TensorCore
  regions, and its agreement with the reference's.
-/
module

public import proofs.«01_k».proof.Proof.WeightsValue
public import proofs.«01_k».proof.Proof.MatmulValue
public import proofs.«01_k».proof.Proof.Reference

@[expose] public section

noncomputable section

namespace Cert.Proof.Sc

open Cert.KernelIdeal Cert.KernelIdeal.Gen

open Idealize.ShloMosaic hiding ix2 ix3 ix4 ix5 eq_ix4 eq_ix3 eq_ix2
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore.Cfg (HIx)

variable {F : FTy → Type}
local notation "𝕄" => MT nD τ sig (HIx 1) (Elt F) ℕ UU ℕ
variable [FloatOps F]

/-! ## Through the reshapes -/

theorem lanes_lt (e : Fin 64) : e.val / 8 < 8 := by have := e.isLt; omega

theorem out_lanes (y : S32x64x64x64.Idx) : Shape.reshapeEquiv shapeCasts_S32x64x64x8x8_S32x64x64x64 y
    = (ix5 (y 0) (y 1) (y 2) (⟨(y 3).val / 8, lanes_lt (y 3)⟩ : Fin 8) (⟨(y 3).val % 8, Nat.mod_lt _ (by decide)⟩ : Fin 8) : S32x64x64x8x8.Idx) :=
  Shape.reshapeEquiv_eq_of_rowMajor _ (by
    rw [Shape.rowMajor_val_five, Shape.rowMajor_val_four]
    show (((((y 0).val * 64 + (y 1).val) * 64 + (y 2).val) * 8 + (y 3).val / 8) * 8 + (y 3).val % 8) = (((y 0).val * 64 + (y 1).val) * 64 + (y 2).val) * 64 + (y 3).val
    omega)

theorem mem_lanes (y : S64x4096x8x8.Idx) : Shape.reshapeEquiv shapeCasts_S64x4096x64_S64x4096x8x8 y = (ix3 (y 0) (y 1) (laneIx (y 2) (y 3)) : S64x4096x64.Idx) :=
  Shape.reshapeEquiv_eq_of_rowMajor _ (by
    rw [Shape.rowMajor_val_three, Shape.rowMajor_val_four]
    show (((y 0).val * 4096 + (y 1).val) * 64 + (8 * (y 2).val + (y 3).val)) = ((((y 0).val * 4096 + (y 1).val) * 8 + (y 2).val) * 8 + (y 3).val)
    omega)

theorem src_lanes (y : S64x64x64x8x8.Idx) : Shape.reshapeEquiv shapeCasts_S64x64x64x64_S64x64x64x8x8 y = (ix4 (y 0) (y 1) (y 2) (laneIx (y 3) (y 4)) : S64x64x64x64.Idx) :=
  Shape.reshapeEquiv_eq_of_rowMajor _ (by
    rw [Shape.rowMajor_val_four, Shape.rowMajor_val_five]
    show ((((y 0).val * 64 + (y 1).val) * 64 + (y 2).val) * 64 + (8 * (y 3).val + (y 4).val)) = (((((y 0).val * 64 + (y 1).val) * 64 + (y 2).val) * 8 + (y 3).val) * 8 + (y 4).val)
    omega)

section
variable (m : (ℓ : Loc nD τ sig) → Buf (Elt F) ℓ) (d : Dev nD)

theorem V2_mem (y : S64x4096x8x8.Idx) : V2 m d (arr main_v0) y = m ((SparseCore.T d).loc main_arg1) (ix3 (y 0) (y 1) (laneIx (y 2) (y 3)) : S64x4096x64.Idx) := by
  unfold V2
  rw [StableHlo.reshape_result_ne (h := (by decide : main_v0 ≠ main_v1))]
  unfold V1
  rw [StableHlo.reshape_result]
  show V0 m d (arr main_arg1) (Shape.reshapeEquiv shapeCasts_S64x4096x64_S64x4096x8x8 y) = _
  rw [mem_lanes]
  rfl

theorem V2_src (y : S64x64x64x8x8.Idx) : V2 m d (arr main_v1) y = m ((SparseCore.T d).loc main_arg0) (ix4 (y 0) (y 1) (y 2) (laneIx (y 3) (y 4)) : S64x64x64x64.Idx) := by
  unfold V2
  rw [StableHlo.reshape_result]
  show V1 m d (arr main_arg0) (Shape.reshapeEquiv shapeCasts_S64x64x64x64_S64x64x64x8x8 y) = _
  unfold V1
  rw [src_lanes, StableHlo.reshape_result_ne (h := (by decide : main_arg0 ≠ main_v0))]
  rfl

theorem V4_out (y : S32x64x64x64.Idx) : V4 m d (arr main_v3) y
    = res m d (ix5 (y 0) (y 1) (y 2) (⟨(y 3).val / 8, lanes_lt (y 3)⟩ : Fin 8) (⟨(y 3).val % 8, Nat.mod_lt _ (by decide)⟩ : Fin 8)) := by
  unfold V4
  rw [StableHlo.reshape_result]
  show V3 m d (arr main_v2) (Shape.reshapeEquiv shapeCasts_S32x64x64x8x8_S32x64x64x64 y) = _
  rw [out_lanes, show V3 m d (arr main_v2) = res m d from Function.update_self _ _ _]

end

/-! ## The first half -/

/-- A slice of the first half, among all of them. -/
abbrev earlySlc (a : Fin 32) : Fin 64 := a.castLE (by decide)

section
variable (m : (ℓ : Loc nD τ sig) → Buf (Elt Ideal) ℓ) (d : Dev nD)

/-- The arguments. -/
abbrev A0 : S64x64x64x64.Idx → Ideal .f32 := m ((SparseCore.T d).loc main_arg0)
abbrev A1 : S64x4096x64.Idx → Ideal .f32 := m ((SparseCore.T d).loc main_arg1)
abbrev A2 : S64x24x64.Idx → BitVec 32 := m ((SparseCore.T d).loc main_arg2)
abbrev A3 : S64x24x64.Idx → Ideal .f32 := m ((SparseCore.T d).loc main_arg3)
abbrev A4 : S64x8x64.Idx → Ideal .f32 := m ((SparseCore.T d).loc main_arg4)

/-- An element of a block of results, as a sum. -/
theorem block_apply (mm : S64x4096x8x8.Idx → Ideal .f32) (ind : S64x24x64.Idx → BitVec 32) (v : S64x24x64.Idx → Ideal .f32) (r : S64x8x64.Idx → Ideal .f32)
    (src : S64x64x64x8x8.Idx → Ideal .f32) (n : ℕ) (R : Fin 4) (b : Fin 8) (p : Fin 16) (c : Fin 64) (l : Fin 8) :
    (blockOf mm ind v r src n R b (ix3 p c l) : EReal) = (src (ix5 (Fin.ofNat 64 n) (rowIx R p) c b l) : EReal)
      + (r (ix3 (Fin.ofNat 64 n) (0 : Fin 8) (laneIx b l)) : EReal) * ∑ t : Fin 20, (v (ix3 (rowIx R p) (Ref.nbr t) c) : EReal)
          * Ideal.exp (mm (ix4 (Fin.ofNat 64 n) (Fin.ofNat 4096 (ind (ix3 (rowIx R p) (Ref.nbr t) c)).toNat) b l)) :=
  congrArg (fun z : EReal => (src (ix5 (Fin.ofNat 64 n) (rowIx R p) c b l) : EReal) + (r (ix3 (Fin.ofNat 64 n) (0 : Fin 8) (laneIx b l)) : EReal) * z)
    (acc_sum (chunkOf mm n b) (nbrOf ind R) (nbrOf v R) p c l)

theorem kernel_apply (h : ∀ x, (A2 m d x).toNat < 4096) (a : Fin 32) (i c e : Fin 64) :
    (V4 m d (arr main_v3) (ix4 a i c e : S32x64x64x64.Idx) : EReal) = (A0 m d (ix4 (earlySlc a) i c e) : EReal)
      + (A4 m d (ix3 (earlySlc a) (0 : Fin 8) e) : EReal) * ∑ t : Fin 20, (A3 m d (ix3 i (Ref.nbr t) c) : EReal)
          * Ideal.exp (A1 m d (ix3 (earlySlc a) (⟨(A2 m d (ix3 i (Ref.nbr t) c)).toNat, h _⟩ : Fin 4096) e)) := by
  have hlane : laneIx (⟨e.val / 8, lanes_lt e⟩ : Fin 8) (⟨e.val % 8, Nat.mod_lt _ (by decide)⟩ : Fin 8) = e :=
    Fin.ext (by show 8 * (e.val / 8) + e.val % 8 = e.val; omega)
  have hslc : (Fin.ofNat 64 a.val : Fin 64) = earlySlc a := Fin.ext (Nat.mod_eq_of_lt (lt_trans a.isLt (by decide)))
  have hrow : rowIx (⟨i.val / 16, Nat.div_lt_of_lt_mul i.isLt⟩ : Fin 4) (⟨i.val % 16, Nat.mod_lt _ (by decide)⟩ : Fin 16) = i :=
    Fin.ext (by show 16 * (i.val / 16) + i.val % 16 = i.val; omega)
  rw [V4_out]
  refine (block_apply (V2 m d (arr main_v0)) (V2 m d (arr main_arg2)) (V2 m d (arr main_arg3)) (V2 m d (arr main_arg4)) (V2 m d (arr main_v1)) a.val
    ⟨i.val / 16, Nat.div_lt_of_lt_mul i.isLt⟩ ⟨e.val / 8, lanes_lt e⟩ ⟨i.val % 16, Nat.mod_lt _ (by decide)⟩ c ⟨e.val % 8, Nat.mod_lt _ (by decide)⟩).trans ?_
  rw [hrow, hlane, hslc, V2_src, V2_of_V0 m d (b := main_arg2) (by decide) (by decide), V2_of_V0 m d (b := main_arg3) (by decide) (by decide),
    V2_of_V0 m d (b := main_arg4) (by decide) (by decide)]
  refine congrArg₂ (· + ·) ?_ (congrArg₂ (· * ·) rfl (Finset.sum_congr rfl fun t _ => congrArg₂ (· * ·) rfl (congrArg Ideal.exp ?_)))
  · exact congrArg (fun z => A0 m d (ix4 (earlySlc a) i c z)) hlane
  · rw [V2_mem, show (Fin.ofNat 4096 (BitVec.toNat (m ((SparseCore.T d).loc main_arg2) (ix3 i (Ref.nbr t) c)))) = ⟨_, h (ix3 i (Ref.nbr t) c)⟩ from
      Fin.ext (Nat.mod_eq_of_lt (h _))]
    exact congrArg (fun z => A1 m d (ix3 (earlySlc a) ⟨_, h (ix3 i (Ref.nbr t) c)⟩ z)) hlane

/-! ## The second half -/

theorem rows_flat (i c : Fin 64) (k : Fin 4096) : Shape.reshapeEquiv shapeCasts_S64x64x4096_S4096x4096 (ix2 (⟨64 * i.val + c.val, listRow_lt i c⟩ : Fin 4096) k : S4096x4096.Idx)
    = (ix3 i c k : S64x64x4096.Idx) :=
  Shape.reshapeEquiv_eq_of_rowMajor _ (by
    rw [Shape.rowMajor_val_three, Shape.rowMajor_val_two]
    show (i.val * 64 + c.val) * 4096 + k.val = (64 * i.val + c.val) * 4096 + k.val
    omega)

/-- The rows of weights that the product takes. -/
theorem V6_rows (i c : Fin 64) (k : Fin 4096) :
    (V6 m d (arr main_v5) (ix2 (⟨64 * i.val + c.val, listRow_lt i c⟩ : Fin 4096) k : S4096x4096.Idx) : EReal)
      = ∑ t : Fin 20, hit (A2 m d (ix3 i (Ref.nbr t) c)) (A3 m d (ix3 i (Ref.nbr t) c)) k := by
  unfold V6
  rw [StableHlo.reshape_result]
  show (V5 m d (arr main_v4) (Shape.reshapeEquiv shapeCasts_S64x64x4096_S4096x4096 (ix2 (⟨64 * i.val + c.val, listRow_lt i c⟩ : Fin 4096) k : S4096x4096.Idx)) : EReal) = _
  rw [rows_flat]
  have e : V5 m d (arr main_v4) = wAll (V4 m d (arr main_arg2)) (V4 m d (arr main_arg3)) :=
    (Pipeline.afterRegion_arr (wDat (V4 m d) d) (V4 m d) launch1.win.arr_inj 2).trans (wArr (V4 m d) d)
  rw [e, V4_arg m d (b := main_arg2) (by decide) (by decide) (by decide) (by decide), V4_arg m d (b := main_arg3) (by decide) (by decide) (by decide) (by decide)]
  rfl

theorem product_apply (a : Fin 32) (i c e : Fin 64) :
    (V7 m d (arr main_v6) (ix4 a i c e : S32x64x64x64.Idx) : EReal) = (A0 m d (ix4 (lateSlc a) i c e) : EReal)
      + (∑ k : Fin 4096, (∑ t : Fin 20, hit (A2 m d (ix3 i (Ref.nbr t) c)) (A3 m d (ix3 i (Ref.nbr t) c)) k) * Ideal.exp (A1 m d (ix3 (lateSlc a) k e)))
        * (A4 m d (ix3 (lateSlc a) (0 : Fin 8) e) : EReal) := by
  have e' : V7 m d (arr main_v6) = mAll (V6 m d (arr main_v5)) (V6 m d (arr main_arg1)) (V6 m d (arr main_arg4)) (V6 m d (arr main_arg0)) :=
    (Pipeline.afterRegion_arr (mDat (V6 m d) d) (V6 m d) launch2.win.arr_inj 4).trans (mArr (V6 m d) d)
  rw [e', V6_arg m d (b := main_arg0) (by decide) (by decide) (by decide) (by decide) (by decide) (by decide),
    V6_arg m d (b := main_arg1) (by decide) (by decide) (by decide) (by decide) (by decide) (by decide),
    V6_arg m d (b := main_arg4) (by decide) (by decide) (by decide) (by decide) (by decide) (by decide)]
  refine congrArg₂ (fun x y : EReal => x + y) rfl (congrArg₂ (fun x y : EReal => x * y) (Finset.sum_congr rfl fun k _ => ?_) rfl)
  exact congrArg₂ (fun x y : EReal => x * y) (V6_rows m d i c k) rfl

/-! ## The two programs' results -/

/-- The result is the two halves one after the other. -/
theorem V8_early (a : Fin 32) (i c e : Fin 64) : V8 m d (arr main_v7) (ix4 (earlySlc a) i c e : S64x64x64x64.Idx) = V4 m d (arr main_v3) (ix4 a i c e : S32x64x64x64.Idx) := by
  unfold V8
  rw [StableHlo.binary_result]
  refine (concatenate_pair_apply_left (t := S64x64x64x64) (s₁ := S32x64x64x64) (s₂ := S32x64x64x64) (0 : Fin 4) (V7 m d (arr main_v3)) (V7 m d (arr main_v6))
    concatenates_S32x64x64x64_S32x64x64x64_S64x64x64x64_d0 _ rfl (ix4 a i c e : S32x64x64x64.Idx) fun b => ?_).trans ?_
  · match b with
    | ⟨0, _⟩ => rfl
    | ⟨1, _⟩ => rfl
    | ⟨2, _⟩ => rfl
    | ⟨3, _⟩ => rfl
  · exact congrFun ((V7_keep m d (b := main_v3) (by decide)).trans ((V6_keep m d (b := main_v3) (by decide)).trans (V5_keep m d (b := main_v3) (by decide)))) _

theorem V8_late (a : Fin 32) (i c e : Fin 64) : V8 m d (arr main_v7) (ix4 (lateSlc a) i c e : S64x64x64x64.Idx) = V7 m d (arr main_v6) (ix4 a i c e : S32x64x64x64.Idx) := by
  unfold V8
  rw [StableHlo.binary_result]
  refine concatenate_pair_apply_right (t := S64x64x64x64) (s₁ := S32x64x64x64) (s₂ := S32x64x64x64) (0 : Fin 4) (V7 m d (arr main_v3)) (V7 m d (arr main_v6))
    concatenates_S32x64x64x64_S32x64x64x64_S64x64x64x64_d0 _ rfl rfl (ix4 a i c e : S32x64x64x64.Idx) (fun b hb => ?_) ?_
  · match b with
    | ⟨0, _⟩ => exact absurd rfl hb
    | ⟨1, _⟩ => rfl
    | ⟨2, _⟩ => rfl
    | ⟨3, _⟩ => rfl
  · show a.val + 32 = 32 + a.val; omega

/-- The kernel's result at an index, whichever half it is in. -/
theorem result_apply (h : ∀ x, (A2 m d x).toNat < 4096) (h1 : ∀ x, Finite (A1 m d x)) (h3 : ∀ x, Finite (A3 m d x)) (h4 : ∀ x, Finite (A4 m d x)) (a i c e : Fin 64) :
    (V8 m d (arr main_v7) (ix4 a i c e : S64x64x64x64.Idx) : EReal) = (A0 m d (ix4 a i c e) : EReal)
      + ∑ t : Fin 20, (Ideal.exp (A1 m d (ix3 a (⟨(A2 m d (ix3 i (Ref.nbr t) c)).toNat, h _⟩ : Fin 4096) e)) * (A4 m d (ix3 a (0 : Fin 8) e) : EReal))
          * (A3 m d (ix3 i (Ref.nbr t) c) : EReal) := by
  by_cases ha : a.val < 32
  · obtain ⟨b, rfl⟩ : ∃ b : Fin 32, a = earlySlc b := ⟨⟨a.val, ha⟩, rfl⟩
    rw [V8_early]
    refine (kernel_apply m d h b i c e).trans ?_
    rw [scale_sum (h4 _) (fun t => h3 _) (fun t => finite_exp (h1 _))]
  · obtain ⟨b, rfl⟩ : ∃ b : Fin 32, a = lateSlc b := ⟨⟨a.val - 32, by have := a.isLt; omega⟩, Fin.ext (by show a.val = 32 + (a.val - 32); omega)⟩
    rw [V8_late]
    refine (product_apply m d b i c e).trans ?_
    rw [hit_sum (E := fun k => Ideal.exp (A1 m d (ix3 (lateSlc b) k e))) (fun t => h _) (h4 _) (fun t => h3 _) (fun k => finite_exp (h1 _))]

/-- The kernel's result is the reference's. -/
theorem value_eq (h : ∀ x, (A2 m d x).toNat < 4096) (h1 : ∀ x, Finite (A1 m d x)) (h3 : ∀ x, Finite (A3 m d x)) (h4 : ∀ x, Finite (A4 m d x)) :
    V8 m d (arr main_v7) = Ref.value (A0 m d) (A1 m d) (A2 m d) (A3 m d) (A4 m d) := by
  funext y
  refine (congrArg (V8 m d (arr main_v7)) (eq_ix4 y)).trans ?_
  refine (result_apply m d h h1 h3 h4 (y 0) (y 1) (y 2) (y 3)).trans (Eq.trans ?_ (Ref.value_apply (A0 m d) (A1 m d) (A2 m d) (A3 m d) (A4 m d) h y).symm)
  rw [zero_add, add_comm]
  exact congrArg₂ (fun u v : EReal => u + v) rfl (congrArg (A0 m d) (eq_ix4 y).symm)

end

end Cert.Proof.Sc
-- ==== Proof.Tables.lean ====
/-
  The program as printed and the one printed for the reading on extended reals are one program: their tables of bodies
  agree, label by label.
-/
module

public import proofs.«01_k».proof.Defs
public import proofs.«01_k».proof.Proof.Gen.Kernel
public import proofs.«01_k».proof.Proof.Gen.KernelIdeal

@[expose] public section

namespace Cert.Proof

open Idealize.ShloMosaic Idealize.SL.Sem

variable {F : FTy → Type} [FloatOps F]

set_option maxHeartbeats 2000000 in
theorem bodies_eq : Cert.Kernel.defs₀ (F := F) = Cert.KernelIdeal.defs₀ := by
  funext p l a
  match p, l, a with
  | .tc, 0, _ => rfl
  | .tc, 1, (_, _) => rfl
  | .tc, 2, (_, _) => rfl
  | .scScalar _, 0, _ => rfl
  | .scScalar _, 1, (_, _) => rfl
  | .scScalar _, 2, (_, _) => rfl
  | .scVector _ _, 0, _ => rfl
  | .scVector _ _, 1, (_, _) => rfl
  | .scVector _ _, 2, (_, _) => rfl

theorem tables_eq : Cert.Kernel.defs (F := F) = Cert.KernelIdeal.defs :=
  congrArg (fun D => (Cert.KernelIdeal.sc (F := F)).defs (Pipeline.defs Cert.KernelIdeal.pcfgs D)) bodies_eq

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Gen.Pre_admissible
public import proofs.«01_k».proof.Proof.Value
public import proofs.«01_k».proof.Proof.Tables
public import Idealize.ShloMosaic.Adequacy
public import Idealize.ShloMosaic.Init

@[expose] public section

noncomputable section

namespace Cert.Proof

open Idealize.ShloMosaic Idealize.SL.Sem

/-! ## The kernel -/

/-- What every run leaves, read at one array. -/
theorem at_arr {F : FTy → Type} [FloatOps F] {m : (ℓ : Loc Cert.KernelIdeal.nD Cert.KernelIdeal.τ Cert.KernelIdeal.sig) → Buf (Elt F) ℓ}
    {r : PUnit × MemSt Cert.KernelIdeal.nD Cert.KernelIdeal.τ Cert.KernelIdeal.sig (Elt F)} (h : Sc.QC m r) (c : Dev Cert.KernelIdeal.nD)
    (b : Ref Cert.KernelIdeal.sig .tc) (hb : Sc.arr b ∈ Sc.arrs)
    (h0 : b ≠ Cert.KernelIdeal.main_v0) (h1 : b ≠ Cert.KernelIdeal.main_v1) (h2 : b ≠ Cert.KernelIdeal.main_v2) (h3 : b ≠ Cert.KernelIdeal.main_v3)
    (h4 : b ≠ Cert.KernelIdeal.main_v4) (h5 : b ≠ Cert.KernelIdeal.main_v5) (h6 : b ≠ Cert.KernelIdeal.main_v6) (h7 : b ≠ Cert.KernelIdeal.main_v7) :
    r.2.mem ((c.tc : Thread Cert.KernelIdeal.nD Cert.KernelIdeal.τ).loc b) = m ((c.tc : Thread Cert.KernelIdeal.nD Cert.KernelIdeal.τ).loc b) :=
  (h.1 c (Sc.arr b) hb).trans (Sc.V8_arg m c h0 h1 h2 h3 h4 h5 h6 h7)

/-- The arguments end as they began. -/
theorem args {F : FTy → Type} [FloatOps F] {m : (ℓ : Loc Cert.KernelIdeal.nD Cert.KernelIdeal.τ Cert.KernelIdeal.sig) → Buf (Elt F) ℓ}
    {r : PUnit × MemSt Cert.KernelIdeal.nD Cert.KernelIdeal.τ Cert.KernelIdeal.sig (Elt F)} (h : Sc.QC m r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
    ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) :=
  ⟨at_arr h c _ (by decide) (by decide) (by decide) (by decide) (by decide) (by decide) (by decide) (by decide) (by decide),
   at_arr h c _ (by decide) (by decide) (by decide) (by decide) (by decide) (by decide) (by decide) (by decide) (by decide),
   at_arr h c _ (by decide) (by decide) (by decide) (by decide) (by decide) (by decide) (by decide) (by decide) (by decide),
   at_arr h c _ (by decide) (by decide) (by decide) (by decide) (by decide) (by decide) (by decide) (by decide) (by decide),
   at_arr h c _ (by decide) (by decide) (by decide) (by decide) (by decide) (by decide) (by decide) (by decide) (by decide)⟩

/-- The kernel as printed runs and comes to rest. -/
theorem frame_kernel : Cert.quiescent_Kernel := fun m ρ hm => by
  rw [tables_eq]
  exact (θ_run Cert.KernelIdeal.defs _ _).mono (fun _ h => ⟨fun c => args h c, h.2⟩)
    (Sc.run_main (F := Bits) m ρ fun c x => Sc.range_of_pre (F := Bits) (hm c) x)

/-- So does its reading on the extended reals. -/
theorem frame_ideal : Cert.quiescent_KernelIdeal := fun m ρ hm =>
  (θ_run Cert.KernelIdeal.defs _ _).mono (fun _ h => ⟨fun c => args h c, h.2⟩)
    (Sc.run_main (F := Ideal) m ρ fun c x => Sc.range_of_pre (F := Ideal) (hm c) x)

theorem frame_ideal_admissible : Cert.quiescent_KernelIdeal_pre_admissible := fun m ρ hm =>
  (θ_run Cert.KernelIdeal.defs _ _).mono (fun _ h => ⟨fun c => args h c, h.2⟩)
    (Sc.run_main (F := Ideal) m ρ fun c x => (Sc.admissible_of_pre (hm c)).1 x)

/-! ## The reference -/

/-- The reference runs; it has no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-! ## The value -/

/-- Equal arguments give equal results. -/
theorem value_congr {a0 b0 : Cert.ReferenceIdeal.S64x64x64x64.Idx → Ideal .f32} {a1 b1 : Cert.ReferenceIdeal.S64x4096x64.Idx → Ideal .f32}
    {a2 b2 : Cert.ReferenceIdeal.S64x24x64.Idx → BitVec 32} {a3 b3 : Cert.ReferenceIdeal.S64x24x64.Idx → Ideal .f32} {a4 b4 : Cert.ReferenceIdeal.S64x8x64.Idx → Ideal .f32}
    (e0 : a0 = b0) (e1 : a1 = b1) (e2 : a2 = b2) (e3 : a3 = b3) (e4 : a4 = b4) : Ref.value a0 a1 a2 a3 a4 = Ref.value b0 b1 b2 b3 b4 := by
  subst e0 e1 e2 e3 e4; rfl

/-- The kernel's result is the reference's. -/
theorem value : Cert.algebraic_KernelIdeal_ReferenceIdeal_pre_admissible := by
  intro m ρ m' ρ' hm hagree
  refine ⟨fun c => Sc.V8 m c (Sc.arr Cert.KernelIdeal.main_v7), ?_, ?_⟩
  · exact (θ_run Cert.KernelIdeal.defs _ _).mono (fun _ h c => ⟨h.1 c (Sc.arr Cert.KernelIdeal.main_v7) (by decide), args h c⟩)
      (Sc.run_main (F := Ideal) m ρ fun c x => (Sc.admissible_of_pre (hm c)).1 x)
  · refine (θ_run Cert.ReferenceIdeal.defs _ _).mono (fun _ h c => ⟨(h c).1.trans ?_, (h c).2⟩) (Cert.ReferenceIdeal.Value.run (F := Ideal) m' ρ')
    obtain ⟨e0, e1, e2, e3, e4⟩ := hagree c
    obtain ⟨p2, p1, p3, p4⟩ := Sc.admissible_of_pre (hm c)
    refine Eq.trans ?_ (Sc.value_eq m c p2 p1 p3 p4).symm
    exact value_congr e0 e1 e2 e3 e4

theorem claim : Cert.Claim :=
  ⟨Cert.Kernel.Gen.facts, Cert.KernelIdeal.Gen.facts, Cert.ReferenceIdeal.Gen.facts, Cert.Pre_in_range.Gen.facts, Cert.Pre_admissible.Gen.facts,
    frame_kernel, frame_ideal, frame_ideal_admissible, frame_reference, fun m ρ _ => frame_reference m ρ trivial, trivial, value⟩

end Cert.Proof

end
